-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 2048, 128]⟩ ⟨3, ![64, 2048, 128]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![2, 2048, 128]⟩ ⟨3, ![64, 2048, 128]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x1024 : Shape := ⟨2, ![1024, 1024]⟩
abbrev S2x2048x128 : Shape := ⟨3, ![2, 2048, 128]⟩
abbrev S31x16x1024 : Shape := ⟨3, ![31, 16, 1024]⟩
abbrev S31 : Shape := ⟨1, ![31]⟩
abbrev S_ : Shape := ⟨0, ![]⟩
abbrev S128x1024 : Shape := ⟨2, ![128, 1024]⟩
abbrev S128x128 : Shape := ⟨2, ![128, 128]⟩
abbrev S1x2048x128 : Shape := ⟨3, ![1, 2048, 128]⟩
abbrev S2048x128 : Shape := ⟨2, ![2048, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x16x1024 : Shape := ⟨3, ![1, 16, 1024]⟩
abbrev S16x1024 : Shape := ⟨2, ![16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S2x2048x128, .f32⟩
  | .hbm, ⟨4, _⟩ => ⟨S2x2048x128, .f32⟩
  | .hbm, ⟨5, _⟩ => ⟨S512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S2x2048x128, .f32⟩
  | .local _ .vmem, ⟨4, _⟩ => ⟨S2x2048x128, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S31x16x1024, .bf16⟩
  | .local _ .vmem, ⟨9, _⟩ => ⟨S512x1024, .bf16⟩
  | _, _ => ⟨S512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v288 : BitVec 32 := Scalar.addi v2 c1_i32_222
  let c32_i32_223 : BitVec 32 := 32#32
  let v289 : BitVec 32 := Scalar.remsi v288 c32_i32_223
  let c8_i32_224 : BitVec 32 := 8#32
  let v290 : BitVec 32 := Scalar.divsi v289 c8_i32_224
  let c0_i32_225 : BitVec 32 := 0#32
  let v291 : BitVec 1 := Scalar.cmpi .eq v290 c0_i32_225
  let v292 : BitVec 32 := Scalar.extui v291
  let c0_i32_226 : BitVec 32 := 0#32
  let v293 : BitVec 1 := Scalar.cmpi .ne v292 c0_i32_226
  v293

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v288 : BitVec 32 := Scalar.addi v2 c1_i32_222
  let c32_i32_223 : BitVec 32 := 32#32
  let v289 : BitVec 32 := Scalar.remsi v288 c32_i32_223
  let c16_i32_2759 : BitVec 32 := 16#32
  let v3105 : BitVec 32 := Scalar.muli v289 c16_i32_2759
  let c0_i32_2767 : BitVec 32 := 0#32
  ![v3105.toNat, 0]
def k0_dev32 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_222 : BitVec 32 := 1#32
  let v288 : BitVec 32 := Scalar.addi v2 c1_i32_222
  let c32_i32_223 : BitVec 32 := 32#32
  let v289 : BitVec 32 := Scalar.remsi v288 c32_i32_223
  let c1_i32_2763 : BitVec 32 := 1#32
  let v3106 : BitVec 32 := Scalar.muli v289 c1_i32_2763
  let v3107 : BitVec 32 := Scalar.addi c0_i32_2764 v3106
  v3107.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_227 : BitVec 32 := 2#32
  let v294 : BitVec 32 := Scalar.addi v2 c2_i32_227
  let c32_i32_228 : BitVec 32 := 32#32
  let v295 : BitVec 32 := Scalar.remsi v294 c32_i32_228
  let c8_i32_229 : BitVec 32 := 8#32
  let v296 : BitVec 32 := Scalar.divsi v295 c8_i32_229
  let c0_i32_230 : BitVec 32 := 0#32
  let v297 : BitVec 1 := Scalar.cmpi .eq v296 c0_i32_230
  let v298 : BitVec 32 := Scalar.extui v297
  let c0_i32_231 : BitVec 32 := 0#32
  let v299 : BitVec 1 := Scalar.cmpi .ne v298 c0_i32_231
  v299

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_227 : BitVec 32 := 2#32
  let v294 : BitVec 32 := Scalar.addi v2 c2_i32_227
  let c32_i32_228 : BitVec 32 := 32#32
  let v295 : BitVec 32 := Scalar.remsi v294 c32_i32_228
  let c16_i32_2759 : BitVec 32 := 16#32
  let v3105 : BitVec 32 := Scalar.muli v295 c16_i32_2759
  let c0_i32_2767 : BitVec 32 := 0#32
  ![v3105.toNat, 0]
def k0_dev33 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_227 : BitVec 32 := 2#32
  let v294 : BitVec 32 := Scalar.addi v2 c2_i32_227
  let c32_i32_228 : BitVec 32 := 32#32
  let v295 : BitVec 32 := Scalar.remsi v294 c32_i32_228
  let c1_i32_2763 : BitVec 32 := 1#32
  let v3106 : BitVec 32 := Scalar.muli v295 c1_i32_2763
  let v3107 : BitVec 32 := Scalar.addi c0_i32_2764 v3106
  v3107.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_232 : BitVec 32 := 3#32
  let v300 : BitVec 32 := Scalar.addi v2 c3_i32_232
  let c32_i32_233 : BitVec 32 := 32#32
  let v301 : BitVec 32 := Scalar.remsi v300 c32_i32_233
  let c8_i32_234 : BitVec 32 := 8#32
  let v302 : BitVec 32 := Scalar.divsi v301 c8_i32_234
  let c0_i32_235 : BitVec 32 := 0#32
  let v303 : BitVec 1 := Scalar.cmpi .eq v302 c0_i32_235
  let v304 : BitVec 32 := Scalar.extui v303
  let c0_i32_236 : BitVec 32 := 0#32
  let v305 : BitVec 1 := Scalar.cmpi .ne v304 c0_i32_236
  v305

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_232 : BitVec 32 := 3#32
  let v300 : BitVec 32 := Scalar.addi v2 c3_i32_232
  let c32_i32_233 : BitVec 32 := 32#32
  let v301 : BitVec 32 := Scalar.remsi v300 c32_i32_233
  let c16_i32_2759 : BitVec 32 := 16#32
  let v3105 : BitVec 32 := Scalar.muli v301 c16_i32_2759
  let c0_i32_2767 : BitVec 32 := 0#32
  ![v3105.toNat, 0]
def k0_dev34 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_232 : BitVec 32 := 3#32
  let v300 : BitVec 32 := Scalar.addi v2 c3_i32_232
  let c32_i32_233 : BitVec 32 := 32#32
  let v301 : BitVec 32 := Scalar.remsi v300 c32_i32_233
  let c1_i32_2763 : BitVec 32 := 1#32
  let v3106 : BitVec 32 := Scalar.muli v301 c1_i32_2763
  let v3107 : BitVec 32 := Scalar.addi c0_i32_2764 v3106
  v3107.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_237 : BitVec 32 := 4#32
  let v306 : BitVec 32 := Scalar.addi v2 c4_i32_237
  let c32_i32_238 : BitVec 32 := 32#32
  let v307 : BitVec 32 := Scalar.remsi v306 c32_i32_238
  let c8_i32_239 : BitVec 32 := 8#32
  let v308 : BitVec 32 := Scalar.divsi v307 c8_i32_239
  let c0_i32_240 : BitVec 32 := 0#32
  let v309 : BitVec 1 := Scalar.cmpi .eq v308 c0_i32_240
  let v310 : BitVec 32 := Scalar.extui v309
  let c0_i32_241 : BitVec 32 := 0#32
  let v311 : BitVec 1 := Scalar.cmpi .ne v310 c0_i32_241
  v311

def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_237 : BitVec 32 := 4#32
  let v306 : BitVec 32 := Scalar.addi v2 c4_i32_237
  let c32_i32_238 : BitVec 32 := 32#32
  let v307 : BitVec 32 := Scalar.remsi v306 c32_i32_238
  let c16_i32_2759 : BitVec 32 := 16#32
  let v3105 : BitVec 32 := Scalar.muli v307 c16_i32_2759
  let c0_i32_2767 : BitVec 32 := 0#32
  ![v3105.toNat, 0]
def k0_dev35 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_237 : BitVec 32 := 4#32
  let v306 : BitVec 32 := Scalar.addi v2 c4_i32_237
  let c32_i32_238 : BitVec 32 := 32#32
  let v307 : BitVec 32 := Scalar.remsi v306 c32_i32_238
  let c1_i32_2763 : BitVec 32 := 1#32
  let v3106 : BitVec 32 := Scalar.muli v307 c1_i32_2763
  let v3107 : BitVec 32 := Scalar.addi c0_i32_2764 v3106
  v3107.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_242 : BitVec 32 := 5#32
  let v312 : BitVec 32 := Scalar.addi v2 c5_i32_242
  let c32_i32_243 : BitVec 32 := 32#32
  let v313 : BitVec 32 := Scalar.remsi v312 c32_i32_243
  let c8_i32_244 : BitVec 32 := 8#32
  let v314 : BitVec 32 := Scalar.divsi v313 c8_i32_244
  let c0_i32_245 : BitVec 32 := 0#32
  let v315 : BitVec 1 := Scalar.cmpi .eq v314 c0_i32_245
  let v316 : BitVec 32 := Scalar.extui v315
  let c0_i32_246 : BitVec 32 := 0#32
  let v317 : BitVec 1 := Scalar.cmpi .ne v316 c0_i32_246
  v317

def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_242 : BitVec 32 := 5#32
  let v312 : BitVec 32 := Scalar.addi v2 c5_i32_242
  let c32_i32_243 : BitVec 32 := 32#32
  let v313 : BitVec 32 := Scalar.remsi v312 c32_i32_243
  let c16_i32_2759 : BitVec 32 := 16#32
  let v3105 : BitVec 32 := Scalar.muli v313 c16_i32_2759
  let c0_i32_2767 : BitVec 32 := 0#32
  ![v3105.toNat, 0]
def k0_dev36 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_242 : BitVec 32 := 5#32
  let v312 : BitVec 32 := Scalar.addi v2 c5_i32_242
  let c32_i32_243 : BitVec 32 := 32#32
  let v313 : BitVec 32 := Scalar.remsi v312 c32_i32_243
  let c1_i32_2763 : BitVec 32 := 1#32
  let v3106 : BitVec 32 := Scalar.muli v313 c1_i32_2763
  let v3107 : BitVec 32 := Scalar.addi c0_i32_2764 v3106
  v3107.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_247 : BitVec 32 := 6#32
  let v318 : BitVec 32 := Scalar.addi v2 c6_i32_247
  let c32_i32_248 : BitVec 32 := 32#32
  let v319 : BitVec 32 := Scalar.remsi v318 c32_i32_248
  let c8_i32_249 : BitVec 32 := 8#32
  let v320 : BitVec 32 := Scalar.divsi v319 c8_i32_249
  let c0_i32_250 : BitVec 32 := 0#32
  let v321 : BitVec 1 := Scalar.cmpi .eq v320 c0_i32_250
  let v322 : BitVec 32 := Scalar.extui v321
  let c0_i32_251 : BitVec 32 := 0#32
  let v323 : BitVec 1 := Scalar.cmpi .ne v322 c0_i32_251
  v323

def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_247 : BitVec 32 := 6#32
  let v318 : BitVec 32 := Scalar.addi v2 c6_i32_247
  let c32_i32_248 : BitVec 32 := 32#32
  let v319 : BitVec 32 := Scalar.remsi v318 c32_i32_248
  let c16_i32_2759 : BitVec 32 := 16#32
  let v3105 : BitVec 32 := Scalar.muli v319 c16_i32_2759
  let c0_i32_2767 : BitVec 32 := 0#32
  ![v3105.toNat, 0]
def k0_dev37 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_247 : BitVec 32 := 6#32
  let v318 : BitVec 32 := Scalar.addi v2 c6_i32_247
  let c32_i32_248 : BitVec 32 := 32#32
  let v319 : BitVec 32 := Scalar.remsi v318 c32_i32_248
  let c1_i32_2763 : BitVec 32 := 1#32
  let v3106 : BitVec 32 := Scalar.muli v319 c1_i32_2763
  let v3107 : BitVec 32 := Scalar.addi c0_i32_2764 v3106
  v3107.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_252 : BitVec 32 := 7#32
  let v324 : BitVec 32 := Scalar.addi v2 c7_i32_252
  let c32_i32_253 : BitVec 32 := 32#32
  let v325 : BitVec 32 := Scalar.remsi v324 c32_i32_253
  let c8_i32_254 : BitVec 32 := 8#32
  let v326 : BitVec 32 := Scalar.divsi v325 c8_i32_254
  let c0_i32_255 : BitVec 32 := 0#32
  let v327 : BitVec 1 := Scalar.cmpi .eq v326 c0_i32_255
  let v328 : BitVec 32 := Scalar.extui v327
  let c0_i32_256 : BitVec 32 := 0#32
  let v329 : BitVec 1 := Scalar.cmpi .ne v328 c0_i32_256
  v329

def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_252 : BitVec 32 := 7#32
  let v324 : BitVec 32 := Scalar.addi v2 c7_i32_252
  let c32_i32_253 : BitVec 32 := 32#32
  let v325 : BitVec 32 := Scalar.remsi v324 c32_i32_253
  let c16_i32_2759 : BitVec 32 := 16#32
  let v3105 : BitVec 32 := Scalar.muli v325 c16_i32_2759
  let c0_i32_2767 : BitVec 32 := 0#32
  ![v3105.toNat, 0]
def k0_dev38 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_252 : BitVec 32 := 7#32
  let v324 : BitVec 32 := Scalar.addi v2 c7_i32_252
  let c32_i32_253 : BitVec 32 := 32#32
  let v325 : BitVec 32 := Scalar.remsi v324 c32_i32_253
  let c1_i32_2763 : BitVec 32 := 1#32
  let v3106 : BitVec 32 := Scalar.muli v325 c1_i32_2763
  let v3107 : BitVec 32 := Scalar.addi c0_i32_2764 v3106
  v3107.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_257 : BitVec 32 := 8#32
  let v330 : BitVec 32 := Scalar.addi v2 c8_i32_257
  let c32_i32_258 : BitVec 32 := 32#32
  let v331 : BitVec 32 := Scalar.remsi v330 c32_i32_258
  let c8_i32_259 : BitVec 32 := 8#32
  let v332 : BitVec 32 := Scalar.divsi v331 c8_i32_259
  let c0_i32_260 : BitVec 32 := 0#32
  let v333 : BitVec 1 := Scalar.cmpi .eq v332 c0_i32_260
  let v334 : BitVec 32 := Scalar.extui v333
  let c0_i32_261 : BitVec 32 := 0#32
  let v335 : BitVec 1 := Scalar.cmpi .ne v334 c0_i32_261
  v335

def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_257 : BitVec 32 := 8#32
  let v330 : BitVec 32 := Scalar.addi v2 c8_i32_257
  let c32_i32_258 : BitVec 32 := 32#32
  let v331 : BitVec 32 := Scalar.remsi v330 c32_i32_258
  let c16_i32_2759 : BitVec 32 := 16#32
  let v3105 : BitVec 32 := Scalar.muli v331 c16_i32_2759
  let c0_i32_2767 : BitVec 32 := 0#32
  ![v3105.toNat, 0]
def k0_dev39 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_257 : BitVec 32 := 8#32
  let v330 : BitVec 32 := Scalar.addi v2 c8_i32_257
  let c32_i32_258 : BitVec 32 := 32#32
  let v331 : BitVec 32 := Scalar.remsi v330 c32_i32_258
  let c1_i32_2763 : BitVec 32 := 1#32
  let v3106 : BitVec 32 := Scalar.muli v331 c1_i32_2763
  let v3107 : BitVec 32 := Scalar.addi c0_i32_2764 v3106
  v3107.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_262 : BitVec 32 := 9#32
  let v336 : BitVec 32 := Scalar.addi v2 c9_i32_262
  let c32_i32_263 : BitVec 32 := 32#32
  let v337 : BitVec 32 := Scalar.remsi v336 c32_i32_263
  let c8_i32_264 : BitVec 32 := 8#32
  let v338 : BitVec 32 := Scalar.divsi v337 c8_i32_264
  let c0_i32_265 : BitVec 32 := 0#32
  let v339 : BitVec 1 := Scalar.cmpi .eq v338 c0_i32_265
  let v340 : BitVec 32 := Scalar.extui v339
  let c0_i32_266 : BitVec 32 := 0#32
  let v341 : BitVec 1 := Scalar.cmpi .ne v340 c0_i32_266
  v341

def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_262 : BitVec 32 := 9#32
  let v336 : BitVec 32 := Scalar.addi v2 c9_i32_262
  let c32_i32_263 : BitVec 32 := 32#32
  let v337 : BitVec 32 := Scalar.remsi v336 c32_i32_263
  let c16_i32_2759 : BitVec 32 := 16#32
  let v3105 : BitVec 32 := Scalar.muli v337 c16_i32_2759
  let c0_i32_2767 : BitVec 32 := 0#32
  ![v3105.toNat, 0]
def k0_dev40 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_262 : BitVec 32 := 9#32
  let v336 : BitVec 32 := Scalar.addi v2 c9_i32_262
  let c32_i32_263 : BitVec 32 := 32#32
  let v337 : BitVec 32 := Scalar.remsi v336 c32_i32_263
  let c1_i32_2763 : BitVec 32 := 1#32
  let v3106 : BitVec 32 := Scalar.muli v337 c1_i32_2763
  let v3107 : BitVec 32 := Scalar.addi c0_i32_2764 v3106
  v3107.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_267 : BitVec 32 := 10#32
  let v342 : BitVec 32 := Scalar.addi v2 c10_i32_267
  let c32_i32_268 : BitVec 32 := 32#32
  let v343 : BitVec 32 := Scalar.remsi v342 c32_i32_268
  let c8_i32_269 : BitVec 32 := 8#32
  let v344 : BitVec 32 := Scalar.divsi v343 c8_i32_269
  let c0_i32_270 : BitVec 32 := 0#32
  let v345 : BitVec 1 := Scalar.cmpi .eq v344 c0_i32_270
  let v346 : BitVec 32 := Scalar.extui v345
  let c0_i32_271 : BitVec 32 := 0#32
  let v347 : BitVec 1 := Scalar.cmpi .ne v346 c0_i32_271
  v347

def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_267 : BitVec 32 := 10#32
  let v342 : BitVec 32 := Scalar.addi v2 c10_i32_267
  let c32_i32_268 : BitVec 32 := 32#32
  let v343 : BitVec 32 := Scalar.remsi v342 c32_i32_268
  let c16_i32_2759 : BitVec 32 := 16#32
  let v3105 : BitVec 32 := Scalar.muli v343 c16_i32_2759
  let c0_i32_2767 : BitVec 32 := 0#32
  ![v3105.toNat, 0]
def k0_dev41 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_267 : BitVec 32 := 10#32
  let v342 : BitVec 32 := Scalar.addi v2 c10_i32_267
  let c32_i32_268 : BitVec 32 := 32#32
  let v343 : BitVec 32 := Scalar.remsi v342 c32_i32_268
  let c1_i32_2763 : BitVec 32 := 1#32
  let v3106 : BitVec 32 := Scalar.muli v343 c1_i32_2763
  let v3107 : BitVec 32 := Scalar.addi c0_i32_2764 v3106
  v3107.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_272 : BitVec 32 := 11#32
  let v348 : BitVec 32 := Scalar.addi v2 c11_i32_272
  let c32_i32_273 : BitVec 32 := 32#32
  let v349 : BitVec 32 := Scalar.remsi v348 c32_i32_273
  let c8_i32_274 : BitVec 32 := 8#32
  let v350 : BitVec 32 := Scalar.divsi v349 c8_i32_274
  let c0_i32_275 : BitVec 32 := 0#32
  let v351 : BitVec 1 := Scalar.cmpi .eq v350 c0_i32_275
  let v352 : BitVec 32 := Scalar.extui v351
  let c0_i32_276 : BitVec 32 := 0#32
  let v353 : BitVec 1 := Scalar.cmpi .ne v352 c0_i32_276
  v353

def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_272 : BitVec 32 := 11#32
  let v348 : BitVec 32 := Scalar.addi v2 c11_i32_272
  let c32_i32_273 : BitVec 32 := 32#32
  let v349 : BitVec 32 := Scalar.remsi v348 c32_i32_273
  let c16_i32_2759 : BitVec 32 := 16#32
  let v3105 : BitVec 32 := Scalar.muli v349 c16_i32_2759
  let c0_i32_2767 : BitVec 32 := 0#32
  ![v3105.toNat, 0]
def k0_dev42 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_272 : BitVec 32 := 11#32
  let v348 : BitVec 32 := Scalar.addi v2 c11_i32_272
  let c32_i32_273 : BitVec 32 := 32#32
  let v349 : BitVec 32 := Scalar.remsi v348 c32_i32_273
  let c1_i32_2763 : BitVec 32 := 1#32
  let v3106 : BitVec 32 := Scalar.muli v349 c1_i32_2763
  let v3107 : BitVec 32 := Scalar.addi c0_i32_2764 v3106
  v3107.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_277 : BitVec 32 := 12#32
  let v354 : BitVec 32 := Scalar.addi v2 c12_i32_277
  let c32_i32_278 : BitVec 32 := 32#32
  let v355 : BitVec 32 := Scalar.remsi v354 c32_i32_278
  let c8_i32_279 : BitVec 32 := 8#32
  let v356 : BitVec 32 := Scalar.divsi v355 c8_i32_279
  let c0_i32_280 : BitVec 32 := 0#32
  let v357 : BitVec 1 := Scalar.cmpi .eq v356 c0_i32_280
  let v358 : BitVec 32 := Scalar.extui v357
  let c0_i32_281 : BitVec 32 := 0#32
  let v359 : BitVec 1 := Scalar.cmpi .ne v358 c0_i32_281
  v359

def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_277 : BitVec 32 := 12#32
  let v354 : BitVec 32 := Scalar.addi v2 c12_i32_277
  let c32_i32_278 : BitVec 32 := 32#32
  let v355 : BitVec 32 := Scalar.remsi v354 c32_i32_278
  let c16_i32_2759 : BitVec 32 := 16#32
  let v3105 : BitVec 32 := Scalar.muli v355 c16_i32_2759
  let c0_i32_2767 : BitVec 32 := 0#32
  ![v3105.toNat, 0]
def k0_dev43 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_277 : BitVec 32 := 12#32
  let v354 : BitVec 32 := Scalar.addi v2 c12_i32_277
  let c32_i32_278 : BitVec 32 := 32#32
  let v355 : BitVec 32 := Scalar.remsi v354 c32_i32_278
  let c1_i32_2763 : BitVec 32 := 1#32
  let v3106 : BitVec 32 := Scalar.muli v355 c1_i32_2763
  let v3107 : BitVec 32 := Scalar.addi c0_i32_2764 v3106
  v3107.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_282 : BitVec 32 := 13#32
  let v360 : BitVec 32 := Scalar.addi v2 c13_i32_282
  let c32_i32_283 : BitVec 32 := 32#32
  let v361 : BitVec 32 := Scalar.remsi v360 c32_i32_283
  let c8_i32_284 : BitVec 32 := 8#32
  let v362 : BitVec 32 := Scalar.divsi v361 c8_i32_284
  let c0_i32_285 : BitVec 32 := 0#32
  let v363 : BitVec 1 := Scalar.cmpi .eq v362 c0_i32_285
  let v364 : BitVec 32 := Scalar.extui v363
  let c0_i32_286 : BitVec 32 := 0#32
  let v365 : BitVec 1 := Scalar.cmpi .ne v364 c0_i32_286
  v365

def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_282 : BitVec 32 := 13#32
  let v360 : BitVec 32 := Scalar.addi v2 c13_i32_282
  let c32_i32_283 : BitVec 32 := 32#32
  let v361 : BitVec 32 := Scalar.remsi v360 c32_i32_283
  let c16_i32_2759 : BitVec 32 := 16#32
  let v3105 : BitVec 32 := Scalar.muli v361 c16_i32_2759
  let c0_i32_2767 : BitVec 32 := 0#32
  ![v3105.toNat, 0]
def k0_dev44 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_282 : BitVec 32 := 13#32
  let v360 : BitVec 32 := Scalar.addi v2 c13_i32_282
  let c32_i32_283 : BitVec 32 := 32#32
  let v361 : BitVec 32 := Scalar.remsi v360 c32_i32_283
  let c1_i32_2763 : BitVec 32 := 1#32
  let v3106 : BitVec 32 := Scalar.muli v361 c1_i32_2763
  let v3107 : BitVec 32 := Scalar.addi c0_i32_2764 v3106
  v3107.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_287 : BitVec 32 := 14#32
  let v366 : BitVec 32 := Scalar.addi v2 c14_i32_287
  let c32_i32_288 : BitVec 32 := 32#32
  let v367 : BitVec 32 := Scalar.remsi v366 c32_i32_288
  let c8_i32_289 : BitVec 32 := 8#32
  let v368 : BitVec 32 := Scalar.divsi v367 c8_i32_289
  let c0_i32_290 : BitVec 32 := 0#32
  let v369 : BitVec 1 := Scalar.cmpi .eq v368 c0_i32_290
  let v370 : BitVec 32 := Scalar.extui v369
  let c0_i32_291 : BitVec 32 := 0#32
  let v371 : BitVec 1 := Scalar.cmpi .ne v370 c0_i32_291
  v371

def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_287 : BitVec 32 := 14#32
  let v366 : BitVec 32 := Scalar.addi v2 c14_i32_287
  let c32_i32_288 : BitVec 32 := 32#32
  let v367 : BitVec 32 := Scalar.remsi v366 c32_i32_288
  let c16_i32_2759 : BitVec 32 := 16#32
  let v3105 : BitVec 32 := Scalar.muli v367 c16_i32_2759
  let c0_i32_2767 : BitVec 32 := 0#32
  ![v3105.toNat, 0]
def k0_dev45 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_287 : BitVec 32 := 14#32
  let v366 : BitVec 32 := Scalar.addi v2 c14_i32_287
  let c32_i32_288 : BitVec 32 := 32#32
  let v367 : BitVec 32 := Scalar.remsi v366 c32_i32_288
  let c1_i32_2763 : BitVec 32 := 1#32
  let v3106 : BitVec 32 := Scalar.muli v367 c1_i32_2763
  let v3107 : BitVec 32 := Scalar.addi c0_i32_2764 v3106
  v3107.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_292 : BitVec 32 := 15#32
  let v372 : BitVec 32 := Scalar.addi v2 c15_i32_292
  let c32_i32_293 : BitVec 32 := 32#32
  let v373 : BitVec 32 := Scalar.remsi v372 c32_i32_293
  let c8_i32_294 : BitVec 32 := 8#32
  let v374 : BitVec 32 := Scalar.divsi v373 c8_i32_294
  let c0_i32_295 : BitVec 32 := 0#32
  let v375 : BitVec 1 := Scalar.cmpi .eq v374 c0_i32_295
  let v376 : BitVec 32 := Scalar.extui v375
  let c0_i32_296 : BitVec 32 := 0#32
  let v377 : BitVec 1 := Scalar.cmpi .ne v376 c0_i32_296
  v377

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_292 : BitVec 32 := 15#32
  let v372 : BitVec 32 := Scalar.addi v2 c15_i32_292
  let c32_i32_293 : BitVec 32 := 32#32
  let v373 : BitVec 32 := Scalar.remsi v372 c32_i32_293
  let c16_i32_2759 : BitVec 32 := 16#32
  let v3105 : BitVec 32 := Scalar.muli v373 c16_i32_2759
  let c0_i32_2767 : BitVec 32 := 0#32
  ![v3105.toNat, 0]
def k0_dev46 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_292 : BitVec 32 := 15#32
  let v372 : BitVec 32 := Scalar.addi v2 c15_i32_292
  let c32_i32_293 : BitVec 32 := 32#32
  let v373 : BitVec 32 := Scalar.remsi v372 c32_i32_293
  let c1_i32_2763 : BitVec 32 := 1#32
  let v3106 : BitVec 32 := Scalar.muli v373 c1_i32_2763
  let v3107 : BitVec 32 := Scalar.addi c0_i32_2764 v3106
  v3107.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_297 : BitVec 32 := 16#32
  let v378 : BitVec 32 := Scalar.addi v2 c16_i32_297
  let c32_i32_298 : BitVec 32 := 32#32
  let v379 : BitVec 32 := Scalar.remsi v378 c32_i32_298
  let c8_i32_299 : BitVec 32 := 8#32
  let v380 : BitVec 32 := Scalar.divsi v379 c8_i32_299
  let c0_i32_300 : BitVec 32 := 0#32
  let v381 : BitVec 1 := Scalar.cmpi .eq v380 c0_i32_300
  let v382 : BitVec 32 := Scalar.extui v381
  let c0_i32_301 : BitVec 32 := 0#32
  let v383 : BitVec 1 := Scalar.cmpi .ne v382 c0_i32_301
  v383

def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_297 : BitVec 32 := 16#32
  let v378 : BitVec 32 := Scalar.addi v2 c16_i32_297
  let c32_i32_298 : BitVec 32 := 32#32
  let v379 : BitVec 32 := Scalar.remsi v378 c32_i32_298
  let c16_i32_2759 : BitVec 32 := 16#32
  let v3105 : BitVec 32 := Scalar.muli v379 c16_i32_2759
  let c0_i32_2767 : BitVec 32 := 0#32
  ![v3105.toNat, 0]
def k0_dev47 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_297 : BitVec 32 := 16#32
  let v378 : BitVec 32 := Scalar.addi v2 c16_i32_297
  let c32_i32_298 : BitVec 32 := 32#32
  let v379 : BitVec 32 := Scalar.remsi v378 c32_i32_298
  let c1_i32_2763 : BitVec 32 := 1#32
  let v3106 : BitVec 32 := Scalar.muli v379 c1_i32_2763
  let v3107 : BitVec 32 := Scalar.addi c0_i32_2764 v3106
  v3107.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_302 : BitVec 32 := 17#32
  let v384 : BitVec 32 := Scalar.addi v2 c17_i32_302
  let c32_i32_303 : BitVec 32 := 32#32
  let v385 : BitVec 32 := Scalar.remsi v384 c32_i32_303
  let c8_i32_304 : BitVec 32 := 8#32
  let v386 : BitVec 32 := Scalar.divsi v385 c8_i32_304
  let c0_i32_305 : BitVec 32 := 0#32
  let v387 : BitVec 1 := Scalar.cmpi .eq v386 c0_i32_305
  let v388 : BitVec 32 := Scalar.extui v387
  let c0_i32_306 : BitVec 32 := 0#32
  let v389 : BitVec 1 := Scalar.cmpi .ne v388 c0_i32_306
  v389

def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_302 : BitVec 32 := 17#32
  let v384 : BitVec 32 := Scalar.addi v2 c17_i32_302
  let c32_i32_303 : BitVec 32 := 32#32
  let v385 : BitVec 32 := Scalar.remsi v384 c32_i32_303
  let c16_i32_2759 : BitVec 32 := 16#32
  let v3105 : BitVec 32 := Scalar.muli v385 c16_i32_2759
  let c0_i32_2767 : BitVec 32 := 0#32
  ![v3105.toNat, 0]
def k0_dev48 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_302 : BitVec 32 := 17#32
  let v384 : BitVec 32 := Scalar.addi v2 c17_i32_302
  let c32_i32_303 : BitVec 32 := 32#32
  let v385 : BitVec 32 := Scalar.remsi v384 c32_i32_303
  let c1_i32_2763 : BitVec 32 := 1#32
  let v3106 : BitVec 32 := Scalar.muli v385 c1_i32_2763
  let v3107 : BitVec 32 := Scalar.addi c0_i32_2764 v3106
  v3107.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_307 : BitVec 32 := 18#32
  let v390 : BitVec 32 := Scalar.addi v2 c18_i32_307
  let c32_i32_308 : BitVec 32 := 32#32
  let v391 : BitVec 32 := Scalar.remsi v390 c32_i32_308
  let c8_i32_309 : BitVec 32 := 8#32
  let v392 : BitVec 32 := Scalar.divsi v391 c8_i32_309
  let c0_i32_310 : BitVec 32 := 0#32
  let v393 : BitVec 1 := Scalar.cmpi .eq v392 c0_i32_310
  let v394 : BitVec 32 := Scalar.extui v393
  let c0_i32_311 : BitVec 32 := 0#32
  let v395 : BitVec 1 := Scalar.cmpi .ne v394 c0_i32_311
  v395

def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_307 : BitVec 32 := 18#32
  let v390 : BitVec 32 := Scalar.addi v2 c18_i32_307
  let c32_i32_308 : BitVec 32 := 32#32
  let v391 : BitVec 32 := Scalar.remsi v390 c32_i32_308
  let c16_i32_2759 : BitVec 32 := 16#32
  let v3105 : BitVec 32 := Scalar.muli v391 c16_i32_2759
  let c0_i32_2767 : BitVec 32 := 0#32
  ![v3105.toNat, 0]
def k0_dev49 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_307 : BitVec 32 := 18#32
  let v390 : BitVec 32 := Scalar.addi v2 c18_i32_307
  let c32_i32_308 : BitVec 32 := 32#32
  let v391 : BitVec 32 := Scalar.remsi v390 c32_i32_308
  let c1_i32_2763 : BitVec 32 := 1#32
  let v3106 : BitVec 32 := Scalar.muli v391 c1_i32_2763
  let v3107 : BitVec 32 := Scalar.addi c0_i32_2764 v3106
  v3107.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_312 : BitVec 32 := 19#32
  let v396 : BitVec 32 := Scalar.addi v2 c19_i32_312
  let c32_i32_313 : BitVec 32 := 32#32
  let v397 : BitVec 32 := Scalar.remsi v396 c32_i32_313
  let c8_i32_314 : BitVec 32 := 8#32
  let v398 : BitVec 32 := Scalar.divsi v397 c8_i32_314
  let c0_i32_315 : BitVec 32 := 0#32
  let v399 : BitVec 1 := Scalar.cmpi .eq v398 c0_i32_315
  let v400 : BitVec 32 := Scalar.extui v399
  let c0_i32_316 : BitVec 32 := 0#32
  let v401 : BitVec 1 := Scalar.cmpi .ne v400 c0_i32_316
  v401

def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_312 : BitVec 32 := 19#32
  let v396 : BitVec 32 := Scalar.addi v2 c19_i32_312
  let c32_i32_313 : BitVec 32 := 32#32
  let v397 : BitVec 32 := Scalar.remsi v396 c32_i32_313
  let c16_i32_2759 : BitVec 32 := 16#32
  let v3105 : BitVec 32 := Scalar.muli v397 c16_i32_2759
  let c0_i32_2767 : BitVec 32 := 0#32
  ![v3105.toNat, 0]
def k0_dev50 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_312 : BitVec 32 := 19#32
  let v396 : BitVec 32 := Scalar.addi v2 c19_i32_312
  let c32_i32_313 : BitVec 32 := 32#32
  let v397 : BitVec 32 := Scalar.remsi v396 c32_i32_313
  let c1_i32_2763 : BitVec 32 := 1#32
  let v3106 : BitVec 32 := Scalar.muli v397 c1_i32_2763
  let v3107 : BitVec 32 := Scalar.addi c0_i32_2764 v3106
  v3107.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v402 : BitVec 32 := Scalar.addi v2 c20_i32_317
  let c32_i32_318 : BitVec 32 := 32#32
  let v403 : BitVec 32 := Scalar.remsi v402 c32_i32_318
  let c8_i32_319 : BitVec 32 := 8#32
  let v404 : BitVec 32 := Scalar.divsi v403 c8_i32_319
  let c0_i32_320 : BitVec 32 := 0#32
  let v405 : BitVec 1 := Scalar.cmpi .eq v404 c0_i32_320
  let v406 : BitVec 32 := Scalar.extui v405
  let c0_i32_321 : BitVec 32 := 0#32
  let v407 : BitVec 1 := Scalar.cmpi .ne v406 c0_i32_321
  v407

def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v402 : BitVec 32 := Scalar.addi v2 c20_i32_317
  let c32_i32_318 : BitVec 32 := 32#32
  let v403 : BitVec 32 := Scalar.remsi v402 c32_i32_318
  let c16_i32_2759 : BitVec 32 := 16#32
  let v3105 : BitVec 32 := Scalar.muli v403 c16_i32_2759
  let c0_i32_2767 : BitVec 32 := 0#32
  ![v3105.toNat, 0]
def k0_dev51 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v402 : BitVec 32 := Scalar.addi v2 c20_i32_317
  let c32_i32_318 : BitVec 32 := 32#32
  let v403 : BitVec 32 := Scalar.remsi v402 c32_i32_318
  let c1_i32_2763 : BitVec 32 := 1#32
  let v3106 : BitVec 32 := Scalar.muli v403 c1_i32_2763
  let v3107 : BitVec 32 := Scalar.addi c0_i32_2764 v3106
  v3107.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_322 : BitVec 32 := 21#32
  let v408 : BitVec 32 := Scalar.addi v2 c21_i32_322
  let c32_i32_323 : BitVec 32 := 32#32
  let v409 : BitVec 32 := Scalar.remsi v408 c32_i32_323
  let c8_i32_324 : BitVec 32 := 8#32
  let v410 : BitVec 32 := Scalar.divsi v409 c8_i32_324
  let c0_i32_325 : BitVec 32 := 0#32
  let v411 : BitVec 1 := Scalar.cmpi .eq v410 c0_i32_325
  let v412 : BitVec 32 := Scalar.extui v411
  let c0_i32_326 : BitVec 32 := 0#32
  let v413 : BitVec 1 := Scalar.cmpi .ne v412 c0_i32_326
  v413

def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_322 : BitVec 32 := 21#32
  let v408 : BitVec 32 := Scalar.addi v2 c21_i32_322
  let c32_i32_323 : BitVec 32 := 32#32
  let v409 : BitVec 32 := Scalar.remsi v408 c32_i32_323
  let c16_i32_2759 : BitVec 32 := 16#32
  let v3105 : BitVec 32 := Scalar.muli v409 c16_i32_2759
  let c0_i32_2767 : BitVec 32 := 0#32
  ![v3105.toNat, 0]
def k0_dev52 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_322 : BitVec 32 := 21#32
  let v408 : BitVec 32 := Scalar.addi v2 c21_i32_322
  let c32_i32_323 : BitVec 32 := 32#32
  let v409 : BitVec 32 := Scalar.remsi v408 c32_i32_323
  let c1_i32_2763 : BitVec 32 := 1#32
  let v3106 : BitVec 32 := Scalar.muli v409 c1_i32_2763
  let v3107 : BitVec 32 := Scalar.addi c0_i32_2764 v3106
  v3107.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_327 : BitVec 32 := 22#32
  let v414 : BitVec 32 := Scalar.addi v2 c22_i32_327
  let c32_i32_328 : BitVec 32 := 32#32
  let v415 : BitVec 32 := Scalar.remsi v414 c32_i32_328
  let c8_i32_329 : BitVec 32 := 8#32
  let v416 : BitVec 32 := Scalar.divsi v415 c8_i32_329
  let c0_i32_330 : BitVec 32 := 0#32
  let v417 : BitVec 1 := Scalar.cmpi .eq v416 c0_i32_330
  let v418 : BitVec 32 := Scalar.extui v417
  let c0_i32_331 : BitVec 32 := 0#32
  let v419 : BitVec 1 := Scalar.cmpi .ne v418 c0_i32_331
  v419

def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_327 : BitVec 32 := 22#32
  let v414 : BitVec 32 := Scalar.addi v2 c22_i32_327
  let c32_i32_328 : BitVec 32 := 32#32
  let v415 : BitVec 32 := Scalar.remsi v414 c32_i32_328
  let c16_i32_2759 : BitVec 32 := 16#32
  let v3105 : BitVec 32 := Scalar.muli v415 c16_i32_2759
  let c0_i32_2767 : BitVec 32 := 0#32
  ![v3105.toNat, 0]
def k0_dev53 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_327 : BitVec 32 := 22#32
  let v414 : BitVec 32 := Scalar.addi v2 c22_i32_327
  let c32_i32_328 : BitVec 32 := 32#32
  let v415 : BitVec 32 := Scalar.remsi v414 c32_i32_328
  let c1_i32_2763 : BitVec 32 := 1#32
  let v3106 : BitVec 32 := Scalar.muli v415 c1_i32_2763
  let v3107 : BitVec 32 := Scalar.addi c0_i32_2764 v3106
  v3107.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_332 : BitVec 32 := 23#32
  let v420 : BitVec 32 := Scalar.addi v2 c23_i32_332
  let c32_i32_333 : BitVec 32 := 32#32
  let v421 : BitVec 32 := Scalar.remsi v420 c32_i32_333
  let c8_i32_334 : BitVec 32 := 8#32
  let v422 : BitVec 32 := Scalar.divsi v421 c8_i32_334
  let c0_i32_335 : BitVec 32 := 0#32
  let v423 : BitVec 1 := Scalar.cmpi .eq v422 c0_i32_335
  let v424 : BitVec 32 := Scalar.extui v423
  let c0_i32_336 : BitVec 32 := 0#32
  let v425 : BitVec 1 := Scalar.cmpi .ne v424 c0_i32_336
  v425

def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_332 : BitVec 32 := 23#32
  let v420 : BitVec 32 := Scalar.addi v2 c23_i32_332
  let c32_i32_333 : BitVec 32 := 32#32
  let v421 : BitVec 32 := Scalar.remsi v420 c32_i32_333
  let c16_i32_2759 : BitVec 32 := 16#32
  let v3105 : BitVec 32 := Scalar.muli v421 c16_i32_2759
  let c0_i32_2767 : BitVec 32 := 0#32
  ![v3105.toNat, 0]
def k0_dev54 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_332 : BitVec 32 := 23#32
  let v420 : BitVec 32 := Scalar.addi v2 c23_i32_332
  let c32_i32_333 : BitVec 32 := 32#32
  let v421 : BitVec 32 := Scalar.remsi v420 c32_i32_333
  let c1_i32_2763 : BitVec 32 := 1#32
  let v3106 : BitVec 32 := Scalar.muli v421 c1_i32_2763
  let v3107 : BitVec 32 := Scalar.addi c0_i32_2764 v3106
  v3107.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_337 : BitVec 32 := 24#32
  let v426 : BitVec 32 := Scalar.addi v2 c24_i32_337
  let c32_i32_338 : BitVec 32 := 32#32
  let v427 : BitVec 32 := Scalar.remsi v426 c32_i32_338
  let c8_i32_339 : BitVec 32 := 8#32
  let v428 : BitVec 32 := Scalar.divsi v427 c8_i32_339
  let c0_i32_340 : BitVec 32 := 0#32
  let v429 : BitVec 1 := Scalar.cmpi .eq v428 c0_i32_340
  let v430 : BitVec 32 := Scalar.extui v429
  let c0_i32_341 : BitVec 32 := 0#32
  let v431 : BitVec 1 := Scalar.cmpi .ne v430 c0_i32_341
  v431

def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_337 : BitVec 32 := 24#32
  let v426 : BitVec 32 := Scalar.addi v2 c24_i32_337
  let c32_i32_338 : BitVec 32 := 32#32
  let v427 : BitVec 32 := Scalar.remsi v426 c32_i32_338
  let c16_i32_2759 : BitVec 32 := 16#32
  let v3105 : BitVec 32 := Scalar.muli v427 c16_i32_2759
  let c0_i32_2767 : BitVec 32 := 0#32
  ![v3105.toNat, 0]
def k0_dev55 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_337 : BitVec 32 := 24#32
  let v426 : BitVec 32 := Scalar.addi v2 c24_i32_337
  let c32_i32_338 : BitVec 32 := 32#32
  let v427 : BitVec 32 := Scalar.remsi v426 c32_i32_338
  let c1_i32_2763 : BitVec 32 := 1#32
  let v3106 : BitVec 32 := Scalar.muli v427 c1_i32_2763
  let v3107 : BitVec 32 := Scalar.addi c0_i32_2764 v3106
  v3107.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_342 : BitVec 32 := 25#32
  let v432 : BitVec 32 := Scalar.addi v2 c25_i32_342
  let c32_i32_343 : BitVec 32 := 32#32
  let v433 : BitVec 32 := Scalar.remsi v432 c32_i32_343
  let c8_i32_344 : BitVec 32 := 8#32
  let v434 : BitVec 32 := Scalar.divsi v433 c8_i32_344
  let c0_i32_345 : BitVec 32 := 0#32
  let v435 : BitVec 1 := Scalar.cmpi .eq v434 c0_i32_345
  let v436 : BitVec 32 := Scalar.extui v435
  let c0_i32_346 : BitVec 32 := 0#32
  let v437 : BitVec 1 := Scalar.cmpi .ne v436 c0_i32_346
  v437

def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_342 : BitVec 32 := 25#32
  let v432 : BitVec 32 := Scalar.addi v2 c25_i32_342
  let c32_i32_343 : BitVec 32 := 32#32
  let v433 : BitVec 32 := Scalar.remsi v432 c32_i32_343
  let c16_i32_2759 : BitVec 32 := 16#32
  let v3105 : BitVec 32 := Scalar.muli v433 c16_i32_2759
  let c0_i32_2767 : BitVec 32 := 0#32
  ![v3105.toNat, 0]
def k0_dev56 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_342 : BitVec 32 := 25#32
  let v432 : BitVec 32 := Scalar.addi v2 c25_i32_342
  let c32_i32_343 : BitVec 32 := 32#32
  let v433 : BitVec 32 := Scalar.remsi v432 c32_i32_343
  let c1_i32_2763 : BitVec 32 := 1#32
  let v3106 : BitVec 32 := Scalar.muli v433 c1_i32_2763
  let v3107 : BitVec 32 := Scalar.addi c0_i32_2764 v3106
  v3107.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_347 : BitVec 32 := 26#32
  let v438 : BitVec 32 := Scalar.addi v2 c26_i32_347
  let c32_i32_348 : BitVec 32 := 32#32
  let v439 : BitVec 32 := Scalar.remsi v438 c32_i32_348
  let c8_i32_349 : BitVec 32 := 8#32
  let v440 : BitVec 32 := Scalar.divsi v439 c8_i32_349
  let c0_i32_350 : BitVec 32 := 0#32
  let v441 : BitVec 1 := Scalar.cmpi .eq v440 c0_i32_350
  let v442 : BitVec 32 := Scalar.extui v441
  let c0_i32_351 : BitVec 32 := 0#32
  let v443 : BitVec 1 := Scalar.cmpi .ne v442 c0_i32_351
  v443

def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_347 : BitVec 32 := 26#32
  let v438 : BitVec 32 := Scalar.addi v2 c26_i32_347
  let c32_i32_348 : BitVec 32 := 32#32
  let v439 : BitVec 32 := Scalar.remsi v438 c32_i32_348
  let c16_i32_2759 : BitVec 32 := 16#32
  let v3105 : BitVec 32 := Scalar.muli v439 c16_i32_2759
  let c0_i32_2767 : BitVec 32 := 0#32
  ![v3105.toNat, 0]
def k0_dev57 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_347 : BitVec 32 := 26#32
  let v438 : BitVec 32 := Scalar.addi v2 c26_i32_347
  let c32_i32_348 : BitVec 32 := 32#32
  let v439 : BitVec 32 := Scalar.remsi v438 c32_i32_348
  let c1_i32_2763 : BitVec 32 := 1#32
  let v3106 : BitVec 32 := Scalar.muli v439 c1_i32_2763
  let v3107 : BitVec 32 := Scalar.addi c0_i32_2764 v3106
  v3107.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_352 : BitVec 32 := 27#32
  let v444 : BitVec 32 := Scalar.addi v2 c27_i32_352
  let c32_i32_353 : BitVec 32 := 32#32
  let v445 : BitVec 32 := Scalar.remsi v444 c32_i32_353
  let c8_i32_354 : BitVec 32 := 8#32
  let v446 : BitVec 32 := Scalar.divsi v445 c8_i32_354
  let c0_i32_355 : BitVec 32 := 0#32
  let v447 : BitVec 1 := Scalar.cmpi .eq v446 c0_i32_355
  let v448 : BitVec 32 := Scalar.extui v447
  let c0_i32_356 : BitVec 32 := 0#32
  let v449 : BitVec 1 := Scalar.cmpi .ne v448 c0_i32_356
  v449

def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_352 : BitVec 32 := 27#32
  let v444 : BitVec 32 := Scalar.addi v2 c27_i32_352
  let c32_i32_353 : BitVec 32 := 32#32
  let v445 : BitVec 32 := Scalar.remsi v444 c32_i32_353
  let c16_i32_2759 : BitVec 32 := 16#32
  let v3105 : BitVec 32 := Scalar.muli v445 c16_i32_2759
  let c0_i32_2767 : BitVec 32 := 0#32
  ![v3105.toNat, 0]
def k0_dev58 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_352 : BitVec 32 := 27#32
  let v444 : BitVec 32 := Scalar.addi v2 c27_i32_352
  let c32_i32_353 : BitVec 32 := 32#32
  let v445 : BitVec 32 := Scalar.remsi v444 c32_i32_353
  let c1_i32_2763 : BitVec 32 := 1#32
  let v3106 : BitVec 32 := Scalar.muli v445 c1_i32_2763
  let v3107 : BitVec 32 := Scalar.addi c0_i32_2764 v3106
  v3107.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_357 : BitVec 32 := 28#32
  let v450 : BitVec 32 := Scalar.addi v2 c28_i32_357
  let c32_i32_358 : BitVec 32 := 32#32
  let v451 : BitVec 32 := Scalar.remsi v450 c32_i32_358
  let c8_i32_359 : BitVec 32 := 8#32
  let v452 : BitVec 32 := Scalar.divsi v451 c8_i32_359
  let c0_i32_360 : BitVec 32 := 0#32
  let v453 : BitVec 1 := Scalar.cmpi .eq v452 c0_i32_360
  let v454 : BitVec 32 := Scalar.extui v453
  let c0_i32_361 : BitVec 32 := 0#32
  let v455 : BitVec 1 := Scalar.cmpi .ne v454 c0_i32_361
  v455

def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_357 : BitVec 32 := 28#32
  let v450 : BitVec 32 := Scalar.addi v2 c28_i32_357
  let c32_i32_358 : BitVec 32 := 32#32
  let v451 : BitVec 32 := Scalar.remsi v450 c32_i32_358
  let c16_i32_2759 : BitVec 32 := 16#32
  let v3105 : BitVec 32 := Scalar.muli v451 c16_i32_2759
  let c0_i32_2767 : BitVec 32 := 0#32
  ![v3105.toNat, 0]
def k0_dev59 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_357 : BitVec 32 := 28#32
  let v450 : BitVec 32 := Scalar.addi v2 c28_i32_357
  let c32_i32_358 : BitVec 32 := 32#32
  let v451 : BitVec 32 := Scalar.remsi v450 c32_i32_358
  let c1_i32_2763 : BitVec 32 := 1#32
  let v3106 : BitVec 32 := Scalar.muli v451 c1_i32_2763
  let v3107 : BitVec 32 := Scalar.addi c0_i32_2764 v3106
  v3107.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_362 : BitVec 32 := 29#32
  let v456 : BitVec 32 := Scalar.addi v2 c29_i32_362
  let c32_i32_363 : BitVec 32 := 32#32
  let v457 : BitVec 32 := Scalar.remsi v456 c32_i32_363
  let c8_i32_364 : BitVec 32 := 8#32
  let v458 : BitVec 32 := Scalar.divsi v457 c8_i32_364
  let c0_i32_365 : BitVec 32 := 0#32
  let v459 : BitVec 1 := Scalar.cmpi .eq v458 c0_i32_365
  let v460 : BitVec 32 := Scalar.extui v459
  let c0_i32_366 : BitVec 32 := 0#32
  let v461 : BitVec 1 := Scalar.cmpi .ne v460 c0_i32_366
  v461

def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_362 : BitVec 32 := 29#32
  let v456 : BitVec 32 := Scalar.addi v2 c29_i32_362
  let c32_i32_363 : BitVec 32 := 32#32
  let v457 : BitVec 32 := Scalar.remsi v456 c32_i32_363
  let c16_i32_2759 : BitVec 32 := 16#32
  let v3105 : BitVec 32 := Scalar.muli v457 c16_i32_2759
  let c0_i32_2767 : BitVec 32 := 0#32
  ![v3105.toNat, 0]
def k0_dev60 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_362 : BitVec 32 := 29#32
  let v456 : BitVec 32 := Scalar.addi v2 c29_i32_362
  let c32_i32_363 : BitVec 32 := 32#32
  let v457 : BitVec 32 := Scalar.remsi v456 c32_i32_363
  let c1_i32_2763 : BitVec 32 := 1#32
  let v3106 : BitVec 32 := Scalar.muli v457 c1_i32_2763
  let v3107 : BitVec 32 := Scalar.addi c0_i32_2764 v3106
  v3107.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_367 : BitVec 32 := 30#32
  let v462 : BitVec 32 := Scalar.addi v2 c30_i32_367
  let c32_i32_368 : BitVec 32 := 32#32
  let v463 : BitVec 32 := Scalar.remsi v462 c32_i32_368
  let c8_i32_369 : BitVec 32 := 8#32
  let v464 : BitVec 32 := Scalar.divsi v463 c8_i32_369
  let c0_i32_370 : BitVec 32 := 0#32
  let v465 : BitVec 1 := Scalar.cmpi .eq v464 c0_i32_370
  let v466 : BitVec 32 := Scalar.extui v465
  let c0_i32_371 : BitVec 32 := 0#32
  let v467 : BitVec 1 := Scalar.cmpi .ne v466 c0_i32_371
  v467

def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_367 : BitVec 32 := 30#32
  let v462 : BitVec 32 := Scalar.addi v2 c30_i32_367
  let c32_i32_368 : BitVec 32 := 32#32
  let v463 : BitVec 32 := Scalar.remsi v462 c32_i32_368
  let c16_i32_2759 : BitVec 32 := 16#32
  let v3105 : BitVec 32 := Scalar.muli v463 c16_i32_2759
  let c0_i32_2767 : BitVec 32 := 0#32
  ![v3105.toNat, 0]
def k0_dev61 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_367 : BitVec 32 := 30#32
  let v462 : BitVec 32 := Scalar.addi v2 c30_i32_367
  let c32_i32_368 : BitVec 32 := 32#32
  let v463 : BitVec 32 := Scalar.remsi v462 c32_i32_368
  let c1_i32_2763 : BitVec 32 := 1#32
  let v3106 : BitVec 32 := Scalar.muli v463 c1_i32_2763
  let v3107 : BitVec 32 := Scalar.addi c0_i32_2764 v3106
  v3107.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_372 : BitVec 32 := 31#32
  let v468 : BitVec 32 := Scalar.addi v2 c31_i32_372
  let c32_i32_373 : BitVec 32 := 32#32
  let v469 : BitVec 32 := Scalar.remsi v468 c32_i32_373
  let c8_i32_374 : BitVec 32 := 8#32
  let v470 : BitVec 32 := Scalar.divsi v469 c8_i32_374
  let c0_i32_375 : BitVec 32 := 0#32
  let v471 : BitVec 1 := Scalar.cmpi .eq v470 c0_i32_375
  let v472 : BitVec 32 := Scalar.extui v471
  let c0_i32_376 : BitVec 32 := 0#32
  let v473 : BitVec 1 := Scalar.cmpi .ne v472 c0_i32_376
  v473

def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_372 : BitVec 32 := 31#32
  let v468 : BitVec 32 := Scalar.addi v2 c31_i32_372
  let c32_i32_373 : BitVec 32 := 32#32
  let v469 : BitVec 32 := Scalar.remsi v468 c32_i32_373
  let c16_i32_2759 : BitVec 32 := 16#32
  let v3105 : BitVec 32 := Scalar.muli v469 c16_i32_2759
  let c0_i32_2767 : BitVec 32 := 0#32
  ![v3105.toNat, 0]
def k0_dev62 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_372 : BitVec 32 := 31#32
  let v468 : BitVec 32 := Scalar.addi v2 c31_i32_372
  let c32_i32_373 : BitVec 32 := 32#32
  let v469 : BitVec 32 := Scalar.remsi v468 c32_i32_373
  let c1_i32_2763 : BitVec 32 := 1#32
  let v3106 : BitVec 32 := Scalar.muli v469 c1_i32_2763
  let v3107 : BitVec 32 := Scalar.addi c0_i32_2764 v3106
  v3107.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_476 : BitVec 32 := 1#32
  let v634 : BitVec 32 := Scalar.addi v2 c1_i32_476
  let c32_i32_477 : BitVec 32 := 32#32
  let v635 : BitVec 32 := Scalar.remsi v634 c32_i32_477
  let c8_i32_478 : BitVec 32 := 8#32
  let v636 : BitVec 32 := Scalar.divsi v635 c8_i32_478
  let c1_i32_479 : BitVec 32 := 1#32
  let v637 : BitVec 1 := Scalar.cmpi .eq v636 c1_i32_479
  let v638 : BitVec 32 := Scalar.extui v637
  let c0_i32_480 : BitVec 32 := 0#32
  let v639 : BitVec 1 := Scalar.cmpi .ne v638 c0_i32_480
  v639

def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_476 : BitVec 32 := 1#32
  let v634 : BitVec 32 := Scalar.addi v2 c1_i32_476
  let c32_i32_477 : BitVec 32 := 32#32
  let v635 : BitVec 32 := Scalar.remsi v634 c32_i32_477
  let c16_i32_2759 : BitVec 32 := 16#32
  let v3105 : BitVec 32 := Scalar.muli v635 c16_i32_2759
  let c0_i32_2767 : BitVec 32 := 0#32
  ![v3105.toNat, 0]
def k0_dev63 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_476 : BitVec 32 := 1#32
  let v634 : BitVec 32 := Scalar.addi v2 c1_i32_476
  let c32_i32_477 : BitVec 32 := 32#32
  let v635 : BitVec 32 := Scalar.remsi v634 c32_i32_477
  let c1_i32_2763 : BitVec 32 := 1#32
  let v3106 : BitVec 32 := Scalar.muli v635 c1_i32_2763
  let v3107 : BitVec 32 := Scalar.addi c0_i32_2764 v3106
  v3107.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_481 : BitVec 32 := 2#32
  let v640 : BitVec 32 := Scalar.addi v2 c2_i32_481
  let c32_i32_482 : BitVec 32 := 32#32
  let v641 : BitVec 32 := Scalar.remsi v640 c32_i32_482
  let c8_i32_483 : BitVec 32 := 8#32
  let v642 : BitVec 32 := Scalar.divsi v641 c8_i32_483
  let c1_i32_484 : BitVec 32 := 1#32
  let v643 : BitVec 1 := Scalar.cmpi .eq v642 c1_i32_484
  let v644 : BitVec 32 := Scalar.extui v643
  let c0_i32_485 : BitVec 32 := 0#32
  let v645 : BitVec 1 := Scalar.cmpi .ne v644 c0_i32_485
  v645

def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_481 : BitVec 32 := 2#32
  let v640 : BitVec 32 := Scalar.addi v2 c2_i32_481
  let c32_i32_482 : BitVec 32 := 32#32
  let v641 : BitVec 32 := Scalar.remsi v640 c32_i32_482
  let c16_i32_2759 : BitVec 32 := 16#32
  let v3105 : BitVec 32 := Scalar.muli v641 c16_i32_2759
  let c0_i32_2767 : BitVec 32 := 0#32
  ![v3105.toNat, 0]
def k0_dev64 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_481 : BitVec 32 := 2#32
  let v640 : BitVec 32 := Scalar.addi v2 c2_i32_481
  let c32_i32_482 : BitVec 32 := 32#32
  let v641 : BitVec 32 := Scalar.remsi v640 c32_i32_482
  let c1_i32_2763 : BitVec 32 := 1#32
  let v3106 : BitVec 32 := Scalar.muli v641 c1_i32_2763
  let v3107 : BitVec 32 := Scalar.addi c0_i32_2764 v3106
  v3107.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_486 : BitVec 32 := 3#32
  let v646 : BitVec 32 := Scalar.addi v2 c3_i32_486
  let c32_i32_487 : BitVec 32 := 32#32
  let v647 : BitVec 32 := Scalar.remsi v646 c32_i32_487
  let c8_i32_488 : BitVec 32 := 8#32
  let v648 : BitVec 32 := Scalar.divsi v647 c8_i32_488
  let c1_i32_489 : BitVec 32 := 1#32
  let v649 : BitVec 1 := Scalar.cmpi .eq v648 c1_i32_489
  let v650 : BitVec 32 := Scalar.extui v649
  let c0_i32_490 : BitVec 32 := 0#32
  let v651 : BitVec 1 := Scalar.cmpi .ne v650 c0_i32_490
  v651

def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_486 : BitVec 32 := 3#32
  let v646 : BitVec 32 := Scalar.addi v2 c3_i32_486
  let c32_i32_487 : BitVec 32 := 32#32
  let v647 : BitVec 32 := Scalar.remsi v646 c32_i32_487
  let c16_i32_2759 : BitVec 32 := 16#32
  let v3105 : BitVec 32 := Scalar.muli v647 c16_i32_2759
  let c0_i32_2767 : BitVec 32 := 0#32
  ![v3105.toNat, 0]
def k0_dev65 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_486 : BitVec 32 := 3#32
  let v646 : BitVec 32 := Scalar.addi v2 c3_i32_486
  let c32_i32_487 : BitVec 32 := 32#32
  let v647 : BitVec 32 := Scalar.remsi v646 c32_i32_487
  let c1_i32_2763 : BitVec 32 := 1#32
  let v3106 : BitVec 32 := Scalar.muli v647 c1_i32_2763
  let v3107 : BitVec 32 := Scalar.addi c0_i32_2764 v3106
  v3107.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_491 : BitVec 32 := 4#32
  let v652 : BitVec 32 := Scalar.addi v2 c4_i32_491
  let c32_i32_492 : BitVec 32 := 32#32
  let v653 : BitVec 32 := Scalar.remsi v652 c32_i32_492
  let c8_i32_493 : BitVec 32 := 8#32
  let v654 : BitVec 32 := Scalar.divsi v653 c8_i32_493
  let c1_i32_494 : BitVec 32 := 1#32
  let v655 : BitVec 1 := Scalar.cmpi .eq v654 c1_i32_494
  let v656 : BitVec 32 := Scalar.extui v655
  let c0_i32_495 : BitVec 32 := 0#32
  let v657 : BitVec 1 := Scalar.cmpi .ne v656 c0_i32_495
  v657

def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_491 : BitVec 32 := 4#32
  let v652 : BitVec 32 := Scalar.addi v2 c4_i32_491
  let c32_i32_492 : BitVec 32 := 32#32
  let v653 : BitVec 32 := Scalar.remsi v652 c32_i32_492
  let c16_i32_2759 : BitVec 32 := 16#32
  let v3105 : BitVec 32 := Scalar.muli v653 c16_i32_2759
  let c0_i32_2767 : BitVec 32 := 0#32
  ![v3105.toNat, 0]
def k0_dev66 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_491 : BitVec 32 := 4#32
  let v652 : BitVec 32 := Scalar.addi v2 c4_i32_491
  let c32_i32_492 : BitVec 32 := 32#32
  let v653 : BitVec 32 := Scalar.remsi v652 c32_i32_492
  let c1_i32_2763 : BitVec 32 := 1#32
  let v3106 : BitVec 32 := Scalar.muli v653 c1_i32_2763
  let v3107 : BitVec 32 := Scalar.addi c0_i32_2764 v3106
  v3107.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_496 : BitVec 32 := 5#32
  let v658 : BitVec 32 := Scalar.addi v2 c5_i32_496
  let c32_i32_497 : BitVec 32 := 32#32
  let v659 : BitVec 32 := Scalar.remsi v658 c32_i32_497
  let c8_i32_498 : BitVec 32 := 8#32
  let v660 : BitVec 32 := Scalar.divsi v659 c8_i32_498
  let c1_i32_499 : BitVec 32 := 1#32
  let v661 : BitVec 1 := Scalar.cmpi .eq v660 c1_i32_499
  let v662 : BitVec 32 := Scalar.extui v661
  let c0_i32_500 : BitVec 32 := 0#32
  let v663 : BitVec 1 := Scalar.cmpi .ne v662 c0_i32_500
  v663

def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_496 : BitVec 32 := 5#32
  let v658 : BitVec 32 := Scalar.addi v2 c5_i32_496
  let c32_i32_497 : BitVec 32 := 32#32
  let v659 : BitVec 32 := Scalar.remsi v658 c32_i32_497
  let c16_i32_2759 : BitVec 32 := 16#32
  let v3105 : BitVec 32 := Scalar.muli v659 c16_i32_2759
  let c0_i32_2767 : BitVec 32 := 0#32
  ![v3105.toNat, 0]
def k0_dev67 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_496 : BitVec 32 := 5#32
  let v658 : BitVec 32 := Scalar.addi v2 c5_i32_496
  let c32_i32_497 : BitVec 32 := 32#32
  let v659 : BitVec 32 := Scalar.remsi v658 c32_i32_497
  let c1_i32_2763 : BitVec 32 := 1#32
  let v3106 : BitVec 32 := Scalar.muli v659 c1_i32_2763
  let v3107 : BitVec 32 := Scalar.addi c0_i32_2764 v3106
  v3107.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_501 : BitVec 32 := 6#32
  let v664 : BitVec 32 := Scalar.addi v2 c6_i32_501
  let c32_i32_502 : BitVec 32 := 32#32
  let v665 : BitVec 32 := Scalar.remsi v664 c32_i32_502
  let c8_i32_503 : BitVec 32 := 8#32
  let v666 : BitVec 32 := Scalar.divsi v665 c8_i32_503
  let c1_i32_504 : BitVec 32 := 1#32
  let v667 : BitVec 1 := Scalar.cmpi .eq v666 c1_i32_504
  let v668 : BitVec 32 := Scalar.extui v667
  let c0_i32_505 : BitVec 32 := 0#32
  let v669 : BitVec 1 := Scalar.cmpi .ne v668 c0_i32_505
  v669

def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_501 : BitVec 32 := 6#32
  let v664 : BitVec 32 := Scalar.addi v2 c6_i32_501
  let c32_i32_502 : BitVec 32 := 32#32
  let v665 : BitVec 32 := Scalar.remsi v664 c32_i32_502
  let c16_i32_2759 : BitVec 32 := 16#32
  let v3105 : BitVec 32 := Scalar.muli v665 c16_i32_2759
  let c0_i32_2767 : BitVec 32 := 0#32
  ![v3105.toNat, 0]
def k0_dev68 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_501 : BitVec 32 := 6#32
  let v664 : BitVec 32 := Scalar.addi v2 c6_i32_501
  let c32_i32_502 : BitVec 32 := 32#32
  let v665 : BitVec 32 := Scalar.remsi v664 c32_i32_502
  let c1_i32_2763 : BitVec 32 := 1#32
  let v3106 : BitVec 32 := Scalar.muli v665 c1_i32_2763
  let v3107 : BitVec 32 := Scalar.addi c0_i32_2764 v3106
  v3107.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_506 : BitVec 32 := 7#32
  let v670 : BitVec 32 := Scalar.addi v2 c7_i32_506
  let c32_i32_507 : BitVec 32 := 32#32
  let v671 : BitVec 32 := Scalar.remsi v670 c32_i32_507
  let c8_i32_508 : BitVec 32 := 8#32
  let v672 : BitVec 32 := Scalar.divsi v671 c8_i32_508
  let c1_i32_509 : BitVec 32 := 1#32
  let v673 : BitVec 1 := Scalar.cmpi .eq v672 c1_i32_509
  let v674 : BitVec 32 := Scalar.extui v673
  let c0_i32_510 : BitVec 32 := 0#32
  let v675 : BitVec 1 := Scalar.cmpi .ne v674 c0_i32_510
  v675

def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_506 : BitVec 32 := 7#32
  let v670 : BitVec 32 := Scalar.addi v2 c7_i32_506
  let c32_i32_507 : BitVec 32 := 32#32
  let v671 : BitVec 32 := Scalar.remsi v670 c32_i32_507
  let c16_i32_2759 : BitVec 32 := 16#32
  let v3105 : BitVec 32 := Scalar.muli v671 c16_i32_2759
  let c0_i32_2767 : BitVec 32 := 0#32
  ![v3105.toNat, 0]
def k0_dev69 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_506 : BitVec 32 := 7#32
  let v670 : BitVec 32 := Scalar.addi v2 c7_i32_506
  let c32_i32_507 : BitVec 32 := 32#32
  let v671 : BitVec 32 := Scalar.remsi v670 c32_i32_507
  let c1_i32_2763 : BitVec 32 := 1#32
  let v3106 : BitVec 32 := Scalar.muli v671 c1_i32_2763
  let v3107 : BitVec 32 := Scalar.addi c0_i32_2764 v3106
  v3107.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_511 : BitVec 32 := 8#32
  let v676 : BitVec 32 := Scalar.addi v2 c8_i32_511
  let c32_i32_512 : BitVec 32 := 32#32
  let v677 : BitVec 32 := Scalar.remsi v676 c32_i32_512
  let c8_i32_513 : BitVec 32 := 8#32
  let v678 : BitVec 32 := Scalar.divsi v677 c8_i32_513
  let c1_i32_514 : BitVec 32 := 1#32
  let v679 : BitVec 1 := Scalar.cmpi .eq v678 c1_i32_514
  let v680 : BitVec 32 := Scalar.extui v679
  let c0_i32_515 : BitVec 32 := 0#32
  let v681 : BitVec 1 := Scalar.cmpi .ne v680 c0_i32_515
  v681

def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_511 : BitVec 32 := 8#32
  let v676 : BitVec 32 := Scalar.addi v2 c8_i32_511
  let c32_i32_512 : BitVec 32 := 32#32
  let v677 : BitVec 32 := Scalar.remsi v676 c32_i32_512
  let c16_i32_2759 : BitVec 32 := 16#32
  let v3105 : BitVec 32 := Scalar.muli v677 c16_i32_2759
  let c0_i32_2767 : BitVec 32 := 0#32
  ![v3105.toNat, 0]
def k0_dev70 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_511 : BitVec 32 := 8#32
  let v676 : BitVec 32 := Scalar.addi v2 c8_i32_511
  let c32_i32_512 : BitVec 32 := 32#32
  let v677 : BitVec 32 := Scalar.remsi v676 c32_i32_512
  let c1_i32_2763 : BitVec 32 := 1#32
  let v3106 : BitVec 32 := Scalar.muli v677 c1_i32_2763
  let v3107 : BitVec 32 := Scalar.addi c0_i32_2764 v3106
  v3107.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_516 : BitVec 32 := 9#32
  let v682 : BitVec 32 := Scalar.addi v2 c9_i32_516
  let c32_i32_517 : BitVec 32 := 32#32
  let v683 : BitVec 32 := Scalar.remsi v682 c32_i32_517
  let c8_i32_518 : BitVec 32 := 8#32
  let v684 : BitVec 32 := Scalar.divsi v683 c8_i32_518
  let c1_i32_519 : BitVec 32 := 1#32
  let v685 : BitVec 1 := Scalar.cmpi .eq v684 c1_i32_519
  let v686 : BitVec 32 := Scalar.extui v685
  let c0_i32_520 : BitVec 32 := 0#32
  let v687 : BitVec 1 := Scalar.cmpi .ne v686 c0_i32_520
  v687

def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_516 : BitVec 32 := 9#32
  let v682 : BitVec 32 := Scalar.addi v2 c9_i32_516
  let c32_i32_517 : BitVec 32 := 32#32
  let v683 : BitVec 32 := Scalar.remsi v682 c32_i32_517
  let c16_i32_2759 : BitVec 32 := 16#32
  let v3105 : BitVec 32 := Scalar.muli v683 c16_i32_2759
  let c0_i32_2767 : BitVec 32 := 0#32
  ![v3105.toNat, 0]
def k0_dev71 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_516 : BitVec 32 := 9#32
  let v682 : BitVec 32 := Scalar.addi v2 c9_i32_516
  let c32_i32_517 : BitVec 32 := 32#32
  let v683 : BitVec 32 := Scalar.remsi v682 c32_i32_517
  let c1_i32_2763 : BitVec 32 := 1#32
  let v3106 : BitVec 32 := Scalar.muli v683 c1_i32_2763
  let v3107 : BitVec 32 := Scalar.addi c0_i32_2764 v3106
  v3107.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_521 : BitVec 32 := 10#32
  let v688 : BitVec 32 := Scalar.addi v2 c10_i32_521
  let c32_i32_522 : BitVec 32 := 32#32
  let v689 : BitVec 32 := Scalar.remsi v688 c32_i32_522
  let c8_i32_523 : BitVec 32 := 8#32
  let v690 : BitVec 32 := Scalar.divsi v689 c8_i32_523
  let c1_i32_524 : BitVec 32 := 1#32
  let v691 : BitVec 1 := Scalar.cmpi .eq v690 c1_i32_524
  let v692 : BitVec 32 := Scalar.extui v691
  let c0_i32_525 : BitVec 32 := 0#32
  let v693 : BitVec 1 := Scalar.cmpi .ne v692 c0_i32_525
  v693

def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_521 : BitVec 32 := 10#32
  let v688 : BitVec 32 := Scalar.addi v2 c10_i32_521
  let c32_i32_522 : BitVec 32 := 32#32
  let v689 : BitVec 32 := Scalar.remsi v688 c32_i32_522
  let c16_i32_2759 : BitVec 32 := 16#32
  let v3105 : BitVec 32 := Scalar.muli v689 c16_i32_2759
  let c0_i32_2767 : BitVec 32 := 0#32
  ![v3105.toNat, 0]
def k0_dev72 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_521 : BitVec 32 := 10#32
  let v688 : BitVec 32 := Scalar.addi v2 c10_i32_521
  let c32_i32_522 : BitVec 32 := 32#32
  let v689 : BitVec 32 := Scalar.remsi v688 c32_i32_522
  let c1_i32_2763 : BitVec 32 := 1#32
  let v3106 : BitVec 32 := Scalar.muli v689 c1_i32_2763
  let v3107 : BitVec 32 := Scalar.addi c0_i32_2764 v3106
  v3107.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_526 : BitVec 32 := 11#32
  let v694 : BitVec 32 := Scalar.addi v2 c11_i32_526
  let c32_i32_527 : BitVec 32 := 32#32
  let v695 : BitVec 32 := Scalar.remsi v694 c32_i32_527
  let c8_i32_528 : BitVec 32 := 8#32
  let v696 : BitVec 32 := Scalar.divsi v695 c8_i32_528
  let c1_i32_529 : BitVec 32 := 1#32
  let v697 : BitVec 1 := Scalar.cmpi .eq v696 c1_i32_529
  let v698 : BitVec 32 := Scalar.extui v697
  let c0_i32_530 : BitVec 32 := 0#32
  let v699 : BitVec 1 := Scalar.cmpi .ne v698 c0_i32_530
  v699

def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_526 : BitVec 32 := 11#32
  let v694 : BitVec 32 := Scalar.addi v2 c11_i32_526
  let c32_i32_527 : BitVec 32 := 32#32
  let v695 : BitVec 32 := Scalar.remsi v694 c32_i32_527
  let c16_i32_2759 : BitVec 32 := 16#32
  let v3105 : BitVec 32 := Scalar.muli v695 c16_i32_2759
  let c0_i32_2767 : BitVec 32 := 0#32
  ![v3105.toNat, 0]
def k0_dev73 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_526 : BitVec 32 := 11#32
  let v694 : BitVec 32 := Scalar.addi v2 c11_i32_526
  let c32_i32_527 : BitVec 32 := 32#32
  let v695 : BitVec 32 := Scalar.remsi v694 c32_i32_527
  let c1_i32_2763 : BitVec 32 := 1#32
  let v3106 : BitVec 32 := Scalar.muli v695 c1_i32_2763
  let v3107 : BitVec 32 := Scalar.addi c0_i32_2764 v3106
  v3107.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_531 : BitVec 32 := 12#32
  let v700 : BitVec 32 := Scalar.addi v2 c12_i32_531
  let c32_i32_532 : BitVec 32 := 32#32
  let v701 : BitVec 32 := Scalar.remsi v700 c32_i32_532
  let c8_i32_533 : BitVec 32 := 8#32
  let v702 : BitVec 32 := Scalar.divsi v701 c8_i32_533
  let c1_i32_534 : BitVec 32 := 1#32
  let v703 : BitVec 1 := Scalar.cmpi .eq v702 c1_i32_534
  let v704 : BitVec 32 := Scalar.extui v703
  let c0_i32_535 : BitVec 32 := 0#32
  let v705 : BitVec 1 := Scalar.cmpi .ne v704 c0_i32_535
  v705

def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_531 : BitVec 32 := 12#32
  let v700 : BitVec 32 := Scalar.addi v2 c12_i32_531
  let c32_i32_532 : BitVec 32 := 32#32
  let v701 : BitVec 32 := Scalar.remsi v700 c32_i32_532
  let c16_i32_2759 : BitVec 32 := 16#32
  let v3105 : BitVec 32 := Scalar.muli v701 c16_i32_2759
  let c0_i32_2767 : BitVec 32 := 0#32
  ![v3105.toNat, 0]
def k0_dev74 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_531 : BitVec 32 := 12#32
  let v700 : BitVec 32 := Scalar.addi v2 c12_i32_531
  let c32_i32_532 : BitVec 32 := 32#32
  let v701 : BitVec 32 := Scalar.remsi v700 c32_i32_532
  let c1_i32_2763 : BitVec 32 := 1#32
  let v3106 : BitVec 32 := Scalar.muli v701 c1_i32_2763
  let v3107 : BitVec 32 := Scalar.addi c0_i32_2764 v3106
  v3107.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_536 : BitVec 32 := 13#32
  let v706 : BitVec 32 := Scalar.addi v2 c13_i32_536
  let c32_i32_537 : BitVec 32 := 32#32
  let v707 : BitVec 32 := Scalar.remsi v706 c32_i32_537
  let c8_i32_538 : BitVec 32 := 8#32
  let v708 : BitVec 32 := Scalar.divsi v707 c8_i32_538
  let c1_i32_539 : BitVec 32 := 1#32
  let v709 : BitVec 1 := Scalar.cmpi .eq v708 c1_i32_539
  let v710 : BitVec 32 := Scalar.extui v709
  let c0_i32_540 : BitVec 32 := 0#32
  let v711 : BitVec 1 := Scalar.cmpi .ne v710 c0_i32_540
  v711

def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_536 : BitVec 32 := 13#32
  let v706 : BitVec 32 := Scalar.addi v2 c13_i32_536
  let c32_i32_537 : BitVec 32 := 32#32
  let v707 : BitVec 32 := Scalar.remsi v706 c32_i32_537
  let c16_i32_2759 : BitVec 32 := 16#32
  let v3105 : BitVec 32 := Scalar.muli v707 c16_i32_2759
  let c0_i32_2767 : BitVec 32 := 0#32
  ![v3105.toNat, 0]
def k0_dev75 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_536 : BitVec 32 := 13#32
  let v706 : BitVec 32 := Scalar.addi v2 c13_i32_536
  let c32_i32_537 : BitVec 32 := 32#32
  let v707 : BitVec 32 := Scalar.remsi v706 c32_i32_537
  let c1_i32_2763 : BitVec 32 := 1#32
  let v3106 : BitVec 32 := Scalar.muli v707 c1_i32_2763
  let v3107 : BitVec 32 := Scalar.addi c0_i32_2764 v3106
  v3107.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_541 : BitVec 32 := 14#32
  let v712 : BitVec 32 := Scalar.addi v2 c14_i32_541
  let c32_i32_542 : BitVec 32 := 32#32
  let v713 : BitVec 32 := Scalar.remsi v712 c32_i32_542
  let c8_i32_543 : BitVec 32 := 8#32
  let v714 : BitVec 32 := Scalar.divsi v713 c8_i32_543
  let c1_i32_544 : BitVec 32 := 1#32
  let v715 : BitVec 1 := Scalar.cmpi .eq v714 c1_i32_544
  let v716 : BitVec 32 := Scalar.extui v715
  let c0_i32_545 : BitVec 32 := 0#32
  let v717 : BitVec 1 := Scalar.cmpi .ne v716 c0_i32_545
  v717

def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_541 : BitVec 32 := 14#32
  let v712 : BitVec 32 := Scalar.addi v2 c14_i32_541
  let c32_i32_542 : BitVec 32 := 32#32
  let v713 : BitVec 32 := Scalar.remsi v712 c32_i32_542
  let c16_i32_2759 : BitVec 32 := 16#32
  let v3105 : BitVec 32 := Scalar.muli v713 c16_i32_2759
  let c0_i32_2767 : BitVec 32 := 0#32
  ![v3105.toNat, 0]
def k0_dev76 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_541 : BitVec 32 := 14#32
  let v712 : BitVec 32 := Scalar.addi v2 c14_i32_541
  let c32_i32_542 : BitVec 32 := 32#32
  let v713 : BitVec 32 := Scalar.remsi v712 c32_i32_542
  let c1_i32_2763 : BitVec 32 := 1#32
  let v3106 : BitVec 32 := Scalar.muli v713 c1_i32_2763
  let v3107 : BitVec 32 := Scalar.addi c0_i32_2764 v3106
  v3107.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_546 : BitVec 32 := 15#32
  let v718 : BitVec 32 := Scalar.addi v2 c15_i32_546
  let c32_i32_547 : BitVec 32 := 32#32
  let v719 : BitVec 32 := Scalar.remsi v718 c32_i32_547
  let c8_i32_548 : BitVec 32 := 8#32
  let v720 : BitVec 32 := Scalar.divsi v719 c8_i32_548
  let c1_i32_549 : BitVec 32 := 1#32
  let v721 : BitVec 1 := Scalar.cmpi .eq v720 c1_i32_549
  let v722 : BitVec 32 := Scalar.extui v721
  let c0_i32_550 : BitVec 32 := 0#32
  let v723 : BitVec 1 := Scalar.cmpi .ne v722 c0_i32_550
  v723

def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_546 : BitVec 32 := 15#32
  let v718 : BitVec 32 := Scalar.addi v2 c15_i32_546
  let c32_i32_547 : BitVec 32 := 32#32
  let v719 : BitVec 32 := Scalar.remsi v718 c32_i32_547
  let c16_i32_2759 : BitVec 32 := 16#32
  let v3105 : BitVec 32 := Scalar.muli v719 c16_i32_2759
  let c0_i32_2767 : BitVec 32 := 0#32
  ![v3105.toNat, 0]
def k0_dev77 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_546 : BitVec 32 := 15#32
  let v718 : BitVec 32 := Scalar.addi v2 c15_i32_546
  let c32_i32_547 : BitVec 32 := 32#32
  let v719 : BitVec 32 := Scalar.remsi v718 c32_i32_547
  let c1_i32_2763 : BitVec 32 := 1#32
  let v3106 : BitVec 32 := Scalar.muli v719 c1_i32_2763
  let v3107 : BitVec 32 := Scalar.addi c0_i32_2764 v3106
  v3107.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_551 : BitVec 32 := 16#32
  let v724 : BitVec 32 := Scalar.addi v2 c16_i32_551
  let c32_i32_552 : BitVec 32 := 32#32
  let v725 : BitVec 32 := Scalar.remsi v724 c32_i32_552
  let c8_i32_553 : BitVec 32 := 8#32
  let v726 : BitVec 32 := Scalar.divsi v725 c8_i32_553
  let c1_i32_554 : BitVec 32 := 1#32
  let v727 : BitVec 1 := Scalar.cmpi .eq v726 c1_i32_554
  let v728 : BitVec 32 := Scalar.extui v727
  let c0_i32_555 : BitVec 32 := 0#32
  let v729 : BitVec 1 := Scalar.cmpi .ne v728 c0_i32_555
  v729

def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_551 : BitVec 32 := 16#32
  let v724 : BitVec 32 := Scalar.addi v2 c16_i32_551
  let c32_i32_552 : BitVec 32 := 32#32
  let v725 : BitVec 32 := Scalar.remsi v724 c32_i32_552
  let c16_i32_2759 : BitVec 32 := 16#32
  let v3105 : BitVec 32 := Scalar.muli v725 c16_i32_2759
  let c0_i32_2767 : BitVec 32 := 0#32
  ![v3105.toNat, 0]
def k0_dev78 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_551 : BitVec 32 := 16#32
  let v724 : BitVec 32 := Scalar.addi v2 c16_i32_551
  let c32_i32_552 : BitVec 32 := 32#32
  let v725 : BitVec 32 := Scalar.remsi v724 c32_i32_552
  let c1_i32_2763 : BitVec 32 := 1#32
  let v3106 : BitVec 32 := Scalar.muli v725 c1_i32_2763
  let v3107 : BitVec 32 := Scalar.addi c0_i32_2764 v3106
  v3107.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_556 : BitVec 32 := 17#32
  let v730 : BitVec 32 := Scalar.addi v2 c17_i32_556
  let c32_i32_557 : BitVec 32 := 32#32
  let v731 : BitVec 32 := Scalar.remsi v730 c32_i32_557
  let c8_i32_558 : BitVec 32 := 8#32
  let v732 : BitVec 32 := Scalar.divsi v731 c8_i32_558
  let c1_i32_559 : BitVec 32 := 1#32
  let v733 : BitVec 1 := Scalar.cmpi .eq v732 c1_i32_559
  let v734 : BitVec 32 := Scalar.extui v733
  let c0_i32_560 : BitVec 32 := 0#32
  let v735 : BitVec 1 := Scalar.cmpi .ne v734 c0_i32_560
  v735

def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_556 : BitVec 32 := 17#32
  let v730 : BitVec 32 := Scalar.addi v2 c17_i32_556
  let c32_i32_557 : BitVec 32 := 32#32
  let v731 : BitVec 32 := Scalar.remsi v730 c32_i32_557
  let c16_i32_2759 : BitVec 32 := 16#32
  let v3105 : BitVec 32 := Scalar.muli v731 c16_i32_2759
  let c0_i32_2767 : BitVec 32 := 0#32
  ![v3105.toNat, 0]
def k0_dev79 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_556 : BitVec 32 := 17#32
  let v730 : BitVec 32 := Scalar.addi v2 c17_i32_556
  let c32_i32_557 : BitVec 32 := 32#32
  let v731 : BitVec 32 := Scalar.remsi v730 c32_i32_557
  let c1_i32_2763 : BitVec 32 := 1#32
  let v3106 : BitVec 32 := Scalar.muli v731 c1_i32_2763
  let v3107 : BitVec 32 := Scalar.addi c0_i32_2764 v3106
  v3107.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_561 : BitVec 32 := 18#32
  let v736 : BitVec 32 := Scalar.addi v2 c18_i32_561
  let c32_i32_562 : BitVec 32 := 32#32
  let v737 : BitVec 32 := Scalar.remsi v736 c32_i32_562
  let c8_i32_563 : BitVec 32 := 8#32
  let v738 : BitVec 32 := Scalar.divsi v737 c8_i32_563
  let c1_i32_564 : BitVec 32 := 1#32
  let v739 : BitVec 1 := Scalar.cmpi .eq v738 c1_i32_564
  let v740 : BitVec 32 := Scalar.extui v739
  let c0_i32_565 : BitVec 32 := 0#32
  let v741 : BitVec 1 := Scalar.cmpi .ne v740 c0_i32_565
  v741

def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_561 : BitVec 32 := 18#32
  let v736 : BitVec 32 := Scalar.addi v2 c18_i32_561
  let c32_i32_562 : BitVec 32 := 32#32
  let v737 : BitVec 32 := Scalar.remsi v736 c32_i32_562
  let c16_i32_2759 : BitVec 32 := 16#32
  let v3105 : BitVec 32 := Scalar.muli v737 c16_i32_2759
  let c0_i32_2767 : BitVec 32 := 0#32
  ![v3105.toNat, 0]
def k0_dev80 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_561 : BitVec 32 := 18#32
  let v736 : BitVec 32 := Scalar.addi v2 c18_i32_561
  let c32_i32_562 : BitVec 32 := 32#32
  let v737 : BitVec 32 := Scalar.remsi v736 c32_i32_562
  let c1_i32_2763 : BitVec 32 := 1#32
  let v3106 : BitVec 32 := Scalar.muli v737 c1_i32_2763
  let v3107 : BitVec 32 := Scalar.addi c0_i32_2764 v3106
  v3107.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_566 : BitVec 32 := 19#32
  let v742 : BitVec 32 := Scalar.addi v2 c19_i32_566
  let c32_i32_567 : BitVec 32 := 32#32
  let v743 : BitVec 32 := Scalar.remsi v742 c32_i32_567
  let c8_i32_568 : BitVec 32 := 8#32
  let v744 : BitVec 32 := Scalar.divsi v743 c8_i32_568
  let c1_i32_569 : BitVec 32 := 1#32
  let v745 : BitVec 1 := Scalar.cmpi .eq v744 c1_i32_569
  let v746 : BitVec 32 := Scalar.extui v745
  let c0_i32_570 : BitVec 32 := 0#32
  let v747 : BitVec 1 := Scalar.cmpi .ne v746 c0_i32_570
  v747

def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_566 : BitVec 32 := 19#32
  let v742 : BitVec 32 := Scalar.addi v2 c19_i32_566
  let c32_i32_567 : BitVec 32 := 32#32
  let v743 : BitVec 32 := Scalar.remsi v742 c32_i32_567
  let c16_i32_2759 : BitVec 32 := 16#32
  let v3105 : BitVec 32 := Scalar.muli v743 c16_i32_2759
  let c0_i32_2767 : BitVec 32 := 0#32
  ![v3105.toNat, 0]
def k0_dev81 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_566 : BitVec 32 := 19#32
  let v742 : BitVec 32 := Scalar.addi v2 c19_i32_566
  let c32_i32_567 : BitVec 32 := 32#32
  let v743 : BitVec 32 := Scalar.remsi v742 c32_i32_567
  let c1_i32_2763 : BitVec 32 := 1#32
  let v3106 : BitVec 32 := Scalar.muli v743 c1_i32_2763
  let v3107 : BitVec 32 := Scalar.addi c0_i32_2764 v3106
  v3107.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_571 : BitVec 32 := 20#32
  let v748 : BitVec 32 := Scalar.addi v2 c20_i32_571
  let c32_i32_572 : BitVec 32 := 32#32
  let v749 : BitVec 32 := Scalar.remsi v748 c32_i32_572
  let c8_i32_573 : BitVec 32 := 8#32
  let v750 : BitVec 32 := Scalar.divsi v749 c8_i32_573
  let c1_i32_574 : BitVec 32 := 1#32
  let v751 : BitVec 1 := Scalar.cmpi .eq v750 c1_i32_574
  let v752 : BitVec 32 := Scalar.extui v751
  let c0_i32_575 : BitVec 32 := 0#32
  let v753 : BitVec 1 := Scalar.cmpi .ne v752 c0_i32_575
  v753

def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_571 : BitVec 32 := 20#32
  let v748 : BitVec 32 := Scalar.addi v2 c20_i32_571
  let c32_i32_572 : BitVec 32 := 32#32
  let v749 : BitVec 32 := Scalar.remsi v748 c32_i32_572
  let c16_i32_2759 : BitVec 32 := 16#32
  let v3105 : BitVec 32 := Scalar.muli v749 c16_i32_2759
  let c0_i32_2767 : BitVec 32 := 0#32
  ![v3105.toNat, 0]
def k0_dev82 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_571 : BitVec 32 := 20#32
  let v748 : BitVec 32 := Scalar.addi v2 c20_i32_571
  let c32_i32_572 : BitVec 32 := 32#32
  let v749 : BitVec 32 := Scalar.remsi v748 c32_i32_572
  let c1_i32_2763 : BitVec 32 := 1#32
  let v3106 : BitVec 32 := Scalar.muli v749 c1_i32_2763
  let v3107 : BitVec 32 := Scalar.addi c0_i32_2764 v3106
  v3107.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_576 : BitVec 32 := 21#32
  let v754 : BitVec 32 := Scalar.addi v2 c21_i32_576
  let c32_i32_577 : BitVec 32 := 32#32
  let v755 : BitVec 32 := Scalar.remsi v754 c32_i32_577
  let c8_i32_578 : BitVec 32 := 8#32
  let v756 : BitVec 32 := Scalar.divsi v755 c8_i32_578
  let c1_i32_579 : BitVec 32 := 1#32
  let v757 : BitVec 1 := Scalar.cmpi .eq v756 c1_i32_579
  let v758 : BitVec 32 := Scalar.extui v757
  let c0_i32_580 : BitVec 32 := 0#32
  let v759 : BitVec 1 := Scalar.cmpi .ne v758 c0_i32_580
  v759

def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_576 : BitVec 32 := 21#32
  let v754 : BitVec 32 := Scalar.addi v2 c21_i32_576
  let c32_i32_577 : BitVec 32 := 32#32
  let v755 : BitVec 32 := Scalar.remsi v754 c32_i32_577
  let c16_i32_2759 : BitVec 32 := 16#32
  let v3105 : BitVec 32 := Scalar.muli v755 c16_i32_2759
  let c0_i32_2767 : BitVec 32 := 0#32
  ![v3105.toNat, 0]
def k0_dev83 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_576 : BitVec 32 := 21#32
  let v754 : BitVec 32 := Scalar.addi v2 c21_i32_576
  let c32_i32_577 : BitVec 32 := 32#32
  let v755 : BitVec 32 := Scalar.remsi v754 c32_i32_577
  let c1_i32_2763 : BitVec 32 := 1#32
  let v3106 : BitVec 32 := Scalar.muli v755 c1_i32_2763
  let v3107 : BitVec 32 := Scalar.addi c0_i32_2764 v3106
  v3107.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_581 : BitVec 32 := 22#32
  let v760 : BitVec 32 := Scalar.addi v2 c22_i32_581
  let c32_i32_582 : BitVec 32 := 32#32
  let v761 : BitVec 32 := Scalar.remsi v760 c32_i32_582
  let c8_i32_583 : BitVec 32 := 8#32
  let v762 : BitVec 32 := Scalar.divsi v761 c8_i32_583
  let c1_i32_584 : BitVec 32 := 1#32
  let v763 : BitVec 1 := Scalar.cmpi .eq v762 c1_i32_584
  let v764 : BitVec 32 := Scalar.extui v763
  let c0_i32_585 : BitVec 32 := 0#32
  let v765 : BitVec 1 := Scalar.cmpi .ne v764 c0_i32_585
  v765

def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_581 : BitVec 32 := 22#32
  let v760 : BitVec 32 := Scalar.addi v2 c22_i32_581
  let c32_i32_582 : BitVec 32 := 32#32
  let v761 : BitVec 32 := Scalar.remsi v760 c32_i32_582
  let c16_i32_2759 : BitVec 32 := 16#32
  let v3105 : BitVec 32 := Scalar.muli v761 c16_i32_2759
  let c0_i32_2767 : BitVec 32 := 0#32
  ![v3105.toNat, 0]
def k0_dev84 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_581 : BitVec 32 := 22#32
  let v760 : BitVec 32 := Scalar.addi v2 c22_i32_581
  let c32_i32_582 : BitVec 32 := 32#32
  let v761 : BitVec 32 := Scalar.remsi v760 c32_i32_582
  let c1_i32_2763 : BitVec 32 := 1#32
  let v3106 : BitVec 32 := Scalar.muli v761 c1_i32_2763
  let v3107 : BitVec 32 := Scalar.addi c0_i32_2764 v3106
  v3107.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_586 : BitVec 32 := 23#32
  let v766 : BitVec 32 := Scalar.addi v2 c23_i32_586
  let c32_i32_587 : BitVec 32 := 32#32
  let v767 : BitVec 32 := Scalar.remsi v766 c32_i32_587
  let c8_i32_588 : BitVec 32 := 8#32
  let v768 : BitVec 32 := Scalar.divsi v767 c8_i32_588
  let c1_i32_589 : BitVec 32 := 1#32
  let v769 : BitVec 1 := Scalar.cmpi .eq v768 c1_i32_589
  let v770 : BitVec 32 := Scalar.extui v769
  let c0_i32_590 : BitVec 32 := 0#32
  let v771 : BitVec 1 := Scalar.cmpi .ne v770 c0_i32_590
  v771

def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_586 : BitVec 32 := 23#32
  let v766 : BitVec 32 := Scalar.addi v2 c23_i32_586
  let c32_i32_587 : BitVec 32 := 32#32
  let v767 : BitVec 32 := Scalar.remsi v766 c32_i32_587
  let c16_i32_2759 : BitVec 32 := 16#32
  let v3105 : BitVec 32 := Scalar.muli v767 c16_i32_2759
  let c0_i32_2767 : BitVec 32 := 0#32
  ![v3105.toNat, 0]
def k0_dev85 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_586 : BitVec 32 := 23#32
  let v766 : BitVec 32 := Scalar.addi v2 c23_i32_586
  let c32_i32_587 : BitVec 32 := 32#32
  let v767 : BitVec 32 := Scalar.remsi v766 c32_i32_587
  let c1_i32_2763 : BitVec 32 := 1#32
  let v3106 : BitVec 32 := Scalar.muli v767 c1_i32_2763
  let v3107 : BitVec 32 := Scalar.addi c0_i32_2764 v3106
  v3107.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_591 : BitVec 32 := 24#32
  let v772 : BitVec 32 := Scalar.addi v2 c24_i32_591
  let c32_i32_592 : BitVec 32 := 32#32
  let v773 : BitVec 32 := Scalar.remsi v772 c32_i32_592
  let c8_i32_593 : BitVec 32 := 8#32
  let v774 : BitVec 32 := Scalar.divsi v773 c8_i32_593
  let c1_i32_594 : BitVec 32 := 1#32
  let v775 : BitVec 1 := Scalar.cmpi .eq v774 c1_i32_594
  let v776 : BitVec 32 := Scalar.extui v775
  let c0_i32_595 : BitVec 32 := 0#32
  let v777 : BitVec 1 := Scalar.cmpi .ne v776 c0_i32_595
  v777

def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_591 : BitVec 32 := 24#32
  let v772 : BitVec 32 := Scalar.addi v2 c24_i32_591
  let c32_i32_592 : BitVec 32 := 32#32
  let v773 : BitVec 32 := Scalar.remsi v772 c32_i32_592
  let c16_i32_2759 : BitVec 32 := 16#32
  let v3105 : BitVec 32 := Scalar.muli v773 c16_i32_2759
  let c0_i32_2767 : BitVec 32 := 0#32
  ![v3105.toNat, 0]
def k0_dev86 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_591 : BitVec 32 := 24#32
  let v772 : BitVec 32 := Scalar.addi v2 c24_i32_591
  let c32_i32_592 : BitVec 32 := 32#32
  let v773 : BitVec 32 := Scalar.remsi v772 c32_i32_592
  let c1_i32_2763 : BitVec 32 := 1#32
  let v3106 : BitVec 32 := Scalar.muli v773 c1_i32_2763
  let v3107 : BitVec 32 := Scalar.addi c0_i32_2764 v3106
  v3107.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_596 : BitVec 32 := 25#32
  let v778 : BitVec 32 := Scalar.addi v2 c25_i32_596
  let c32_i32_597 : BitVec 32 := 32#32
  let v779 : BitVec 32 := Scalar.remsi v778 c32_i32_597
  let c8_i32_598 : BitVec 32 := 8#32
  let v780 : BitVec 32 := Scalar.divsi v779 c8_i32_598
  let c1_i32_599 : BitVec 32 := 1#32
  let v781 : BitVec 1 := Scalar.cmpi .eq v780 c1_i32_599
  let v782 : BitVec 32 := Scalar.extui v781
  let c0_i32_600 : BitVec 32 := 0#32
  let v783 : BitVec 1 := Scalar.cmpi .ne v782 c0_i32_600
  v783

def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_596 : BitVec 32 := 25#32
  let v778 : BitVec 32 := Scalar.addi v2 c25_i32_596
  let c32_i32_597 : BitVec 32 := 32#32
  let v779 : BitVec 32 := Scalar.remsi v778 c32_i32_597
  let c16_i32_2759 : BitVec 32 := 16#32
  let v3105 : BitVec 32 := Scalar.muli v779 c16_i32_2759
  let c0_i32_2767 : BitVec 32 := 0#32
  ![v3105.toNat, 0]
def k0_dev87 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_596 : BitVec 32 := 25#32
  let v778 : BitVec 32 := Scalar.addi v2 c25_i32_596
  let c32_i32_597 : BitVec 32 := 32#32
  let v779 : BitVec 32 := Scalar.remsi v778 c32_i32_597
  let c1_i32_2763 : BitVec 32 := 1#32
  let v3106 : BitVec 32 := Scalar.muli v779 c1_i32_2763
  let v3107 : BitVec 32 := Scalar.addi c0_i32_2764 v3106
  v3107.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_601 : BitVec 32 := 26#32
  let v784 : BitVec 32 := Scalar.addi v2 c26_i32_601
  let c32_i32_602 : BitVec 32 := 32#32
  let v785 : BitVec 32 := Scalar.remsi v784 c32_i32_602
  let c8_i32_603 : BitVec 32 := 8#32
  let v786 : BitVec 32 := Scalar.divsi v785 c8_i32_603
  let c1_i32_604 : BitVec 32 := 1#32
  let v787 : BitVec 1 := Scalar.cmpi .eq v786 c1_i32_604
  let v788 : BitVec 32 := Scalar.extui v787
  let c0_i32_605 : BitVec 32 := 0#32
  let v789 : BitVec 1 := Scalar.cmpi .ne v788 c0_i32_605
  v789

def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_601 : BitVec 32 := 26#32
  let v784 : BitVec 32 := Scalar.addi v2 c26_i32_601
  let c32_i32_602 : BitVec 32 := 32#32
  let v785 : BitVec 32 := Scalar.remsi v784 c32_i32_602
  let c16_i32_2759 : BitVec 32 := 16#32
  let v3105 : BitVec 32 := Scalar.muli v785 c16_i32_2759
  let c0_i32_2767 : BitVec 32 := 0#32
  ![v3105.toNat, 0]
def k0_dev88 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_601 : BitVec 32 := 26#32
  let v784 : BitVec 32 := Scalar.addi v2 c26_i32_601
  let c32_i32_602 : BitVec 32 := 32#32
  let v785 : BitVec 32 := Scalar.remsi v784 c32_i32_602
  let c1_i32_2763 : BitVec 32 := 1#32
  let v3106 : BitVec 32 := Scalar.muli v785 c1_i32_2763
  let v3107 : BitVec 32 := Scalar.addi c0_i32_2764 v3106
  v3107.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_606 : BitVec 32 := 27#32
  let v790 : BitVec 32 := Scalar.addi v2 c27_i32_606
  let c32_i32_607 : BitVec 32 := 32#32
  let v791 : BitVec 32 := Scalar.remsi v790 c32_i32_607
  let c8_i32_608 : BitVec 32 := 8#32
  let v792 : BitVec 32 := Scalar.divsi v791 c8_i32_608
  let c1_i32_609 : BitVec 32 := 1#32
  let v793 : BitVec 1 := Scalar.cmpi .eq v792 c1_i32_609
  let v794 : BitVec 32 := Scalar.extui v793
  let c0_i32_610 : BitVec 32 := 0#32
  let v795 : BitVec 1 := Scalar.cmpi .ne v794 c0_i32_610
  v795

def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_606 : BitVec 32 := 27#32
  let v790 : BitVec 32 := Scalar.addi v2 c27_i32_606
  let c32_i32_607 : BitVec 32 := 32#32
  let v791 : BitVec 32 := Scalar.remsi v790 c32_i32_607
  let c16_i32_2759 : BitVec 32 := 16#32
  let v3105 : BitVec 32 := Scalar.muli v791 c16_i32_2759
  let c0_i32_2767 : BitVec 32 := 0#32
  ![v3105.toNat, 0]
def k0_dev89 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_606 : BitVec 32 := 27#32
  let v790 : BitVec 32 := Scalar.addi v2 c27_i32_606
  let c32_i32_607 : BitVec 32 := 32#32
  let v791 : BitVec 32 := Scalar.remsi v790 c32_i32_607
  let c1_i32_2763 : BitVec 32 := 1#32
  let v3106 : BitVec 32 := Scalar.muli v791 c1_i32_2763
  let v3107 : BitVec 32 := Scalar.addi c0_i32_2764 v3106
  v3107.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_611 : BitVec 32 := 28#32
  let v796 : BitVec 32 := Scalar.addi v2 c28_i32_611
  let c32_i32_612 : BitVec 32 := 32#32
  let v797 : BitVec 32 := Scalar.remsi v796 c32_i32_612
  let c8_i32_613 : BitVec 32 := 8#32
  let v798 : BitVec 32 := Scalar.divsi v797 c8_i32_613
  let c1_i32_614 : BitVec 32 := 1#32
  let v799 : BitVec 1 := Scalar.cmpi .eq v798 c1_i32_614
  let v800 : BitVec 32 := Scalar.extui v799
  let c0_i32_615 : BitVec 32 := 0#32
  let v801 : BitVec 1 := Scalar.cmpi .ne v800 c0_i32_615
  v801

def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_611 : BitVec 32 := 28#32
  let v796 : BitVec 32 := Scalar.addi v2 c28_i32_611
  let c32_i32_612 : BitVec 32 := 32#32
  let v797 : BitVec 32 := Scalar.remsi v796 c32_i32_612
  let c16_i32_2759 : BitVec 32 := 16#32
  let v3105 : BitVec 32 := Scalar.muli v797 c16_i32_2759
  let c0_i32_2767 : BitVec 32 := 0#32
  ![v3105.toNat, 0]
def k0_dev90 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_611 : BitVec 32 := 28#32
  let v796 : BitVec 32 := Scalar.addi v2 c28_i32_611
  let c32_i32_612 : BitVec 32 := 32#32
  let v797 : BitVec 32 := Scalar.remsi v796 c32_i32_612
  let c1_i32_2763 : BitVec 32 := 1#32
  let v3106 : BitVec 32 := Scalar.muli v797 c1_i32_2763
  let v3107 : BitVec 32 := Scalar.addi c0_i32_2764 v3106
  v3107.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_616 : BitVec 32 := 29#32
  let v802 : BitVec 32 := Scalar.addi v2 c29_i32_616
  let c32_i32_617 : BitVec 32 := 32#32
  let v803 : BitVec 32 := Scalar.remsi v802 c32_i32_617
  let c8_i32_618 : BitVec 32 := 8#32
  let v804 : BitVec 32 := Scalar.divsi v803 c8_i32_618
  let c1_i32_619 : BitVec 32 := 1#32
  let v805 : BitVec 1 := Scalar.cmpi .eq v804 c1_i32_619
  let v806 : BitVec 32 := Scalar.extui v805
  let c0_i32_620 : BitVec 32 := 0#32
  let v807 : BitVec 1 := Scalar.cmpi .ne v806 c0_i32_620
  v807

def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_616 : BitVec 32 := 29#32
  let v802 : BitVec 32 := Scalar.addi v2 c29_i32_616
  let c32_i32_617 : BitVec 32 := 32#32
  let v803 : BitVec 32 := Scalar.remsi v802 c32_i32_617
  let c16_i32_2759 : BitVec 32 := 16#32
  let v3105 : BitVec 32 := Scalar.muli v803 c16_i32_2759
  let c0_i32_2767 : BitVec 32 := 0#32
  ![v3105.toNat, 0]
def k0_dev91 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_616 : BitVec 32 := 29#32
  let v802 : BitVec 32 := Scalar.addi v2 c29_i32_616
  let c32_i32_617 : BitVec 32 := 32#32
  let v803 : BitVec 32 := Scalar.remsi v802 c32_i32_617
  let c1_i32_2763 : BitVec 32 := 1#32
  let v3106 : BitVec 32 := Scalar.muli v803 c1_i32_2763
  let v3107 : BitVec 32 := Scalar.addi c0_i32_2764 v3106
  v3107.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_621 : BitVec 32 := 30#32
  let v808 : BitVec 32 := Scalar.addi v2 c30_i32_621
  let c32_i32_622 : BitVec 32 := 32#32
  let v809 : BitVec 32 := Scalar.remsi v808 c32_i32_622
  let c8_i32_623 : BitVec 32 := 8#32
  let v810 : BitVec 32 := Scalar.divsi v809 c8_i32_623
  let c1_i32_624 : BitVec 32 := 1#32
  let v811 : BitVec 1 := Scalar.cmpi .eq v810 c1_i32_624
  let v812 : BitVec 32 := Scalar.extui v811
  let c0_i32_625 : BitVec 32 := 0#32
  let v813 : BitVec 1 := Scalar.cmpi .ne v812 c0_i32_625
  v813

def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_621 : BitVec 32 := 30#32
  let v808 : BitVec 32 := Scalar.addi v2 c30_i32_621
  let c32_i32_622 : BitVec 32 := 32#32
  let v809 : BitVec 32 := Scalar.remsi v808 c32_i32_622
  let c16_i32_2759 : BitVec 32 := 16#32
  let v3105 : BitVec 32 := Scalar.muli v809 c16_i32_2759
  let c0_i32_2767 : BitVec 32 := 0#32
  ![v3105.toNat, 0]
def k0_dev92 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_621 : BitVec 32 := 30#32
  let v808 : BitVec 32 := Scalar.addi v2 c30_i32_621
  let c32_i32_622 : BitVec 32 := 32#32
  let v809 : BitVec 32 := Scalar.remsi v808 c32_i32_622
  let c1_i32_2763 : BitVec 32 := 1#32
  let v3106 : BitVec 32 := Scalar.muli v809 c1_i32_2763
  let v3107 : BitVec 32 := Scalar.addi c0_i32_2764 v3106
  v3107.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_626 : BitVec 32 := 31#32
  let v814 : BitVec 32 := Scalar.addi v2 c31_i32_626
  let c32_i32_627 : BitVec 32 := 32#32
  let v815 : BitVec 32 := Scalar.remsi v814 c32_i32_627
  let c8_i32_628 : BitVec 32 := 8#32
  let v816 : BitVec 32 := Scalar.divsi v815 c8_i32_628
  let c1_i32_629 : BitVec 32 := 1#32
  let v817 : BitVec 1 := Scalar.cmpi .eq v816 c1_i32_629
  let v818 : BitVec 32 := Scalar.extui v817
  let c0_i32_630 : BitVec 32 := 0#32
  let v819 : BitVec 1 := Scalar.cmpi .ne v818 c0_i32_630
  v819

def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_626 : BitVec 32 := 31#32
  let v814 : BitVec 32 := Scalar.addi v2 c31_i32_626
  let c32_i32_627 : BitVec 32 := 32#32
  let v815 : BitVec 32 := Scalar.remsi v814 c32_i32_627
  let c16_i32_2759 : BitVec 32 := 16#32
  let v3105 : BitVec 32 := Scalar.muli v815 c16_i32_2759
  let c0_i32_2767 : BitVec 32 := 0#32
  ![v3105.toNat, 0]
def k0_dev93 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_626 : BitVec 32 := 31#32
  let v814 : BitVec 32 := Scalar.addi v2 c31_i32_626
  let c32_i32_627 : BitVec 32 := 32#32
  let v815 : BitVec 32 := Scalar.remsi v814 c32_i32_627
  let c1_i32_2763 : BitVec 32 := 1#32
  let v3106 : BitVec 32 := Scalar.muli v815 c1_i32_2763
  let v3107 : BitVec 32 := Scalar.addi c0_i32_2764 v3106
  v3107.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_730 : BitVec 32 := 1#32
  let v980 : BitVec 32 := Scalar.addi v2 c1_i32_730
  let c32_i32_731 : BitVec 32 := 32#32
  let v981 : BitVec 32 := Scalar.remsi v980 c32_i32_731
  let c8_i32_732 : BitVec 32 := 8#32
  let v982 : BitVec 32 := Scalar.divsi v981 c8_i32_732
  let c2_i32_733 : BitVec 32 := 2#32
  let v983 : BitVec 1 := Scalar.cmpi .eq v982 c2_i32_733
  let v984 : BitVec 32 := Scalar.extui v983
  let c0_i32_734 : BitVec 32 := 0#32
  let v985 : BitVec 1 := Scalar.cmpi .ne v984 c0_i32_734
  v985

def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_730 : BitVec 32 := 1#32
  let v980 : BitVec 32 := Scalar.addi v2 c1_i32_730
  let c32_i32_731 : BitVec 32 := 32#32
  let v981 : BitVec 32 := Scalar.remsi v980 c32_i32_731
  let c16_i32_2759 : BitVec 32 := 16#32
  let v3105 : BitVec 32 := Scalar.muli v981 c16_i32_2759
  let c0_i32_2767 : BitVec 32 := 0#32
  ![v3105.toNat, 0]
def k0_dev94 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_730 : BitVec 32 := 1#32
  let v980 : BitVec 32 := Scalar.addi v2 c1_i32_730
  let c32_i32_731 : BitVec 32 := 32#32
  let v981 : BitVec 32 := Scalar.remsi v980 c32_i32_731
  let c1_i32_2763 : BitVec 32 := 1#32
  let v3106 : BitVec 32 := Scalar.muli v981 c1_i32_2763
  let v3107 : BitVec 32 := Scalar.addi c0_i32_2764 v3106
  v3107.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_735 : BitVec 32 := 2#32
  let v986 : BitVec 32 := Scalar.addi v2 c2_i32_735
  let c32_i32_736 : BitVec 32 := 32#32
  let v987 : BitVec 32 := Scalar.remsi v986 c32_i32_736
  let c8_i32_737 : BitVec 32 := 8#32
  let v988 : BitVec 32 := Scalar.divsi v987 c8_i32_737
  let c2_i32_738 : BitVec 32 := 2#32
  let v989 : BitVec 1 := Scalar.cmpi .eq v988 c2_i32_738
  let v990 : BitVec 32 := Scalar.extui v989
  let c0_i32_739 : BitVec 32 := 0#32
  let v991 : BitVec 1 := Scalar.cmpi .ne v990 c0_i32_739
  v991

def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_735 : BitVec 32 := 2#32
  let v986 : BitVec 32 := Scalar.addi v2 c2_i32_735
  let c32_i32_736 : BitVec 32 := 32#32
  let v987 : BitVec 32 := Scalar.remsi v986 c32_i32_736
  let c16_i32_2759 : BitVec 32 := 16#32
  let v3105 : BitVec 32 := Scalar.muli v987 c16_i32_2759
  let c0_i32_2767 : BitVec 32 := 0#32
  ![v3105.toNat, 0]
def k0_dev95 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_735 : BitVec 32 := 2#32
  let v986 : BitVec 32 := Scalar.addi v2 c2_i32_735
  let c32_i32_736 : BitVec 32 := 32#32
  let v987 : BitVec 32 := Scalar.remsi v986 c32_i32_736
  let c1_i32_2763 : BitVec 32 := 1#32
  let v3106 : BitVec 32 := Scalar.muli v987 c1_i32_2763
  let v3107 : BitVec 32 := Scalar.addi c0_i32_2764 v3106
  v3107.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_740 : BitVec 32 := 3#32
  let v992 : BitVec 32 := Scalar.addi v2 c3_i32_740
  let c32_i32_741 : BitVec 32 := 32#32
  let v993 : BitVec 32 := Scalar.remsi v992 c32_i32_741
  let c8_i32_742 : BitVec 32 := 8#32
  let v994 : BitVec 32 := Scalar.divsi v993 c8_i32_742
  let c2_i32_743 : BitVec 32 := 2#32
  let v995 : BitVec 1 := Scalar.cmpi .eq v994 c2_i32_743
  let v996 : BitVec 32 := Scalar.extui v995
  let c0_i32_744 : BitVec 32 := 0#32
  let v997 : BitVec 1 := Scalar.cmpi .ne v996 c0_i32_744
  v997

def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_740 : BitVec 32 := 3#32
  let v992 : BitVec 32 := Scalar.addi v2 c3_i32_740
  let c32_i32_741 : BitVec 32 := 32#32
  let v993 : BitVec 32 := Scalar.remsi v992 c32_i32_741
  let c16_i32_2759 : BitVec 32 := 16#32
  let v3105 : BitVec 32 := Scalar.muli v993 c16_i32_2759
  let c0_i32_2767 : BitVec 32 := 0#32
  ![v3105.toNat, 0]
def k0_dev96 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_740 : BitVec 32 := 3#32
  let v992 : BitVec 32 := Scalar.addi v2 c3_i32_740
  let c32_i32_741 : BitVec 32 := 32#32
  let v993 : BitVec 32 := Scalar.remsi v992 c32_i32_741
  let c1_i32_2763 : BitVec 32 := 1#32
  let v3106 : BitVec 32 := Scalar.muli v993 c1_i32_2763
  let v3107 : BitVec 32 := Scalar.addi c0_i32_2764 v3106
  v3107.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_745 : BitVec 32 := 4#32
  let v998 : BitVec 32 := Scalar.addi v2 c4_i32_745
  let c32_i32_746 : BitVec 32 := 32#32
  let v999 : BitVec 32 := Scalar.remsi v998 c32_i32_746
  let c8_i32_747 : BitVec 32 := 8#32
  let v1000 : BitVec 32 := Scalar.divsi v999 c8_i32_747
  let c2_i32_748 : BitVec 32 := 2#32
  let v1001 : BitVec 1 := Scalar.cmpi .eq v1000 c2_i32_748
  let v1002 : BitVec 32 := Scalar.extui v1001
  let c0_i32_749 : BitVec 32 := 0#32
  let v1003 : BitVec 1 := Scalar.cmpi .ne v1002 c0_i32_749
  v1003

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_745 : BitVec 32 := 4#32
  let v998 : BitVec 32 := Scalar.addi v2 c4_i32_745
  let c32_i32_746 : BitVec 32 := 32#32
  let v999 : BitVec 32 := Scalar.remsi v998 c32_i32_746
  let c16_i32_2759 : BitVec 32 := 16#32
  let v3105 : BitVec 32 := Scalar.muli v999 c16_i32_2759
  let c0_i32_2767 : BitVec 32 := 0#32
  ![v3105.toNat, 0]
def k0_dev97 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_745 : BitVec 32 := 4#32
  let v998 : BitVec 32 := Scalar.addi v2 c4_i32_745
  let c32_i32_746 : BitVec 32 := 32#32
  let v999 : BitVec 32 := Scalar.remsi v998 c32_i32_746
  let c1_i32_2763 : BitVec 32 := 1#32
  let v3106 : BitVec 32 := Scalar.muli v999 c1_i32_2763
  let v3107 : BitVec 32 := Scalar.addi c0_i32_2764 v3106
  v3107.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_750 : BitVec 32 := 5#32
  let v1004 : BitVec 32 := Scalar.addi v2 c5_i32_750
  let c32_i32_751 : BitVec 32 := 32#32
  let v1005 : BitVec 32 := Scalar.remsi v1004 c32_i32_751
  let c8_i32_752 : BitVec 32 := 8#32
  let v1006 : BitVec 32 := Scalar.divsi v1005 c8_i32_752
  let c2_i32_753 : BitVec 32 := 2#32
  let v1007 : BitVec 1 := Scalar.cmpi .eq v1006 c2_i32_753
  let v1008 : BitVec 32 := Scalar.extui v1007
  let c0_i32_754 : BitVec 32 := 0#32
  let v1009 : BitVec 1 := Scalar.cmpi .ne v1008 c0_i32_754
  v1009

def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_750 : BitVec 32 := 5#32
  let v1004 : BitVec 32 := Scalar.addi v2 c5_i32_750
  let c32_i32_751 : BitVec 32 := 32#32
  let v1005 : BitVec 32 := Scalar.remsi v1004 c32_i32_751
  let c16_i32_2759 : BitVec 32 := 16#32
  let v3105 : BitVec 32 := Scalar.muli v1005 c16_i32_2759
  let c0_i32_2767 : BitVec 32 := 0#32
  ![v3105.toNat, 0]
def k0_dev98 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_750 : BitVec 32 := 5#32
  let v1004 : BitVec 32 := Scalar.addi v2 c5_i32_750
  let c32_i32_751 : BitVec 32 := 32#32
  let v1005 : BitVec 32 := Scalar.remsi v1004 c32_i32_751
  let c1_i32_2763 : BitVec 32 := 1#32
  let v3106 : BitVec 32 := Scalar.muli v1005 c1_i32_2763
  let v3107 : BitVec 32 := Scalar.addi c0_i32_2764 v3106
  v3107.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_755 : BitVec 32 := 6#32
  let v1010 : BitVec 32 := Scalar.addi v2 c6_i32_755
  let c32_i32_756 : BitVec 32 := 32#32
  let v1011 : BitVec 32 := Scalar.remsi v1010 c32_i32_756
  let c8_i32_757 : BitVec 32 := 8#32
  let v1012 : BitVec 32 := Scalar.divsi v1011 c8_i32_757
  let c2_i32_758 : BitVec 32 := 2#32
  let v1013 : BitVec 1 := Scalar.cmpi .eq v1012 c2_i32_758
  let v1014 : BitVec 32 := Scalar.extui v1013
  let c0_i32_759 : BitVec 32 := 0#32
  let v1015 : BitVec 1 := Scalar.cmpi .ne v1014 c0_i32_759
  v1015

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_755 : BitVec 32 := 6#32
  let v1010 : BitVec 32 := Scalar.addi v2 c6_i32_755
  let c32_i32_756 : BitVec 32 := 32#32
  let v1011 : BitVec 32 := Scalar.remsi v1010 c32_i32_756
  let c16_i32_2759 : BitVec 32 := 16#32
  let v3105 : BitVec 32 := Scalar.muli v1011 c16_i32_2759
  let c0_i32_2767 : BitVec 32 := 0#32
  ![v3105.toNat, 0]
def k0_dev99 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_755 : BitVec 32 := 6#32
  let v1010 : BitVec 32 := Scalar.addi v2 c6_i32_755
  let c32_i32_756 : BitVec 32 := 32#32
  let v1011 : BitVec 32 := Scalar.remsi v1010 c32_i32_756
  let c1_i32_2763 : BitVec 32 := 1#32
  let v3106 : BitVec 32 := Scalar.muli v1011 c1_i32_2763
  let v3107 : BitVec 32 := Scalar.addi c0_i32_2764 v3106
  v3107.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_760 : BitVec 32 := 7#32
  let v1016 : BitVec 32 := Scalar.addi v2 c7_i32_760
  let c32_i32_761 : BitVec 32 := 32#32
  let v1017 : BitVec 32 := Scalar.remsi v1016 c32_i32_761
  let c8_i32_762 : BitVec 32 := 8#32
  let v1018 : BitVec 32 := Scalar.divsi v1017 c8_i32_762
  let c2_i32_763 : BitVec 32 := 2#32
  let v1019 : BitVec 1 := Scalar.cmpi .eq v1018 c2_i32_763
  let v1020 : BitVec 32 := Scalar.extui v1019
  let c0_i32_764 : BitVec 32 := 0#32
  let v1021 : BitVec 1 := Scalar.cmpi .ne v1020 c0_i32_764
  v1021

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_760 : BitVec 32 := 7#32
  let v1016 : BitVec 32 := Scalar.addi v2 c7_i32_760
  let c32_i32_761 : BitVec 32 := 32#32
  let v1017 : BitVec 32 := Scalar.remsi v1016 c32_i32_761
  let c16_i32_2759 : BitVec 32 := 16#32
  let v3105 : BitVec 32 := Scalar.muli v1017 c16_i32_2759
  let c0_i32_2767 : BitVec 32 := 0#32
  ![v3105.toNat, 0]
def k0_dev100 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_760 : BitVec 32 := 7#32
  let v1016 : BitVec 32 := Scalar.addi v2 c7_i32_760
  let c32_i32_761 : BitVec 32 := 32#32
  let v1017 : BitVec 32 := Scalar.remsi v1016 c32_i32_761
  let c1_i32_2763 : BitVec 32 := 1#32
  let v3106 : BitVec 32 := Scalar.muli v1017 c1_i32_2763
  let v3107 : BitVec 32 := Scalar.addi c0_i32_2764 v3106
  v3107.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_765 : BitVec 32 := 8#32
  let v1022 : BitVec 32 := Scalar.addi v2 c8_i32_765
  let c32_i32_766 : BitVec 32 := 32#32
  let v1023 : BitVec 32 := Scalar.remsi v1022 c32_i32_766
  let c8_i32_767 : BitVec 32 := 8#32
  let v1024 : BitVec 32 := Scalar.divsi v1023 c8_i32_767
  let c2_i32_768 : BitVec 32 := 2#32
  let v1025 : BitVec 1 := Scalar.cmpi .eq v1024 c2_i32_768
  let v1026 : BitVec 32 := Scalar.extui v1025
  let c0_i32_769 : BitVec 32 := 0#32
  let v1027 : BitVec 1 := Scalar.cmpi .ne v1026 c0_i32_769
  v1027

def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_765 : BitVec 32 := 8#32
  let v1022 : BitVec 32 := Scalar.addi v2 c8_i32_765
  let c32_i32_766 : BitVec 32 := 32#32
  let v1023 : BitVec 32 := Scalar.remsi v1022 c32_i32_766
  let c16_i32_2759 : BitVec 32 := 16#32
  let v3105 : BitVec 32 := Scalar.muli v1023 c16_i32_2759
  let c0_i32_2767 : BitVec 32 := 0#32
  ![v3105.toNat, 0]
def k0_dev101 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_765 : BitVec 32 := 8#32
  let v1022 : BitVec 32 := Scalar.addi v2 c8_i32_765
  let c32_i32_766 : BitVec 32 := 32#32
  let v1023 : BitVec 32 := Scalar.remsi v1022 c32_i32_766
  let c1_i32_2763 : BitVec 32 := 1#32
  let v3106 : BitVec 32 := Scalar.muli v1023 c1_i32_2763
  let v3107 : BitVec 32 := Scalar.addi c0_i32_2764 v3106
  v3107.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_770 : BitVec 32 := 9#32
  let v1028 : BitVec 32 := Scalar.addi v2 c9_i32_770
  let c32_i32_771 : BitVec 32 := 32#32
  let v1029 : BitVec 32 := Scalar.remsi v1028 c32_i32_771
  let c8_i32_772 : BitVec 32 := 8#32
  let v1030 : BitVec 32 := Scalar.divsi v1029 c8_i32_772
  let c2_i32_773 : BitVec 32 := 2#32
  let v1031 : BitVec 1 := Scalar.cmpi .eq v1030 c2_i32_773
  let v1032 : BitVec 32 := Scalar.extui v1031
  let c0_i32_774 : BitVec 32 := 0#32
  let v1033 : BitVec 1 := Scalar.cmpi .ne v1032 c0_i32_774
  v1033

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_770 : BitVec 32 := 9#32
  let v1028 : BitVec 32 := Scalar.addi v2 c9_i32_770
  let c32_i32_771 : BitVec 32 := 32#32
  let v1029 : BitVec 32 := Scalar.remsi v1028 c32_i32_771
  let c16_i32_2759 : BitVec 32 := 16#32
  let v3105 : BitVec 32 := Scalar.muli v1029 c16_i32_2759
  let c0_i32_2767 : BitVec 32 := 0#32
  ![v3105.toNat, 0]
def k0_dev102 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_770 : BitVec 32 := 9#32
  let v1028 : BitVec 32 := Scalar.addi v2 c9_i32_770
  let c32_i32_771 : BitVec 32 := 32#32
  let v1029 : BitVec 32 := Scalar.remsi v1028 c32_i32_771
  let c1_i32_2763 : BitVec 32 := 1#32
  let v3106 : BitVec 32 := Scalar.muli v1029 c1_i32_2763
  let v3107 : BitVec 32 := Scalar.addi c0_i32_2764 v3106
  v3107.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_775 : BitVec 32 := 10#32
  let v1034 : BitVec 32 := Scalar.addi v2 c10_i32_775
  let c32_i32_776 : BitVec 32 := 32#32
  let v1035 : BitVec 32 := Scalar.remsi v1034 c32_i32_776
  let c8_i32_777 : BitVec 32 := 8#32
  let v1036 : BitVec 32 := Scalar.divsi v1035 c8_i32_777
  let c2_i32_778 : BitVec 32 := 2#32
  let v1037 : BitVec 1 := Scalar.cmpi .eq v1036 c2_i32_778
  let v1038 : BitVec 32 := Scalar.extui v1037
  let c0_i32_779 : BitVec 32 := 0#32
  let v1039 : BitVec 1 := Scalar.cmpi .ne v1038 c0_i32_779
  v1039

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_775 : BitVec 32 := 10#32
  let v1034 : BitVec 32 := Scalar.addi v2 c10_i32_775
  let c32_i32_776 : BitVec 32 := 32#32
  let v1035 : BitVec 32 := Scalar.remsi v1034 c32_i32_776
  let c16_i32_2759 : BitVec 32 := 16#32
  let v3105 : BitVec 32 := Scalar.muli v1035 c16_i32_2759
  let c0_i32_2767 : BitVec 32 := 0#32
  ![v3105.toNat, 0]
def k0_dev103 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_775 : BitVec 32 := 10#32
  let v1034 : BitVec 32 := Scalar.addi v2 c10_i32_775
  let c32_i32_776 : BitVec 32 := 32#32
  let v1035 : BitVec 32 := Scalar.remsi v1034 c32_i32_776
  let c1_i32_2763 : BitVec 32 := 1#32
  let v3106 : BitVec 32 := Scalar.muli v1035 c1_i32_2763
  let v3107 : BitVec 32 := Scalar.addi c0_i32_2764 v3106
  v3107.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_780 : BitVec 32 := 11#32
  let v1040 : BitVec 32 := Scalar.addi v2 c11_i32_780
  let c32_i32_781 : BitVec 32 := 32#32
  let v1041 : BitVec 32 := Scalar.remsi v1040 c32_i32_781
  let c8_i32_782 : BitVec 32 := 8#32
  let v1042 : BitVec 32 := Scalar.divsi v1041 c8_i32_782
  let c2_i32_783 : BitVec 32 := 2#32
  let v1043 : BitVec 1 := Scalar.cmpi .eq v1042 c2_i32_783
  let v1044 : BitVec 32 := Scalar.extui v1043
  let c0_i32_784 : BitVec 32 := 0#32
  let v1045 : BitVec 1 := Scalar.cmpi .ne v1044 c0_i32_784
  v1045

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_780 : BitVec 32 := 11#32
  let v1040 : BitVec 32 := Scalar.addi v2 c11_i32_780
  let c32_i32_781 : BitVec 32 := 32#32
  let v1041 : BitVec 32 := Scalar.remsi v1040 c32_i32_781
  let c16_i32_2759 : BitVec 32 := 16#32
  let v3105 : BitVec 32 := Scalar.muli v1041 c16_i32_2759
  let c0_i32_2767 : BitVec 32 := 0#32
  ![v3105.toNat, 0]
def k0_dev104 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_780 : BitVec 32 := 11#32
  let v1040 : BitVec 32 := Scalar.addi v2 c11_i32_780
  let c32_i32_781 : BitVec 32 := 32#32
  let v1041 : BitVec 32 := Scalar.remsi v1040 c32_i32_781
  let c1_i32_2763 : BitVec 32 := 1#32
  let v3106 : BitVec 32 := Scalar.muli v1041 c1_i32_2763
  let v3107 : BitVec 32 := Scalar.addi c0_i32_2764 v3106
  v3107.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_785 : BitVec 32 := 12#32
  let v1046 : BitVec 32 := Scalar.addi v2 c12_i32_785
  let c32_i32_786 : BitVec 32 := 32#32
  let v1047 : BitVec 32 := Scalar.remsi v1046 c32_i32_786
  let c8_i32_787 : BitVec 32 := 8#32
  let v1048 : BitVec 32 := Scalar.divsi v1047 c8_i32_787
  let c2_i32_788 : BitVec 32 := 2#32
  let v1049 : BitVec 1 := Scalar.cmpi .eq v1048 c2_i32_788
  let v1050 : BitVec 32 := Scalar.extui v1049
  let c0_i32_789 : BitVec 32 := 0#32
  let v1051 : BitVec 1 := Scalar.cmpi .ne v1050 c0_i32_789
  v1051

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_785 : BitVec 32 := 12#32
  let v1046 : BitVec 32 := Scalar.addi v2 c12_i32_785
  let c32_i32_786 : BitVec 32 := 32#32
  let v1047 : BitVec 32 := Scalar.remsi v1046 c32_i32_786
  let c16_i32_2759 : BitVec 32 := 16#32
  let v3105 : BitVec 32 := Scalar.muli v1047 c16_i32_2759
  let c0_i32_2767 : BitVec 32 := 0#32
  ![v3105.toNat, 0]
def k0_dev105 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_785 : BitVec 32 := 12#32
  let v1046 : BitVec 32 := Scalar.addi v2 c12_i32_785
  let c32_i32_786 : BitVec 32 := 32#32
  let v1047 : BitVec 32 := Scalar.remsi v1046 c32_i32_786
  let c1_i32_2763 : BitVec 32 := 1#32
  let v3106 : BitVec 32 := Scalar.muli v1047 c1_i32_2763
  let v3107 : BitVec 32 := Scalar.addi c0_i32_2764 v3106
  v3107.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_790 : BitVec 32 := 13#32
  let v1052 : BitVec 32 := Scalar.addi v2 c13_i32_790
  let c32_i32_791 : BitVec 32 := 32#32
  let v1053 : BitVec 32 := Scalar.remsi v1052 c32_i32_791
  let c8_i32_792 : BitVec 32 := 8#32
  let v1054 : BitVec 32 := Scalar.divsi v1053 c8_i32_792
  let c2_i32_793 : BitVec 32 := 2#32
  let v1055 : BitVec 1 := Scalar.cmpi .eq v1054 c2_i32_793
  let v1056 : BitVec 32 := Scalar.extui v1055
  let c0_i32_794 : BitVec 32 := 0#32
  let v1057 : BitVec 1 := Scalar.cmpi .ne v1056 c0_i32_794
  v1057

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_790 : BitVec 32 := 13#32
  let v1052 : BitVec 32 := Scalar.addi v2 c13_i32_790
  let c32_i32_791 : BitVec 32 := 32#32
  let v1053 : BitVec 32 := Scalar.remsi v1052 c32_i32_791
  let c16_i32_2759 : BitVec 32 := 16#32
  let v3105 : BitVec 32 := Scalar.muli v1053 c16_i32_2759
  let c0_i32_2767 : BitVec 32 := 0#32
  ![v3105.toNat, 0]
def k0_dev106 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_790 : BitVec 32 := 13#32
  let v1052 : BitVec 32 := Scalar.addi v2 c13_i32_790
  let c32_i32_791 : BitVec 32 := 32#32
  let v1053 : BitVec 32 := Scalar.remsi v1052 c32_i32_791
  let c1_i32_2763 : BitVec 32 := 1#32
  let v3106 : BitVec 32 := Scalar.muli v1053 c1_i32_2763
  let v3107 : BitVec 32 := Scalar.addi c0_i32_2764 v3106
  v3107.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_795 : BitVec 32 := 14#32
  let v1058 : BitVec 32 := Scalar.addi v2 c14_i32_795
  let c32_i32_796 : BitVec 32 := 32#32
  let v1059 : BitVec 32 := Scalar.remsi v1058 c32_i32_796
  let c8_i32_797 : BitVec 32 := 8#32
  let v1060 : BitVec 32 := Scalar.divsi v1059 c8_i32_797
  let c2_i32_798 : BitVec 32 := 2#32
  let v1061 : BitVec 1 := Scalar.cmpi .eq v1060 c2_i32_798
  let v1062 : BitVec 32 := Scalar.extui v1061
  let c0_i32_799 : BitVec 32 := 0#32
  let v1063 : BitVec 1 := Scalar.cmpi .ne v1062 c0_i32_799
  v1063

def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_795 : BitVec 32 := 14#32
  let v1058 : BitVec 32 := Scalar.addi v2 c14_i32_795
  let c32_i32_796 : BitVec 32 := 32#32
  let v1059 : BitVec 32 := Scalar.remsi v1058 c32_i32_796
  let c16_i32_2759 : BitVec 32 := 16#32
  let v3105 : BitVec 32 := Scalar.muli v1059 c16_i32_2759
  let c0_i32_2767 : BitVec 32 := 0#32
  ![v3105.toNat, 0]
def k0_dev107 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_795 : BitVec 32 := 14#32
  let v1058 : BitVec 32 := Scalar.addi v2 c14_i32_795
  let c32_i32_796 : BitVec 32 := 32#32
  let v1059 : BitVec 32 := Scalar.remsi v1058 c32_i32_796
  let c1_i32_2763 : BitVec 32 := 1#32
  let v3106 : BitVec 32 := Scalar.muli v1059 c1_i32_2763
  let v3107 : BitVec 32 := Scalar.addi c0_i32_2764 v3106
  v3107.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_800 : BitVec 32 := 15#32
  let v1064 : BitVec 32 := Scalar.addi v2 c15_i32_800
  let c32_i32_801 : BitVec 32 := 32#32
  let v1065 : BitVec 32 := Scalar.remsi v1064 c32_i32_801
  let c8_i32_802 : BitVec 32 := 8#32
  let v1066 : BitVec 32 := Scalar.divsi v1065 c8_i32_802
  let c2_i32_803 : BitVec 32 := 2#32
  let v1067 : BitVec 1 := Scalar.cmpi .eq v1066 c2_i32_803
  let v1068 : BitVec 32 := Scalar.extui v1067
  let c0_i32_804 : BitVec 32 := 0#32
  let v1069 : BitVec 1 := Scalar.cmpi .ne v1068 c0_i32_804
  v1069

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_800 : BitVec 32 := 15#32
  let v1064 : BitVec 32 := Scalar.addi v2 c15_i32_800
  let c32_i32_801 : BitVec 32 := 32#32
  let v1065 : BitVec 32 := Scalar.remsi v1064 c32_i32_801
  let c16_i32_2759 : BitVec 32 := 16#32
  let v3105 : BitVec 32 := Scalar.muli v1065 c16_i32_2759
  let c0_i32_2767 : BitVec 32 := 0#32
  ![v3105.toNat, 0]
def k0_dev108 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_800 : BitVec 32 := 15#32
  let v1064 : BitVec 32 := Scalar.addi v2 c15_i32_800
  let c32_i32_801 : BitVec 32 := 32#32
  let v1065 : BitVec 32 := Scalar.remsi v1064 c32_i32_801
  let c1_i32_2763 : BitVec 32 := 1#32
  let v3106 : BitVec 32 := Scalar.muli v1065 c1_i32_2763
  let v3107 : BitVec 32 := Scalar.addi c0_i32_2764 v3106
  v3107.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_805 : BitVec 32 := 16#32
  let v1070 : BitVec 32 := Scalar.addi v2 c16_i32_805
  let c32_i32_806 : BitVec 32 := 32#32
  let v1071 : BitVec 32 := Scalar.remsi v1070 c32_i32_806
  let c8_i32_807 : BitVec 32 := 8#32
  let v1072 : BitVec 32 := Scalar.divsi v1071 c8_i32_807
  let c2_i32_808 : BitVec 32 := 2#32
  let v1073 : BitVec 1 := Scalar.cmpi .eq v1072 c2_i32_808
  let v1074 : BitVec 32 := Scalar.extui v1073
  let c0_i32_809 : BitVec 32 := 0#32
  let v1075 : BitVec 1 := Scalar.cmpi .ne v1074 c0_i32_809
  v1075

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_805 : BitVec 32 := 16#32
  let v1070 : BitVec 32 := Scalar.addi v2 c16_i32_805
  let c32_i32_806 : BitVec 32 := 32#32
  let v1071 : BitVec 32 := Scalar.remsi v1070 c32_i32_806
  let c16_i32_2759 : BitVec 32 := 16#32
  let v3105 : BitVec 32 := Scalar.muli v1071 c16_i32_2759
  let c0_i32_2767 : BitVec 32 := 0#32
  ![v3105.toNat, 0]
def k0_dev109 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_805 : BitVec 32 := 16#32
  let v1070 : BitVec 32 := Scalar.addi v2 c16_i32_805
  let c32_i32_806 : BitVec 32 := 32#32
  let v1071 : BitVec 32 := Scalar.remsi v1070 c32_i32_806
  let c1_i32_2763 : BitVec 32 := 1#32
  let v3106 : BitVec 32 := Scalar.muli v1071 c1_i32_2763
  let v3107 : BitVec 32 := Scalar.addi c0_i32_2764 v3106
  v3107.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_810 : BitVec 32 := 17#32
  let v1076 : BitVec 32 := Scalar.addi v2 c17_i32_810
  let c32_i32_811 : BitVec 32 := 32#32
  let v1077 : BitVec 32 := Scalar.remsi v1076 c32_i32_811
  let c8_i32_812 : BitVec 32 := 8#32
  let v1078 : BitVec 32 := Scalar.divsi v1077 c8_i32_812
  let c2_i32_813 : BitVec 32 := 2#32
  let v1079 : BitVec 1 := Scalar.cmpi .eq v1078 c2_i32_813
  let v1080 : BitVec 32 := Scalar.extui v1079
  let c0_i32_814 : BitVec 32 := 0#32
  let v1081 : BitVec 1 := Scalar.cmpi .ne v1080 c0_i32_814
  v1081

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_810 : BitVec 32 := 17#32
  let v1076 : BitVec 32 := Scalar.addi v2 c17_i32_810
  let c32_i32_811 : BitVec 32 := 32#32
  let v1077 : BitVec 32 := Scalar.remsi v1076 c32_i32_811
  let c16_i32_2759 : BitVec 32 := 16#32
  let v3105 : BitVec 32 := Scalar.muli v1077 c16_i32_2759
  let c0_i32_2767 : BitVec 32 := 0#32
  ![v3105.toNat, 0]
def k0_dev110 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_810 : BitVec 32 := 17#32
  let v1076 : BitVec 32 := Scalar.addi v2 c17_i32_810
  let c32_i32_811 : BitVec 32 := 32#32
  let v1077 : BitVec 32 := Scalar.remsi v1076 c32_i32_811
  let c1_i32_2763 : BitVec 32 := 1#32
  let v3106 : BitVec 32 := Scalar.muli v1077 c1_i32_2763
  let v3107 : BitVec 32 := Scalar.addi c0_i32_2764 v3106
  v3107.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_815 : BitVec 32 := 18#32
  let v1082 : BitVec 32 := Scalar.addi v2 c18_i32_815
  let c32_i32_816 : BitVec 32 := 32#32
  let v1083 : BitVec 32 := Scalar.remsi v1082 c32_i32_816
  let c8_i32_817 : BitVec 32 := 8#32
  let v1084 : BitVec 32 := Scalar.divsi v1083 c8_i32_817
  let c2_i32_818 : BitVec 32 := 2#32
  let v1085 : BitVec 1 := Scalar.cmpi .eq v1084 c2_i32_818
  let v1086 : BitVec 32 := Scalar.extui v1085
  let c0_i32_819 : BitVec 32 := 0#32
  let v1087 : BitVec 1 := Scalar.cmpi .ne v1086 c0_i32_819
  v1087

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_815 : BitVec 32 := 18#32
  let v1082 : BitVec 32 := Scalar.addi v2 c18_i32_815
  let c32_i32_816 : BitVec 32 := 32#32
  let v1083 : BitVec 32 := Scalar.remsi v1082 c32_i32_816
  let c16_i32_2759 : BitVec 32 := 16#32
  let v3105 : BitVec 32 := Scalar.muli v1083 c16_i32_2759
  let c0_i32_2767 : BitVec 32 := 0#32
  ![v3105.toNat, 0]
def k0_dev111 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_815 : BitVec 32 := 18#32
  let v1082 : BitVec 32 := Scalar.addi v2 c18_i32_815
  let c32_i32_816 : BitVec 32 := 32#32
  let v1083 : BitVec 32 := Scalar.remsi v1082 c32_i32_816
  let c1_i32_2763 : BitVec 32 := 1#32
  let v3106 : BitVec 32 := Scalar.muli v1083 c1_i32_2763
  let v3107 : BitVec 32 := Scalar.addi c0_i32_2764 v3106
  v3107.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_820 : BitVec 32 := 19#32
  let v1088 : BitVec 32 := Scalar.addi v2 c19_i32_820
  let c32_i32_821 : BitVec 32 := 32#32
  let v1089 : BitVec 32 := Scalar.remsi v1088 c32_i32_821
  let c8_i32_822 : BitVec 32 := 8#32
  let v1090 : BitVec 32 := Scalar.divsi v1089 c8_i32_822
  let c2_i32_823 : BitVec 32 := 2#32
  let v1091 : BitVec 1 := Scalar.cmpi .eq v1090 c2_i32_823
  let v1092 : BitVec 32 := Scalar.extui v1091
  let c0_i32_824 : BitVec 32 := 0#32
  let v1093 : BitVec 1 := Scalar.cmpi .ne v1092 c0_i32_824
  v1093

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_820 : BitVec 32 := 19#32
  let v1088 : BitVec 32 := Scalar.addi v2 c19_i32_820
  let c32_i32_821 : BitVec 32 := 32#32
  let v1089 : BitVec 32 := Scalar.remsi v1088 c32_i32_821
  let c16_i32_2759 : BitVec 32 := 16#32
  let v3105 : BitVec 32 := Scalar.muli v1089 c16_i32_2759
  let c0_i32_2767 : BitVec 32 := 0#32
  ![v3105.toNat, 0]
def k0_dev112 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_820 : BitVec 32 := 19#32
  let v1088 : BitVec 32 := Scalar.addi v2 c19_i32_820
  let c32_i32_821 : BitVec 32 := 32#32
  let v1089 : BitVec 32 := Scalar.remsi v1088 c32_i32_821
  let c1_i32_2763 : BitVec 32 := 1#32
  let v3106 : BitVec 32 := Scalar.muli v1089 c1_i32_2763
  let v3107 : BitVec 32 := Scalar.addi c0_i32_2764 v3106
  v3107.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_825 : BitVec 32 := 20#32
  let v1094 : BitVec 32 := Scalar.addi v2 c20_i32_825
  let c32_i32_826 : BitVec 32 := 32#32
  let v1095 : BitVec 32 := Scalar.remsi v1094 c32_i32_826
  let c8_i32_827 : BitVec 32 := 8#32
  let v1096 : BitVec 32 := Scalar.divsi v1095 c8_i32_827
  let c2_i32_828 : BitVec 32 := 2#32
  let v1097 : BitVec 1 := Scalar.cmpi .eq v1096 c2_i32_828
  let v1098 : BitVec 32 := Scalar.extui v1097
  let c0_i32_829 : BitVec 32 := 0#32
  let v1099 : BitVec 1 := Scalar.cmpi .ne v1098 c0_i32_829
  v1099

def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_825 : BitVec 32 := 20#32
  let v1094 : BitVec 32 := Scalar.addi v2 c20_i32_825
  let c32_i32_826 : BitVec 32 := 32#32
  let v1095 : BitVec 32 := Scalar.remsi v1094 c32_i32_826
  let c16_i32_2759 : BitVec 32 := 16#32
  let v3105 : BitVec 32 := Scalar.muli v1095 c16_i32_2759
  let c0_i32_2767 : BitVec 32 := 0#32
  ![v3105.toNat, 0]
def k0_dev113 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_825 : BitVec 32 := 20#32
  let v1094 : BitVec 32 := Scalar.addi v2 c20_i32_825
  let c32_i32_826 : BitVec 32 := 32#32
  let v1095 : BitVec 32 := Scalar.remsi v1094 c32_i32_826
  let c1_i32_2763 : BitVec 32 := 1#32
  let v3106 : BitVec 32 := Scalar.muli v1095 c1_i32_2763
  let v3107 : BitVec 32 := Scalar.addi c0_i32_2764 v3106
  v3107.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_830 : BitVec 32 := 21#32
  let v1100 : BitVec 32 := Scalar.addi v2 c21_i32_830
  let c32_i32_831 : BitVec 32 := 32#32
  let v1101 : BitVec 32 := Scalar.remsi v1100 c32_i32_831
  let c8_i32_832 : BitVec 32 := 8#32
  let v1102 : BitVec 32 := Scalar.divsi v1101 c8_i32_832
  let c2_i32_833 : BitVec 32 := 2#32
  let v1103 : BitVec 1 := Scalar.cmpi .eq v1102 c2_i32_833
  let v1104 : BitVec 32 := Scalar.extui v1103
  let c0_i32_834 : BitVec 32 := 0#32
  let v1105 : BitVec 1 := Scalar.cmpi .ne v1104 c0_i32_834
  v1105

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_830 : BitVec 32 := 21#32
  let v1100 : BitVec 32 := Scalar.addi v2 c21_i32_830
  let c32_i32_831 : BitVec 32 := 32#32
  let v1101 : BitVec 32 := Scalar.remsi v1100 c32_i32_831
  let c16_i32_2759 : BitVec 32 := 16#32
  let v3105 : BitVec 32 := Scalar.muli v1101 c16_i32_2759
  let c0_i32_2767 : BitVec 32 := 0#32
  ![v3105.toNat, 0]
def k0_dev114 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_830 : BitVec 32 := 21#32
  let v1100 : BitVec 32 := Scalar.addi v2 c21_i32_830
  let c32_i32_831 : BitVec 32 := 32#32
  let v1101 : BitVec 32 := Scalar.remsi v1100 c32_i32_831
  let c1_i32_2763 : BitVec 32 := 1#32
  let v3106 : BitVec 32 := Scalar.muli v1101 c1_i32_2763
  let v3107 : BitVec 32 := Scalar.addi c0_i32_2764 v3106
  v3107.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_835 : BitVec 32 := 22#32
  let v1106 : BitVec 32 := Scalar.addi v2 c22_i32_835
  let c32_i32_836 : BitVec 32 := 32#32
  let v1107 : BitVec 32 := Scalar.remsi v1106 c32_i32_836
  let c8_i32_837 : BitVec 32 := 8#32
  let v1108 : BitVec 32 := Scalar.divsi v1107 c8_i32_837
  let c2_i32_838 : BitVec 32 := 2#32
  let v1109 : BitVec 1 := Scalar.cmpi .eq v1108 c2_i32_838
  let v1110 : BitVec 32 := Scalar.extui v1109
  let c0_i32_839 : BitVec 32 := 0#32
  let v1111 : BitVec 1 := Scalar.cmpi .ne v1110 c0_i32_839
  v1111

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_835 : BitVec 32 := 22#32
  let v1106 : BitVec 32 := Scalar.addi v2 c22_i32_835
  let c32_i32_836 : BitVec 32 := 32#32
  let v1107 : BitVec 32 := Scalar.remsi v1106 c32_i32_836
  let c16_i32_2759 : BitVec 32 := 16#32
  let v3105 : BitVec 32 := Scalar.muli v1107 c16_i32_2759
  let c0_i32_2767 : BitVec 32 := 0#32
  ![v3105.toNat, 0]
def k0_dev115 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_835 : BitVec 32 := 22#32
  let v1106 : BitVec 32 := Scalar.addi v2 c22_i32_835
  let c32_i32_836 : BitVec 32 := 32#32
  let v1107 : BitVec 32 := Scalar.remsi v1106 c32_i32_836
  let c1_i32_2763 : BitVec 32 := 1#32
  let v3106 : BitVec 32 := Scalar.muli v1107 c1_i32_2763
  let v3107 : BitVec 32 := Scalar.addi c0_i32_2764 v3106
  v3107.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_840 : BitVec 32 := 23#32
  let v1112 : BitVec 32 := Scalar.addi v2 c23_i32_840
  let c32_i32_841 : BitVec 32 := 32#32
  let v1113 : BitVec 32 := Scalar.remsi v1112 c32_i32_841
  let c8_i32_842 : BitVec 32 := 8#32
  let v1114 : BitVec 32 := Scalar.divsi v1113 c8_i32_842
  let c2_i32_843 : BitVec 32 := 2#32
  let v1115 : BitVec 1 := Scalar.cmpi .eq v1114 c2_i32_843
  let v1116 : BitVec 32 := Scalar.extui v1115
  let c0_i32_844 : BitVec 32 := 0#32
  let v1117 : BitVec 1 := Scalar.cmpi .ne v1116 c0_i32_844
  v1117

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_840 : BitVec 32 := 23#32
  let v1112 : BitVec 32 := Scalar.addi v2 c23_i32_840
  let c32_i32_841 : BitVec 32 := 32#32
  let v1113 : BitVec 32 := Scalar.remsi v1112 c32_i32_841
  let c16_i32_2759 : BitVec 32 := 16#32
  let v3105 : BitVec 32 := Scalar.muli v1113 c16_i32_2759
  let c0_i32_2767 : BitVec 32 := 0#32
  ![v3105.toNat, 0]
def k0_dev116 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_840 : BitVec 32 := 23#32
  let v1112 : BitVec 32 := Scalar.addi v2 c23_i32_840
  let c32_i32_841 : BitVec 32 := 32#32
  let v1113 : BitVec 32 := Scalar.remsi v1112 c32_i32_841
  let c1_i32_2763 : BitVec 32 := 1#32
  let v3106 : BitVec 32 := Scalar.muli v1113 c1_i32_2763
  let v3107 : BitVec 32 := Scalar.addi c0_i32_2764 v3106
  v3107.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_845 : BitVec 32 := 24#32
  let v1118 : BitVec 32 := Scalar.addi v2 c24_i32_845
  let c32_i32_846 : BitVec 32 := 32#32
  let v1119 : BitVec 32 := Scalar.remsi v1118 c32_i32_846
  let c8_i32_847 : BitVec 32 := 8#32
  let v1120 : BitVec 32 := Scalar.divsi v1119 c8_i32_847
  let c2_i32_848 : BitVec 32 := 2#32
  let v1121 : BitVec 1 := Scalar.cmpi .eq v1120 c2_i32_848
  let v1122 : BitVec 32 := Scalar.extui v1121
  let c0_i32_849 : BitVec 32 := 0#32
  let v1123 : BitVec 1 := Scalar.cmpi .ne v1122 c0_i32_849
  v1123

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_845 : BitVec 32 := 24#32
  let v1118 : BitVec 32 := Scalar.addi v2 c24_i32_845
  let c32_i32_846 : BitVec 32 := 32#32
  let v1119 : BitVec 32 := Scalar.remsi v1118 c32_i32_846
  let c16_i32_2759 : BitVec 32 := 16#32
  let v3105 : BitVec 32 := Scalar.muli v1119 c16_i32_2759
  let c0_i32_2767 : BitVec 32 := 0#32
  ![v3105.toNat, 0]
def k0_dev117 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_845 : BitVec 32 := 24#32
  let v1118 : BitVec 32 := Scalar.addi v2 c24_i32_845
  let c32_i32_846 : BitVec 32 := 32#32
  let v1119 : BitVec 32 := Scalar.remsi v1118 c32_i32_846
  let c1_i32_2763 : BitVec 32 := 1#32
  let v3106 : BitVec 32 := Scalar.muli v1119 c1_i32_2763
  let v3107 : BitVec 32 := Scalar.addi c0_i32_2764 v3106
  v3107.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_850 : BitVec 32 := 25#32
  let v1124 : BitVec 32 := Scalar.addi v2 c25_i32_850
  let c32_i32_851 : BitVec 32 := 32#32
  let v1125 : BitVec 32 := Scalar.remsi v1124 c32_i32_851
  let c8_i32_852 : BitVec 32 := 8#32
  let v1126 : BitVec 32 := Scalar.divsi v1125 c8_i32_852
  let c2_i32_853 : BitVec 32 := 2#32
  let v1127 : BitVec 1 := Scalar.cmpi .eq v1126 c2_i32_853
  let v1128 : BitVec 32 := Scalar.extui v1127
  let c0_i32_854 : BitVec 32 := 0#32
  let v1129 : BitVec 1 := Scalar.cmpi .ne v1128 c0_i32_854
  v1129

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_850 : BitVec 32 := 25#32
  let v1124 : BitVec 32 := Scalar.addi v2 c25_i32_850
  let c32_i32_851 : BitVec 32 := 32#32
  let v1125 : BitVec 32 := Scalar.remsi v1124 c32_i32_851
  let c16_i32_2759 : BitVec 32 := 16#32
  let v3105 : BitVec 32 := Scalar.muli v1125 c16_i32_2759
  let c0_i32_2767 : BitVec 32 := 0#32
  ![v3105.toNat, 0]
def k0_dev118 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_850 : BitVec 32 := 25#32
  let v1124 : BitVec 32 := Scalar.addi v2 c25_i32_850
  let c32_i32_851 : BitVec 32 := 32#32
  let v1125 : BitVec 32 := Scalar.remsi v1124 c32_i32_851
  let c1_i32_2763 : BitVec 32 := 1#32
  let v3106 : BitVec 32 := Scalar.muli v1125 c1_i32_2763
  let v3107 : BitVec 32 := Scalar.addi c0_i32_2764 v3106
  v3107.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_855 : BitVec 32 := 26#32
  let v1130 : BitVec 32 := Scalar.addi v2 c26_i32_855
  let c32_i32_856 : BitVec 32 := 32#32
  let v1131 : BitVec 32 := Scalar.remsi v1130 c32_i32_856
  let c8_i32_857 : BitVec 32 := 8#32
  let v1132 : BitVec 32 := Scalar.divsi v1131 c8_i32_857
  let c2_i32_858 : BitVec 32 := 2#32
  let v1133 : BitVec 1 := Scalar.cmpi .eq v1132 c2_i32_858
  let v1134 : BitVec 32 := Scalar.extui v1133
  let c0_i32_859 : BitVec 32 := 0#32
  let v1135 : BitVec 1 := Scalar.cmpi .ne v1134 c0_i32_859
  v1135

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_855 : BitVec 32 := 26#32
  let v1130 : BitVec 32 := Scalar.addi v2 c26_i32_855
  let c32_i32_856 : BitVec 32 := 32#32
  let v1131 : BitVec 32 := Scalar.remsi v1130 c32_i32_856
  let c16_i32_2759 : BitVec 32 := 16#32
  let v3105 : BitVec 32 := Scalar.muli v1131 c16_i32_2759
  let c0_i32_2767 : BitVec 32 := 0#32
  ![v3105.toNat, 0]
def k0_dev119 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_855 : BitVec 32 := 26#32
  let v1130 : BitVec 32 := Scalar.addi v2 c26_i32_855
  let c32_i32_856 : BitVec 32 := 32#32
  let v1131 : BitVec 32 := Scalar.remsi v1130 c32_i32_856
  let c1_i32_2763 : BitVec 32 := 1#32
  let v3106 : BitVec 32 := Scalar.muli v1131 c1_i32_2763
  let v3107 : BitVec 32 := Scalar.addi c0_i32_2764 v3106
  v3107.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_860 : BitVec 32 := 27#32
  let v1136 : BitVec 32 := Scalar.addi v2 c27_i32_860
  let c32_i32_861 : BitVec 32 := 32#32
  let v1137 : BitVec 32 := Scalar.remsi v1136 c32_i32_861
  let c8_i32_862 : BitVec 32 := 8#32
  let v1138 : BitVec 32 := Scalar.divsi v1137 c8_i32_862
  let c2_i32_863 : BitVec 32 := 2#32
  let v1139 : BitVec 1 := Scalar.cmpi .eq v1138 c2_i32_863
  let v1140 : BitVec 32 := Scalar.extui v1139
  let c0_i32_864 : BitVec 32 := 0#32
  let v1141 : BitVec 1 := Scalar.cmpi .ne v1140 c0_i32_864
  v1141

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_860 : BitVec 32 := 27#32
  let v1136 : BitVec 32 := Scalar.addi v2 c27_i32_860
  let c32_i32_861 : BitVec 32 := 32#32
  let v1137 : BitVec 32 := Scalar.remsi v1136 c32_i32_861
  let c16_i32_2759 : BitVec 32 := 16#32
  let v3105 : BitVec 32 := Scalar.muli v1137 c16_i32_2759
  let c0_i32_2767 : BitVec 32 := 0#32
  ![v3105.toNat, 0]
def k0_dev120 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_860 : BitVec 32 := 27#32
  let v1136 : BitVec 32 := Scalar.addi v2 c27_i32_860
  let c32_i32_861 : BitVec 32 := 32#32
  let v1137 : BitVec 32 := Scalar.remsi v1136 c32_i32_861
  let c1_i32_2763 : BitVec 32 := 1#32
  let v3106 : BitVec 32 := Scalar.muli v1137 c1_i32_2763
  let v3107 : BitVec 32 := Scalar.addi c0_i32_2764 v3106
  v3107.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_865 : BitVec 32 := 28#32
  let v1142 : BitVec 32 := Scalar.addi v2 c28_i32_865
  let c32_i32_866 : BitVec 32 := 32#32
  let v1143 : BitVec 32 := Scalar.remsi v1142 c32_i32_866
  let c8_i32_867 : BitVec 32 := 8#32
  let v1144 : BitVec 32 := Scalar.divsi v1143 c8_i32_867
  let c2_i32_868 : BitVec 32 := 2#32
  let v1145 : BitVec 1 := Scalar.cmpi .eq v1144 c2_i32_868
  let v1146 : BitVec 32 := Scalar.extui v1145
  let c0_i32_869 : BitVec 32 := 0#32
  let v1147 : BitVec 1 := Scalar.cmpi .ne v1146 c0_i32_869
  v1147

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_865 : BitVec 32 := 28#32
  let v1142 : BitVec 32 := Scalar.addi v2 c28_i32_865
  let c32_i32_866 : BitVec 32 := 32#32
  let v1143 : BitVec 32 := Scalar.remsi v1142 c32_i32_866
  let c16_i32_2759 : BitVec 32 := 16#32
  let v3105 : BitVec 32 := Scalar.muli v1143 c16_i32_2759
  let c0_i32_2767 : BitVec 32 := 0#32
  ![v3105.toNat, 0]
def k0_dev121 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_865 : BitVec 32 := 28#32
  let v1142 : BitVec 32 := Scalar.addi v2 c28_i32_865
  let c32_i32_866 : BitVec 32 := 32#32
  let v1143 : BitVec 32 := Scalar.remsi v1142 c32_i32_866
  let c1_i32_2763 : BitVec 32 := 1#32
  let v3106 : BitVec 32 := Scalar.muli v1143 c1_i32_2763
  let v3107 : BitVec 32 := Scalar.addi c0_i32_2764 v3106
  v3107.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_870 : BitVec 32 := 29#32
  let v1148 : BitVec 32 := Scalar.addi v2 c29_i32_870
  let c32_i32_871 : BitVec 32 := 32#32
  let v1149 : BitVec 32 := Scalar.remsi v1148 c32_i32_871
  let c8_i32_872 : BitVec 32 := 8#32
  let v1150 : BitVec 32 := Scalar.divsi v1149 c8_i32_872
  let c2_i32_873 : BitVec 32 := 2#32
  let v1151 : BitVec 1 := Scalar.cmpi .eq v1150 c2_i32_873
  let v1152 : BitVec 32 := Scalar.extui v1151
  let c0_i32_874 : BitVec 32 := 0#32
  let v1153 : BitVec 1 := Scalar.cmpi .ne v1152 c0_i32_874
  v1153

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_870 : BitVec 32 := 29#32
  let v1148 : BitVec 32 := Scalar.addi v2 c29_i32_870
  let c32_i32_871 : BitVec 32 := 32#32
  let v1149 : BitVec 32 := Scalar.remsi v1148 c32_i32_871
  let c16_i32_2759 : BitVec 32 := 16#32
  let v3105 : BitVec 32 := Scalar.muli v1149 c16_i32_2759
  let c0_i32_2767 : BitVec 32 := 0#32
  ![v3105.toNat, 0]
def k0_dev122 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_870 : BitVec 32 := 29#32
  let v1148 : BitVec 32 := Scalar.addi v2 c29_i32_870
  let c32_i32_871 : BitVec 32 := 32#32
  let v1149 : BitVec 32 := Scalar.remsi v1148 c32_i32_871
  let c1_i32_2763 : BitVec 32 := 1#32
  let v3106 : BitVec 32 := Scalar.muli v1149 c1_i32_2763
  let v3107 : BitVec 32 := Scalar.addi c0_i32_2764 v3106
  v3107.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_875 : BitVec 32 := 30#32
  let v1154 : BitVec 32 := Scalar.addi v2 c30_i32_875
  let c32_i32_876 : BitVec 32 := 32#32
  let v1155 : BitVec 32 := Scalar.remsi v1154 c32_i32_876
  let c8_i32_877 : BitVec 32 := 8#32
  let v1156 : BitVec 32 := Scalar.divsi v1155 c8_i32_877
  let c2_i32_878 : BitVec 32 := 2#32
  let v1157 : BitVec 1 := Scalar.cmpi .eq v1156 c2_i32_878
  let v1158 : BitVec 32 := Scalar.extui v1157
  let c0_i32_879 : BitVec 32 := 0#32
  let v1159 : BitVec 1 := Scalar.cmpi .ne v1158 c0_i32_879
  v1159

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_875 : BitVec 32 := 30#32
  let v1154 : BitVec 32 := Scalar.addi v2 c30_i32_875
  let c32_i32_876 : BitVec 32 := 32#32
  let v1155 : BitVec 32 := Scalar.remsi v1154 c32_i32_876
  let c16_i32_2759 : BitVec 32 := 16#32
  let v3105 : BitVec 32 := Scalar.muli v1155 c16_i32_2759
  let c0_i32_2767 : BitVec 32 := 0#32
  ![v3105.toNat, 0]
def k0_dev123 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_875 : BitVec 32 := 30#32
  let v1154 : BitVec 32 := Scalar.addi v2 c30_i32_875
  let c32_i32_876 : BitVec 32 := 32#32
  let v1155 : BitVec 32 := Scalar.remsi v1154 c32_i32_876
  let c1_i32_2763 : BitVec 32 := 1#32
  let v3106 : BitVec 32 := Scalar.muli v1155 c1_i32_2763
  let v3107 : BitVec 32 := Scalar.addi c0_i32_2764 v3106
  v3107.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_880 : BitVec 32 := 31#32
  let v1160 : BitVec 32 := Scalar.addi v2 c31_i32_880
  let c32_i32_881 : BitVec 32 := 32#32
  let v1161 : BitVec 32 := Scalar.remsi v1160 c32_i32_881
  let c8_i32_882 : BitVec 32 := 8#32
  let v1162 : BitVec 32 := Scalar.divsi v1161 c8_i32_882
  let c2_i32_883 : BitVec 32 := 2#32
  let v1163 : BitVec 1 := Scalar.cmpi .eq v1162 c2_i32_883
  let v1164 : BitVec 32 := Scalar.extui v1163
  let c0_i32_884 : BitVec 32 := 0#32
  let v1165 : BitVec 1 := Scalar.cmpi .ne v1164 c0_i32_884
  v1165

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_880 : BitVec 32 := 31#32
  let v1160 : BitVec 32 := Scalar.addi v2 c31_i32_880
  let c32_i32_881 : BitVec 32 := 32#32
  let v1161 : BitVec 32 := Scalar.remsi v1160 c32_i32_881
  let c16_i32_2759 : BitVec 32 := 16#32
  let v3105 : BitVec 32 := Scalar.muli v1161 c16_i32_2759
  let c0_i32_2767 : BitVec 32 := 0#32
  ![v3105.toNat, 0]
def k0_dev124 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_880 : BitVec 32 := 31#32
  let v1160 : BitVec 32 := Scalar.addi v2 c31_i32_880
  let c32_i32_881 : BitVec 32 := 32#32
  let v1161 : BitVec 32 := Scalar.remsi v1160 c32_i32_881
  let c1_i32_2763 : BitVec 32 := 1#32
  let v3106 : BitVec 32 := Scalar.muli v1161 c1_i32_2763
  let v3107 : BitVec 32 := Scalar.addi c0_i32_2764 v3106
  v3107.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_984 : BitVec 32 := 1#32
  let v1326 : BitVec 32 := Scalar.addi v2 c1_i32_984
  let c32_i32_985 : BitVec 32 := 32#32
  let v1327 : BitVec 32 := Scalar.remsi v1326 c32_i32_985
  let c8_i32_986 : BitVec 32 := 8#32
  let v1328 : BitVec 32 := Scalar.divsi v1327 c8_i32_986
  let c3_i32_987 : BitVec 32 := 3#32
  let v1329 : BitVec 1 := Scalar.cmpi .eq v1328 c3_i32_987
  let v1330 : BitVec 32 := Scalar.extui v1329
  let c0_i32_988 : BitVec 32 := 0#32
  let v1331 : BitVec 1 := Scalar.cmpi .ne v1330 c0_i32_988
  v1331

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_984 : BitVec 32 := 1#32
  let v1326 : BitVec 32 := Scalar.addi v2 c1_i32_984
  let c32_i32_985 : BitVec 32 := 32#32
  let v1327 : BitVec 32 := Scalar.remsi v1326 c32_i32_985
  let c16_i32_2759 : BitVec 32 := 16#32
  let v3105 : BitVec 32 := Scalar.muli v1327 c16_i32_2759
  let c0_i32_2767 : BitVec 32 := 0#32
  ![v3105.toNat, 0]
def k0_dev125 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_984 : BitVec 32 := 1#32
  let v1326 : BitVec 32 := Scalar.addi v2 c1_i32_984
  let c32_i32_985 : BitVec 32 := 32#32
  let v1327 : BitVec 32 := Scalar.remsi v1326 c32_i32_985
  let c1_i32_2763 : BitVec 32 := 1#32
  let v3106 : BitVec 32 := Scalar.muli v1327 c1_i32_2763
  let v3107 : BitVec 32 := Scalar.addi c0_i32_2764 v3106
  v3107.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_989 : BitVec 32 := 2#32
  let v1332 : BitVec 32 := Scalar.addi v2 c2_i32_989
  let c32_i32_990 : BitVec 32 := 32#32
  let v1333 : BitVec 32 := Scalar.remsi v1332 c32_i32_990
  let c8_i32_991 : BitVec 32 := 8#32
  let v1334 : BitVec 32 := Scalar.divsi v1333 c8_i32_991
  let c3_i32_992 : BitVec 32 := 3#32
  let v1335 : BitVec 1 := Scalar.cmpi .eq v1334 c3_i32_992
  let v1336 : BitVec 32 := Scalar.extui v1335
  let c0_i32_993 : BitVec 32 := 0#32
  let v1337 : BitVec 1 := Scalar.cmpi .ne v1336 c0_i32_993
  v1337

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_989 : BitVec 32 := 2#32
  let v1332 : BitVec 32 := Scalar.addi v2 c2_i32_989
  let c32_i32_990 : BitVec 32 := 32#32
  let v1333 : BitVec 32 := Scalar.remsi v1332 c32_i32_990
  let c16_i32_2759 : BitVec 32 := 16#32
  let v3105 : BitVec 32 := Scalar.muli v1333 c16_i32_2759
  let c0_i32_2767 : BitVec 32 := 0#32
  ![v3105.toNat, 0]
def k0_dev126 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_989 : BitVec 32 := 2#32
  let v1332 : BitVec 32 := Scalar.addi v2 c2_i32_989
  let c32_i32_990 : BitVec 32 := 32#32
  let v1333 : BitVec 32 := Scalar.remsi v1332 c32_i32_990
  let c1_i32_2763 : BitVec 32 := 1#32
  let v3106 : BitVec 32 := Scalar.muli v1333 c1_i32_2763
  let v3107 : BitVec 32 := Scalar.addi c0_i32_2764 v3106
  v3107.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_994 : BitVec 32 := 3#32
  let v1338 : BitVec 32 := Scalar.addi v2 c3_i32_994
  let c32_i32_995 : BitVec 32 := 32#32
  let v1339 : BitVec 32 := Scalar.remsi v1338 c32_i32_995
  let c8_i32_996 : BitVec 32 := 8#32
  let v1340 : BitVec 32 := Scalar.divsi v1339 c8_i32_996
  let c3_i32_997 : BitVec 32 := 3#32
  let v1341 : BitVec 1 := Scalar.cmpi .eq v1340 c3_i32_997
  let v1342 : BitVec 32 := Scalar.extui v1341
  let c0_i32_998 : BitVec 32 := 0#32
  let v1343 : BitVec 1 := Scalar.cmpi .ne v1342 c0_i32_998
  v1343

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_994 : BitVec 32 := 3#32
  let v1338 : BitVec 32 := Scalar.addi v2 c3_i32_994
  let c32_i32_995 : BitVec 32 := 32#32
  let v1339 : BitVec 32 := Scalar.remsi v1338 c32_i32_995
  let c16_i32_2759 : BitVec 32 := 16#32
  let v3105 : BitVec 32 := Scalar.muli v1339 c16_i32_2759
  let c0_i32_2767 : BitVec 32 := 0#32
  ![v3105.toNat, 0]
def k0_dev127 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_994 : BitVec 32 := 3#32
  let v1338 : BitVec 32 := Scalar.addi v2 c3_i32_994
  let c32_i32_995 : BitVec 32 := 32#32
  let v1339 : BitVec 32 := Scalar.remsi v1338 c32_i32_995
  let c1_i32_2763 : BitVec 32 := 1#32
  let v3106 : BitVec 32 := Scalar.muli v1339 c1_i32_2763
  let v3107 : BitVec 32 := Scalar.addi c0_i32_2764 v3106
  v3107.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_999 : BitVec 32 := 4#32
  let v1344 : BitVec 32 := Scalar.addi v2 c4_i32_999
  let c32_i32_1000 : BitVec 32 := 32#32
  let v1345 : BitVec 32 := Scalar.remsi v1344 c32_i32_1000
  let c8_i32_1001 : BitVec 32 := 8#32
  let v1346 : BitVec 32 := Scalar.divsi v1345 c8_i32_1001
  let c3_i32_1002 : BitVec 32 := 3#32
  let v1347 : BitVec 1 := Scalar.cmpi .eq v1346 c3_i32_1002
  let v1348 : BitVec 32 := Scalar.extui v1347
  let c0_i32_1003 : BitVec 32 := 0#32
  let v1349 : BitVec 1 := Scalar.cmpi .ne v1348 c0_i32_1003
  v1349

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_999 : BitVec 32 := 4#32
  let v1344 : BitVec 32 := Scalar.addi v2 c4_i32_999
  let c32_i32_1000 : BitVec 32 := 32#32
  let v1345 : BitVec 32 := Scalar.remsi v1344 c32_i32_1000
  let c16_i32_2759 : BitVec 32 := 16#32
  let v3105 : BitVec 32 := Scalar.muli v1345 c16_i32_2759
  let c0_i32_2767 : BitVec 32 := 0#32
  ![v3105.toNat, 0]
def k0_dev128 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_999 : BitVec 32 := 4#32
  let v1344 : BitVec 32 := Scalar.addi v2 c4_i32_999
  let c32_i32_1000 : BitVec 32 := 32#32
  let v1345 : BitVec 32 := Scalar.remsi v1344 c32_i32_1000
  let c1_i32_2763 : BitVec 32 := 1#32
  let v3106 : BitVec 32 := Scalar.muli v1345 c1_i32_2763
  let v3107 : BitVec 32 := Scalar.addi c0_i32_2764 v3106
  v3107.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1004 : BitVec 32 := 5#32
  let v1350 : BitVec 32 := Scalar.addi v2 c5_i32_1004
  let c32_i32_1005 : BitVec 32 := 32#32
  let v1351 : BitVec 32 := Scalar.remsi v1350 c32_i32_1005
  let c8_i32_1006 : BitVec 32 := 8#32
  let v1352 : BitVec 32 := Scalar.divsi v1351 c8_i32_1006
  let c3_i32_1007 : BitVec 32 := 3#32
  let v1353 : BitVec 1 := Scalar.cmpi .eq v1352 c3_i32_1007
  let v1354 : BitVec 32 := Scalar.extui v1353
  let c0_i32_1008 : BitVec 32 := 0#32
  let v1355 : BitVec 1 := Scalar.cmpi .ne v1354 c0_i32_1008
  v1355

def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1004 : BitVec 32 := 5#32
  let v1350 : BitVec 32 := Scalar.addi v2 c5_i32_1004
  let c32_i32_1005 : BitVec 32 := 32#32
  let v1351 : BitVec 32 := Scalar.remsi v1350 c32_i32_1005
  let c16_i32_2759 : BitVec 32 := 16#32
  let v3105 : BitVec 32 := Scalar.muli v1351 c16_i32_2759
  let c0_i32_2767 : BitVec 32 := 0#32
  ![v3105.toNat, 0]
def k0_dev129 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1004 : BitVec 32 := 5#32
  let v1350 : BitVec 32 := Scalar.addi v2 c5_i32_1004
  let c32_i32_1005 : BitVec 32 := 32#32
  let v1351 : BitVec 32 := Scalar.remsi v1350 c32_i32_1005
  let c1_i32_2763 : BitVec 32 := 1#32
  let v3106 : BitVec 32 := Scalar.muli v1351 c1_i32_2763
  let v3107 : BitVec 32 := Scalar.addi c0_i32_2764 v3106
  v3107.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1009 : BitVec 32 := 6#32
  let v1356 : BitVec 32 := Scalar.addi v2 c6_i32_1009
  let c32_i32_1010 : BitVec 32 := 32#32
  let v1357 : BitVec 32 := Scalar.remsi v1356 c32_i32_1010
  let c8_i32_1011 : BitVec 32 := 8#32
  let v1358 : BitVec 32 := Scalar.divsi v1357 c8_i32_1011
  let c3_i32_1012 : BitVec 32 := 3#32
  let v1359 : BitVec 1 := Scalar.cmpi .eq v1358 c3_i32_1012
  let v1360 : BitVec 32 := Scalar.extui v1359
  let c0_i32_1013 : BitVec 32 := 0#32
  let v1361 : BitVec 1 := Scalar.cmpi .ne v1360 c0_i32_1013
  v1361

def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1009 : BitVec 32 := 6#32
  let v1356 : BitVec 32 := Scalar.addi v2 c6_i32_1009
  let c32_i32_1010 : BitVec 32 := 32#32
  let v1357 : BitVec 32 := Scalar.remsi v1356 c32_i32_1010
  let c16_i32_2759 : BitVec 32 := 16#32
  let v3105 : BitVec 32 := Scalar.muli v1357 c16_i32_2759
  let c0_i32_2767 : BitVec 32 := 0#32
  ![v3105.toNat, 0]
def k0_dev130 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1009 : BitVec 32 := 6#32
  let v1356 : BitVec 32 := Scalar.addi v2 c6_i32_1009
  let c32_i32_1010 : BitVec 32 := 32#32
  let v1357 : BitVec 32 := Scalar.remsi v1356 c32_i32_1010
  let c1_i32_2763 : BitVec 32 := 1#32
  let v3106 : BitVec 32 := Scalar.muli v1357 c1_i32_2763
  let v3107 : BitVec 32 := Scalar.addi c0_i32_2764 v3106
  v3107.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1014 : BitVec 32 := 7#32
  let v1362 : BitVec 32 := Scalar.addi v2 c7_i32_1014
  let c32_i32_1015 : BitVec 32 := 32#32
  let v1363 : BitVec 32 := Scalar.remsi v1362 c32_i32_1015
  let c8_i32_1016 : BitVec 32 := 8#32
  let v1364 : BitVec 32 := Scalar.divsi v1363 c8_i32_1016
  let c3_i32_1017 : BitVec 32 := 3#32
  let v1365 : BitVec 1 := Scalar.cmpi .eq v1364 c3_i32_1017
  let v1366 : BitVec 32 := Scalar.extui v1365
  let c0_i32_1018 : BitVec 32 := 0#32
  let v1367 : BitVec 1 := Scalar.cmpi .ne v1366 c0_i32_1018
  v1367

def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1014 : BitVec 32 := 7#32
  let v1362 : BitVec 32 := Scalar.addi v2 c7_i32_1014
  let c32_i32_1015 : BitVec 32 := 32#32
  let v1363 : BitVec 32 := Scalar.remsi v1362 c32_i32_1015
  let c16_i32_2759 : BitVec 32 := 16#32
  let v3105 : BitVec 32 := Scalar.muli v1363 c16_i32_2759
  let c0_i32_2767 : BitVec 32 := 0#32
  ![v3105.toNat, 0]
def k0_dev131 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1014 : BitVec 32 := 7#32
  let v1362 : BitVec 32 := Scalar.addi v2 c7_i32_1014
  let c32_i32_1015 : BitVec 32 := 32#32
  let v1363 : BitVec 32 := Scalar.remsi v1362 c32_i32_1015
  let c1_i32_2763 : BitVec 32 := 1#32
  let v3106 : BitVec 32 := Scalar.muli v1363 c1_i32_2763
  let v3107 : BitVec 32 := Scalar.addi c0_i32_2764 v3106
  v3107.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1019 : BitVec 32 := 8#32
  let v1368 : BitVec 32 := Scalar.addi v2 c8_i32_1019
  let c32_i32_1020 : BitVec 32 := 32#32
  let v1369 : BitVec 32 := Scalar.remsi v1368 c32_i32_1020
  let c8_i32_1021 : BitVec 32 := 8#32
  let v1370 : BitVec 32 := Scalar.divsi v1369 c8_i32_1021
  let c3_i32_1022 : BitVec 32 := 3#32
  let v1371 : BitVec 1 := Scalar.cmpi .eq v1370 c3_i32_1022
  let v1372 : BitVec 32 := Scalar.extui v1371
  let c0_i32_1023 : BitVec 32 := 0#32
  let v1373 : BitVec 1 := Scalar.cmpi .ne v1372 c0_i32_1023
  v1373

def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1019 : BitVec 32 := 8#32
  let v1368 : BitVec 32 := Scalar.addi v2 c8_i32_1019
  let c32_i32_1020 : BitVec 32 := 32#32
  let v1369 : BitVec 32 := Scalar.remsi v1368 c32_i32_1020
  let c16_i32_2759 : BitVec 32 := 16#32
  let v3105 : BitVec 32 := Scalar.muli v1369 c16_i32_2759
  let c0_i32_2767 : BitVec 32 := 0#32
  ![v3105.toNat, 0]
def k0_dev132 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1019 : BitVec 32 := 8#32
  let v1368 : BitVec 32 := Scalar.addi v2 c8_i32_1019
  let c32_i32_1020 : BitVec 32 := 32#32
  let v1369 : BitVec 32 := Scalar.remsi v1368 c32_i32_1020
  let c1_i32_2763 : BitVec 32 := 1#32
  let v3106 : BitVec 32 := Scalar.muli v1369 c1_i32_2763
  let v3107 : BitVec 32 := Scalar.addi c0_i32_2764 v3106
  v3107.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1024 : BitVec 32 := 9#32
  let v1374 : BitVec 32 := Scalar.addi v2 c9_i32_1024
  let c32_i32_1025 : BitVec 32 := 32#32
  let v1375 : BitVec 32 := Scalar.remsi v1374 c32_i32_1025
  let c8_i32_1026 : BitVec 32 := 8#32
  let v1376 : BitVec 32 := Scalar.divsi v1375 c8_i32_1026
  let c3_i32_1027 : BitVec 32 := 3#32
  let v1377 : BitVec 1 := Scalar.cmpi .eq v1376 c3_i32_1027
  let v1378 : BitVec 32 := Scalar.extui v1377
  let c0_i32_1028 : BitVec 32 := 0#32
  let v1379 : BitVec 1 := Scalar.cmpi .ne v1378 c0_i32_1028
  v1379

def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1024 : BitVec 32 := 9#32
  let v1374 : BitVec 32 := Scalar.addi v2 c9_i32_1024
  let c32_i32_1025 : BitVec 32 := 32#32
  let v1375 : BitVec 32 := Scalar.remsi v1374 c32_i32_1025
  let c16_i32_2759 : BitVec 32 := 16#32
  let v3105 : BitVec 32 := Scalar.muli v1375 c16_i32_2759
  let c0_i32_2767 : BitVec 32 := 0#32
  ![v3105.toNat, 0]
def k0_dev133 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1024 : BitVec 32 := 9#32
  let v1374 : BitVec 32 := Scalar.addi v2 c9_i32_1024
  let c32_i32_1025 : BitVec 32 := 32#32
  let v1375 : BitVec 32 := Scalar.remsi v1374 c32_i32_1025
  let c1_i32_2763 : BitVec 32 := 1#32
  let v3106 : BitVec 32 := Scalar.muli v1375 c1_i32_2763
  let v3107 : BitVec 32 := Scalar.addi c0_i32_2764 v3106
  v3107.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1029 : BitVec 32 := 10#32
  let v1380 : BitVec 32 := Scalar.addi v2 c10_i32_1029
  let c32_i32_1030 : BitVec 32 := 32#32
  let v1381 : BitVec 32 := Scalar.remsi v1380 c32_i32_1030
  let c8_i32_1031 : BitVec 32 := 8#32
  let v1382 : BitVec 32 := Scalar.divsi v1381 c8_i32_1031
  let c3_i32_1032 : BitVec 32 := 3#32
  let v1383 : BitVec 1 := Scalar.cmpi .eq v1382 c3_i32_1032
  let v1384 : BitVec 32 := Scalar.extui v1383
  let c0_i32_1033 : BitVec 32 := 0#32
  let v1385 : BitVec 1 := Scalar.cmpi .ne v1384 c0_i32_1033
  v1385

def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1029 : BitVec 32 := 10#32
  let v1380 : BitVec 32 := Scalar.addi v2 c10_i32_1029
  let c32_i32_1030 : BitVec 32 := 32#32
  let v1381 : BitVec 32 := Scalar.remsi v1380 c32_i32_1030
  let c16_i32_2759 : BitVec 32 := 16#32
  let v3105 : BitVec 32 := Scalar.muli v1381 c16_i32_2759
  let c0_i32_2767 : BitVec 32 := 0#32
  ![v3105.toNat, 0]
def k0_dev134 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1029 : BitVec 32 := 10#32
  let v1380 : BitVec 32 := Scalar.addi v2 c10_i32_1029
  let c32_i32_1030 : BitVec 32 := 32#32
  let v1381 : BitVec 32 := Scalar.remsi v1380 c32_i32_1030
  let c1_i32_2763 : BitVec 32 := 1#32
  let v3106 : BitVec 32 := Scalar.muli v1381 c1_i32_2763
  let v3107 : BitVec 32 := Scalar.addi c0_i32_2764 v3106
  v3107.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1034 : BitVec 32 := 11#32
  let v1386 : BitVec 32 := Scalar.addi v2 c11_i32_1034
  let c32_i32_1035 : BitVec 32 := 32#32
  let v1387 : BitVec 32 := Scalar.remsi v1386 c32_i32_1035
  let c8_i32_1036 : BitVec 32 := 8#32
  let v1388 : BitVec 32 := Scalar.divsi v1387 c8_i32_1036
  let c3_i32_1037 : BitVec 32 := 3#32
  let v1389 : BitVec 1 := Scalar.cmpi .eq v1388 c3_i32_1037
  let v1390 : BitVec 32 := Scalar.extui v1389
  let c0_i32_1038 : BitVec 32 := 0#32
  let v1391 : BitVec 1 := Scalar.cmpi .ne v1390 c0_i32_1038
  v1391

def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1034 : BitVec 32 := 11#32
  let v1386 : BitVec 32 := Scalar.addi v2 c11_i32_1034
  let c32_i32_1035 : BitVec 32 := 32#32
  let v1387 : BitVec 32 := Scalar.remsi v1386 c32_i32_1035
  let c16_i32_2759 : BitVec 32 := 16#32
  let v3105 : BitVec 32 := Scalar.muli v1387 c16_i32_2759
  let c0_i32_2767 : BitVec 32 := 0#32
  ![v3105.toNat, 0]
def k0_dev135 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1034 : BitVec 32 := 11#32
  let v1386 : BitVec 32 := Scalar.addi v2 c11_i32_1034
  let c32_i32_1035 : BitVec 32 := 32#32
  let v1387 : BitVec 32 := Scalar.remsi v1386 c32_i32_1035
  let c1_i32_2763 : BitVec 32 := 1#32
  let v3106 : BitVec 32 := Scalar.muli v1387 c1_i32_2763
  let v3107 : BitVec 32 := Scalar.addi c0_i32_2764 v3106
  v3107.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1039 : BitVec 32 := 12#32
  let v1392 : BitVec 32 := Scalar.addi v2 c12_i32_1039
  let c32_i32_1040 : BitVec 32 := 32#32
  let v1393 : BitVec 32 := Scalar.remsi v1392 c32_i32_1040
  let c8_i32_1041 : BitVec 32 := 8#32
  let v1394 : BitVec 32 := Scalar.divsi v1393 c8_i32_1041
  let c3_i32_1042 : BitVec 32 := 3#32
  let v1395 : BitVec 1 := Scalar.cmpi .eq v1394 c3_i32_1042
  let v1396 : BitVec 32 := Scalar.extui v1395
  let c0_i32_1043 : BitVec 32 := 0#32
  let v1397 : BitVec 1 := Scalar.cmpi .ne v1396 c0_i32_1043
  v1397

def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1039 : BitVec 32 := 12#32
  let v1392 : BitVec 32 := Scalar.addi v2 c12_i32_1039
  let c32_i32_1040 : BitVec 32 := 32#32
  let v1393 : BitVec 32 := Scalar.remsi v1392 c32_i32_1040
  let c16_i32_2759 : BitVec 32 := 16#32
  let v3105 : BitVec 32 := Scalar.muli v1393 c16_i32_2759
  let c0_i32_2767 : BitVec 32 := 0#32
  ![v3105.toNat, 0]
def k0_dev136 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1039 : BitVec 32 := 12#32
  let v1392 : BitVec 32 := Scalar.addi v2 c12_i32_1039
  let c32_i32_1040 : BitVec 32 := 32#32
  let v1393 : BitVec 32 := Scalar.remsi v1392 c32_i32_1040
  let c1_i32_2763 : BitVec 32 := 1#32
  let v3106 : BitVec 32 := Scalar.muli v1393 c1_i32_2763
  let v3107 : BitVec 32 := Scalar.addi c0_i32_2764 v3106
  v3107.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1044 : BitVec 32 := 13#32
  let v1398 : BitVec 32 := Scalar.addi v2 c13_i32_1044
  let c32_i32_1045 : BitVec 32 := 32#32
  let v1399 : BitVec 32 := Scalar.remsi v1398 c32_i32_1045
  let c8_i32_1046 : BitVec 32 := 8#32
  let v1400 : BitVec 32 := Scalar.divsi v1399 c8_i32_1046
  let c3_i32_1047 : BitVec 32 := 3#32
  let v1401 : BitVec 1 := Scalar.cmpi .eq v1400 c3_i32_1047
  let v1402 : BitVec 32 := Scalar.extui v1401
  let c0_i32_1048 : BitVec 32 := 0#32
  let v1403 : BitVec 1 := Scalar.cmpi .ne v1402 c0_i32_1048
  v1403

def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1044 : BitVec 32 := 13#32
  let v1398 : BitVec 32 := Scalar.addi v2 c13_i32_1044
  let c32_i32_1045 : BitVec 32 := 32#32
  let v1399 : BitVec 32 := Scalar.remsi v1398 c32_i32_1045
  let c16_i32_2759 : BitVec 32 := 16#32
  let v3105 : BitVec 32 := Scalar.muli v1399 c16_i32_2759
  let c0_i32_2767 : BitVec 32 := 0#32
  ![v3105.toNat, 0]
def k0_dev137 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1044 : BitVec 32 := 13#32
  let v1398 : BitVec 32 := Scalar.addi v2 c13_i32_1044
  let c32_i32_1045 : BitVec 32 := 32#32
  let v1399 : BitVec 32 := Scalar.remsi v1398 c32_i32_1045
  let c1_i32_2763 : BitVec 32 := 1#32
  let v3106 : BitVec 32 := Scalar.muli v1399 c1_i32_2763
  let v3107 : BitVec 32 := Scalar.addi c0_i32_2764 v3106
  v3107.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1049 : BitVec 32 := 14#32
  let v1404 : BitVec 32 := Scalar.addi v2 c14_i32_1049
  let c32_i32_1050 : BitVec 32 := 32#32
  let v1405 : BitVec 32 := Scalar.remsi v1404 c32_i32_1050
  let c8_i32_1051 : BitVec 32 := 8#32
  let v1406 : BitVec 32 := Scalar.divsi v1405 c8_i32_1051
  let c3_i32_1052 : BitVec 32 := 3#32
  let v1407 : BitVec 1 := Scalar.cmpi .eq v1406 c3_i32_1052
  let v1408 : BitVec 32 := Scalar.extui v1407
  let c0_i32_1053 : BitVec 32 := 0#32
  let v1409 : BitVec 1 := Scalar.cmpi .ne v1408 c0_i32_1053
  v1409

def k0_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1049 : BitVec 32 := 14#32
  let v1404 : BitVec 32 := Scalar.addi v2 c14_i32_1049
  let c32_i32_1050 : BitVec 32 := 32#32
  let v1405 : BitVec 32 := Scalar.remsi v1404 c32_i32_1050
  let c16_i32_2759 : BitVec 32 := 16#32
  let v3105 : BitVec 32 := Scalar.muli v1405 c16_i32_2759
  let c0_i32_2767 : BitVec 32 := 0#32
  ![v3105.toNat, 0]
def k0_dev138 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1049 : BitVec 32 := 14#32
  let v1404 : BitVec 32 := Scalar.addi v2 c14_i32_1049
  let c32_i32_1050 : BitVec 32 := 32#32
  let v1405 : BitVec 32 := Scalar.remsi v1404 c32_i32_1050
  let c1_i32_2763 : BitVec 32 := 1#32
  let v3106 : BitVec 32 := Scalar.muli v1405 c1_i32_2763
  let v3107 : BitVec 32 := Scalar.addi c0_i32_2764 v3106
  v3107.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1054 : BitVec 32 := 15#32
  let v1410 : BitVec 32 := Scalar.addi v2 c15_i32_1054
  let c32_i32_1055 : BitVec 32 := 32#32
  let v1411 : BitVec 32 := Scalar.remsi v1410 c32_i32_1055
  let c8_i32_1056 : BitVec 32 := 8#32
  let v1412 : BitVec 32 := Scalar.divsi v1411 c8_i32_1056
  let c3_i32_1057 : BitVec 32 := 3#32
  let v1413 : BitVec 1 := Scalar.cmpi .eq v1412 c3_i32_1057
  let v1414 : BitVec 32 := Scalar.extui v1413
  let c0_i32_1058 : BitVec 32 := 0#32
  let v1415 : BitVec 1 := Scalar.cmpi .ne v1414 c0_i32_1058
  v1415

def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1054 : BitVec 32 := 15#32
  let v1410 : BitVec 32 := Scalar.addi v2 c15_i32_1054
  let c32_i32_1055 : BitVec 32 := 32#32
  let v1411 : BitVec 32 := Scalar.remsi v1410 c32_i32_1055
  let c16_i32_2759 : BitVec 32 := 16#32
  let v3105 : BitVec 32 := Scalar.muli v1411 c16_i32_2759
  let c0_i32_2767 : BitVec 32 := 0#32
  ![v3105.toNat, 0]
def k0_dev139 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1054 : BitVec 32 := 15#32
  let v1410 : BitVec 32 := Scalar.addi v2 c15_i32_1054
  let c32_i32_1055 : BitVec 32 := 32#32
  let v1411 : BitVec 32 := Scalar.remsi v1410 c32_i32_1055
  let c1_i32_2763 : BitVec 32 := 1#32
  let v3106 : BitVec 32 := Scalar.muli v1411 c1_i32_2763
  let v3107 : BitVec 32 := Scalar.addi c0_i32_2764 v3106
  v3107.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1059 : BitVec 32 := 16#32
  let v1416 : BitVec 32 := Scalar.addi v2 c16_i32_1059
  let c32_i32_1060 : BitVec 32 := 32#32
  let v1417 : BitVec 32 := Scalar.remsi v1416 c32_i32_1060
  let c8_i32_1061 : BitVec 32 := 8#32
  let v1418 : BitVec 32 := Scalar.divsi v1417 c8_i32_1061
  let c3_i32_1062 : BitVec 32 := 3#32
  let v1419 : BitVec 1 := Scalar.cmpi .eq v1418 c3_i32_1062
  let v1420 : BitVec 32 := Scalar.extui v1419
  let c0_i32_1063 : BitVec 32 := 0#32
  let v1421 : BitVec 1 := Scalar.cmpi .ne v1420 c0_i32_1063
  v1421

def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1059 : BitVec 32 := 16#32
  let v1416 : BitVec 32 := Scalar.addi v2 c16_i32_1059
  let c32_i32_1060 : BitVec 32 := 32#32
  let v1417 : BitVec 32 := Scalar.remsi v1416 c32_i32_1060
  let c16_i32_2759 : BitVec 32 := 16#32
  let v3105 : BitVec 32 := Scalar.muli v1417 c16_i32_2759
  let c0_i32_2767 : BitVec 32 := 0#32
  ![v3105.toNat, 0]
def k0_dev140 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1059 : BitVec 32 := 16#32
  let v1416 : BitVec 32 := Scalar.addi v2 c16_i32_1059
  let c32_i32_1060 : BitVec 32 := 32#32
  let v1417 : BitVec 32 := Scalar.remsi v1416 c32_i32_1060
  let c1_i32_2763 : BitVec 32 := 1#32
  let v3106 : BitVec 32 := Scalar.muli v1417 c1_i32_2763
  let v3107 : BitVec 32 := Scalar.addi c0_i32_2764 v3106
  v3107.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1064 : BitVec 32 := 17#32
  let v1422 : BitVec 32 := Scalar.addi v2 c17_i32_1064
  let c32_i32_1065 : BitVec 32 := 32#32
  let v1423 : BitVec 32 := Scalar.remsi v1422 c32_i32_1065
  let c8_i32_1066 : BitVec 32 := 8#32
  let v1424 : BitVec 32 := Scalar.divsi v1423 c8_i32_1066
  let c3_i32_1067 : BitVec 32 := 3#32
  let v1425 : BitVec 1 := Scalar.cmpi .eq v1424 c3_i32_1067
  let v1426 : BitVec 32 := Scalar.extui v1425
  let c0_i32_1068 : BitVec 32 := 0#32
  let v1427 : BitVec 1 := Scalar.cmpi .ne v1426 c0_i32_1068
  v1427

def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1064 : BitVec 32 := 17#32
  let v1422 : BitVec 32 := Scalar.addi v2 c17_i32_1064
  let c32_i32_1065 : BitVec 32 := 32#32
  let v1423 : BitVec 32 := Scalar.remsi v1422 c32_i32_1065
  let c16_i32_2759 : BitVec 32 := 16#32
  let v3105 : BitVec 32 := Scalar.muli v1423 c16_i32_2759
  let c0_i32_2767 : BitVec 32 := 0#32
  ![v3105.toNat, 0]
def k0_dev141 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1064 : BitVec 32 := 17#32
  let v1422 : BitVec 32 := Scalar.addi v2 c17_i32_1064
  let c32_i32_1065 : BitVec 32 := 32#32
  let v1423 : BitVec 32 := Scalar.remsi v1422 c32_i32_1065
  let c1_i32_2763 : BitVec 32 := 1#32
  let v3106 : BitVec 32 := Scalar.muli v1423 c1_i32_2763
  let v3107 : BitVec 32 := Scalar.addi c0_i32_2764 v3106
  v3107.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1069 : BitVec 32 := 18#32
  let v1428 : BitVec 32 := Scalar.addi v2 c18_i32_1069
  let c32_i32_1070 : BitVec 32 := 32#32
  let v1429 : BitVec 32 := Scalar.remsi v1428 c32_i32_1070
  let c8_i32_1071 : BitVec 32 := 8#32
  let v1430 : BitVec 32 := Scalar.divsi v1429 c8_i32_1071
  let c3_i32_1072 : BitVec 32 := 3#32
  let v1431 : BitVec 1 := Scalar.cmpi .eq v1430 c3_i32_1072
  let v1432 : BitVec 32 := Scalar.extui v1431
  let c0_i32_1073 : BitVec 32 := 0#32
  let v1433 : BitVec 1 := Scalar.cmpi .ne v1432 c0_i32_1073
  v1433

def k0_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1069 : BitVec 32 := 18#32
  let v1428 : BitVec 32 := Scalar.addi v2 c18_i32_1069
  let c32_i32_1070 : BitVec 32 := 32#32
  let v1429 : BitVec 32 := Scalar.remsi v1428 c32_i32_1070
  let c16_i32_2759 : BitVec 32 := 16#32
  let v3105 : BitVec 32 := Scalar.muli v1429 c16_i32_2759
  let c0_i32_2767 : BitVec 32 := 0#32
  ![v3105.toNat, 0]
def k0_dev142 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1069 : BitVec 32 := 18#32
  let v1428 : BitVec 32 := Scalar.addi v2 c18_i32_1069
  let c32_i32_1070 : BitVec 32 := 32#32
  let v1429 : BitVec 32 := Scalar.remsi v1428 c32_i32_1070
  let c1_i32_2763 : BitVec 32 := 1#32
  let v3106 : BitVec 32 := Scalar.muli v1429 c1_i32_2763
  let v3107 : BitVec 32 := Scalar.addi c0_i32_2764 v3106
  v3107.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1074 : BitVec 32 := 19#32
  let v1434 : BitVec 32 := Scalar.addi v2 c19_i32_1074
  let c32_i32_1075 : BitVec 32 := 32#32
  let v1435 : BitVec 32 := Scalar.remsi v1434 c32_i32_1075
  let c8_i32_1076 : BitVec 32 := 8#32
  let v1436 : BitVec 32 := Scalar.divsi v1435 c8_i32_1076
  let c3_i32_1077 : BitVec 32 := 3#32
  let v1437 : BitVec 1 := Scalar.cmpi .eq v1436 c3_i32_1077
  let v1438 : BitVec 32 := Scalar.extui v1437
  let c0_i32_1078 : BitVec 32 := 0#32
  let v1439 : BitVec 1 := Scalar.cmpi .ne v1438 c0_i32_1078
  v1439

def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1074 : BitVec 32 := 19#32
  let v1434 : BitVec 32 := Scalar.addi v2 c19_i32_1074
  let c32_i32_1075 : BitVec 32 := 32#32
  let v1435 : BitVec 32 := Scalar.remsi v1434 c32_i32_1075
  let c16_i32_2759 : BitVec 32 := 16#32
  let v3105 : BitVec 32 := Scalar.muli v1435 c16_i32_2759
  let c0_i32_2767 : BitVec 32 := 0#32
  ![v3105.toNat, 0]
def k0_dev143 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1074 : BitVec 32 := 19#32
  let v1434 : BitVec 32 := Scalar.addi v2 c19_i32_1074
  let c32_i32_1075 : BitVec 32 := 32#32
  let v1435 : BitVec 32 := Scalar.remsi v1434 c32_i32_1075
  let c1_i32_2763 : BitVec 32 := 1#32
  let v3106 : BitVec 32 := Scalar.muli v1435 c1_i32_2763
  let v3107 : BitVec 32 := Scalar.addi c0_i32_2764 v3106
  v3107.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1079 : BitVec 32 := 20#32
  let v1440 : BitVec 32 := Scalar.addi v2 c20_i32_1079
  let c32_i32_1080 : BitVec 32 := 32#32
  let v1441 : BitVec 32 := Scalar.remsi v1440 c32_i32_1080
  let c8_i32_1081 : BitVec 32 := 8#32
  let v1442 : BitVec 32 := Scalar.divsi v1441 c8_i32_1081
  let c3_i32_1082 : BitVec 32 := 3#32
  let v1443 : BitVec 1 := Scalar.cmpi .eq v1442 c3_i32_1082
  let v1444 : BitVec 32 := Scalar.extui v1443
  let c0_i32_1083 : BitVec 32 := 0#32
  let v1445 : BitVec 1 := Scalar.cmpi .ne v1444 c0_i32_1083
  v1445

def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1079 : BitVec 32 := 20#32
  let v1440 : BitVec 32 := Scalar.addi v2 c20_i32_1079
  let c32_i32_1080 : BitVec 32 := 32#32
  let v1441 : BitVec 32 := Scalar.remsi v1440 c32_i32_1080
  let c16_i32_2759 : BitVec 32 := 16#32
  let v3105 : BitVec 32 := Scalar.muli v1441 c16_i32_2759
  let c0_i32_2767 : BitVec 32 := 0#32
  ![v3105.toNat, 0]
def k0_dev144 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1079 : BitVec 32 := 20#32
  let v1440 : BitVec 32 := Scalar.addi v2 c20_i32_1079
  let c32_i32_1080 : BitVec 32 := 32#32
  let v1441 : BitVec 32 := Scalar.remsi v1440 c32_i32_1080
  let c1_i32_2763 : BitVec 32 := 1#32
  let v3106 : BitVec 32 := Scalar.muli v1441 c1_i32_2763
  let v3107 : BitVec 32 := Scalar.addi c0_i32_2764 v3106
  v3107.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1084 : BitVec 32 := 21#32
  let v1446 : BitVec 32 := Scalar.addi v2 c21_i32_1084
  let c32_i32_1085 : BitVec 32 := 32#32
  let v1447 : BitVec 32 := Scalar.remsi v1446 c32_i32_1085
  let c8_i32_1086 : BitVec 32 := 8#32
  let v1448 : BitVec 32 := Scalar.divsi v1447 c8_i32_1086
  let c3_i32_1087 : BitVec 32 := 3#32
  let v1449 : BitVec 1 := Scalar.cmpi .eq v1448 c3_i32_1087
  let v1450 : BitVec 32 := Scalar.extui v1449
  let c0_i32_1088 : BitVec 32 := 0#32
  let v1451 : BitVec 1 := Scalar.cmpi .ne v1450 c0_i32_1088
  v1451

def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1084 : BitVec 32 := 21#32
  let v1446 : BitVec 32 := Scalar.addi v2 c21_i32_1084
  let c32_i32_1085 : BitVec 32 := 32#32
  let v1447 : BitVec 32 := Scalar.remsi v1446 c32_i32_1085
  let c16_i32_2759 : BitVec 32 := 16#32
  let v3105 : BitVec 32 := Scalar.muli v1447 c16_i32_2759
  let c0_i32_2767 : BitVec 32 := 0#32
  ![v3105.toNat, 0]
def k0_dev145 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1084 : BitVec 32 := 21#32
  let v1446 : BitVec 32 := Scalar.addi v2 c21_i32_1084
  let c32_i32_1085 : BitVec 32 := 32#32
  let v1447 : BitVec 32 := Scalar.remsi v1446 c32_i32_1085
  let c1_i32_2763 : BitVec 32 := 1#32
  let v3106 : BitVec 32 := Scalar.muli v1447 c1_i32_2763
  let v3107 : BitVec 32 := Scalar.addi c0_i32_2764 v3106
  v3107.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1089 : BitVec 32 := 22#32
  let v1452 : BitVec 32 := Scalar.addi v2 c22_i32_1089
  let c32_i32_1090 : BitVec 32 := 32#32
  let v1453 : BitVec 32 := Scalar.remsi v1452 c32_i32_1090
  let c8_i32_1091 : BitVec 32 := 8#32
  let v1454 : BitVec 32 := Scalar.divsi v1453 c8_i32_1091
  let c3_i32_1092 : BitVec 32 := 3#32
  let v1455 : BitVec 1 := Scalar.cmpi .eq v1454 c3_i32_1092
  let v1456 : BitVec 32 := Scalar.extui v1455
  let c0_i32_1093 : BitVec 32 := 0#32
  let v1457 : BitVec 1 := Scalar.cmpi .ne v1456 c0_i32_1093
  v1457

def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1089 : BitVec 32 := 22#32
  let v1452 : BitVec 32 := Scalar.addi v2 c22_i32_1089
  let c32_i32_1090 : BitVec 32 := 32#32
  let v1453 : BitVec 32 := Scalar.remsi v1452 c32_i32_1090
  let c16_i32_2759 : BitVec 32 := 16#32
  let v3105 : BitVec 32 := Scalar.muli v1453 c16_i32_2759
  let c0_i32_2767 : BitVec 32 := 0#32
  ![v3105.toNat, 0]
def k0_dev146 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1089 : BitVec 32 := 22#32
  let v1452 : BitVec 32 := Scalar.addi v2 c22_i32_1089
  let c32_i32_1090 : BitVec 32 := 32#32
  let v1453 : BitVec 32 := Scalar.remsi v1452 c32_i32_1090
  let c1_i32_2763 : BitVec 32 := 1#32
  let v3106 : BitVec 32 := Scalar.muli v1453 c1_i32_2763
  let v3107 : BitVec 32 := Scalar.addi c0_i32_2764 v3106
  v3107.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1094 : BitVec 32 := 23#32
  let v1458 : BitVec 32 := Scalar.addi v2 c23_i32_1094
  let c32_i32_1095 : BitVec 32 := 32#32
  let v1459 : BitVec 32 := Scalar.remsi v1458 c32_i32_1095
  let c8_i32_1096 : BitVec 32 := 8#32
  let v1460 : BitVec 32 := Scalar.divsi v1459 c8_i32_1096
  let c3_i32_1097 : BitVec 32 := 3#32
  let v1461 : BitVec 1 := Scalar.cmpi .eq v1460 c3_i32_1097
  let v1462 : BitVec 32 := Scalar.extui v1461
  let c0_i32_1098 : BitVec 32 := 0#32
  let v1463 : BitVec 1 := Scalar.cmpi .ne v1462 c0_i32_1098
  v1463

def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1094 : BitVec 32 := 23#32
  let v1458 : BitVec 32 := Scalar.addi v2 c23_i32_1094
  let c32_i32_1095 : BitVec 32 := 32#32
  let v1459 : BitVec 32 := Scalar.remsi v1458 c32_i32_1095
  let c16_i32_2759 : BitVec 32 := 16#32
  let v3105 : BitVec 32 := Scalar.muli v1459 c16_i32_2759
  let c0_i32_2767 : BitVec 32 := 0#32
  ![v3105.toNat, 0]
def k0_dev147 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1094 : BitVec 32 := 23#32
  let v1458 : BitVec 32 := Scalar.addi v2 c23_i32_1094
  let c32_i32_1095 : BitVec 32 := 32#32
  let v1459 : BitVec 32 := Scalar.remsi v1458 c32_i32_1095
  let c1_i32_2763 : BitVec 32 := 1#32
  let v3106 : BitVec 32 := Scalar.muli v1459 c1_i32_2763
  let v3107 : BitVec 32 := Scalar.addi c0_i32_2764 v3106
  v3107.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1099 : BitVec 32 := 24#32
  let v1464 : BitVec 32 := Scalar.addi v2 c24_i32_1099
  let c32_i32_1100 : BitVec 32 := 32#32
  let v1465 : BitVec 32 := Scalar.remsi v1464 c32_i32_1100
  let c8_i32_1101 : BitVec 32 := 8#32
  let v1466 : BitVec 32 := Scalar.divsi v1465 c8_i32_1101
  let c3_i32_1102 : BitVec 32 := 3#32
  let v1467 : BitVec 1 := Scalar.cmpi .eq v1466 c3_i32_1102
  let v1468 : BitVec 32 := Scalar.extui v1467
  let c0_i32_1103 : BitVec 32 := 0#32
  let v1469 : BitVec 1 := Scalar.cmpi .ne v1468 c0_i32_1103
  v1469

def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1099 : BitVec 32 := 24#32
  let v1464 : BitVec 32 := Scalar.addi v2 c24_i32_1099
  let c32_i32_1100 : BitVec 32 := 32#32
  let v1465 : BitVec 32 := Scalar.remsi v1464 c32_i32_1100
  let c16_i32_2759 : BitVec 32 := 16#32
  let v3105 : BitVec 32 := Scalar.muli v1465 c16_i32_2759
  let c0_i32_2767 : BitVec 32 := 0#32
  ![v3105.toNat, 0]
def k0_dev148 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1099 : BitVec 32 := 24#32
  let v1464 : BitVec 32 := Scalar.addi v2 c24_i32_1099
  let c32_i32_1100 : BitVec 32 := 32#32
  let v1465 : BitVec 32 := Scalar.remsi v1464 c32_i32_1100
  let c1_i32_2763 : BitVec 32 := 1#32
  let v3106 : BitVec 32 := Scalar.muli v1465 c1_i32_2763
  let v3107 : BitVec 32 := Scalar.addi c0_i32_2764 v3106
  v3107.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1104 : BitVec 32 := 25#32
  let v1470 : BitVec 32 := Scalar.addi v2 c25_i32_1104
  let c32_i32_1105 : BitVec 32 := 32#32
  let v1471 : BitVec 32 := Scalar.remsi v1470 c32_i32_1105
  let c8_i32_1106 : BitVec 32 := 8#32
  let v1472 : BitVec 32 := Scalar.divsi v1471 c8_i32_1106
  let c3_i32_1107 : BitVec 32 := 3#32
  let v1473 : BitVec 1 := Scalar.cmpi .eq v1472 c3_i32_1107
  let v1474 : BitVec 32 := Scalar.extui v1473
  let c0_i32_1108 : BitVec 32 := 0#32
  let v1475 : BitVec 1 := Scalar.cmpi .ne v1474 c0_i32_1108
  v1475

def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1104 : BitVec 32 := 25#32
  let v1470 : BitVec 32 := Scalar.addi v2 c25_i32_1104
  let c32_i32_1105 : BitVec 32 := 32#32
  let v1471 : BitVec 32 := Scalar.remsi v1470 c32_i32_1105
  let c16_i32_2759 : BitVec 32 := 16#32
  let v3105 : BitVec 32 := Scalar.muli v1471 c16_i32_2759
  let c0_i32_2767 : BitVec 32 := 0#32
  ![v3105.toNat, 0]
def k0_dev149 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1104 : BitVec 32 := 25#32
  let v1470 : BitVec 32 := Scalar.addi v2 c25_i32_1104
  let c32_i32_1105 : BitVec 32 := 32#32
  let v1471 : BitVec 32 := Scalar.remsi v1470 c32_i32_1105
  let c1_i32_2763 : BitVec 32 := 1#32
  let v3106 : BitVec 32 := Scalar.muli v1471 c1_i32_2763
  let v3107 : BitVec 32 := Scalar.addi c0_i32_2764 v3106
  v3107.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1109 : BitVec 32 := 26#32
  let v1476 : BitVec 32 := Scalar.addi v2 c26_i32_1109
  let c32_i32_1110 : BitVec 32 := 32#32
  let v1477 : BitVec 32 := Scalar.remsi v1476 c32_i32_1110
  let c8_i32_1111 : BitVec 32 := 8#32
  let v1478 : BitVec 32 := Scalar.divsi v1477 c8_i32_1111
  let c3_i32_1112 : BitVec 32 := 3#32
  let v1479 : BitVec 1 := Scalar.cmpi .eq v1478 c3_i32_1112
  let v1480 : BitVec 32 := Scalar.extui v1479
  let c0_i32_1113 : BitVec 32 := 0#32
  let v1481 : BitVec 1 := Scalar.cmpi .ne v1480 c0_i32_1113
  v1481

def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1109 : BitVec 32 := 26#32
  let v1476 : BitVec 32 := Scalar.addi v2 c26_i32_1109
  let c32_i32_1110 : BitVec 32 := 32#32
  let v1477 : BitVec 32 := Scalar.remsi v1476 c32_i32_1110
  let c16_i32_2759 : BitVec 32 := 16#32
  let v3105 : BitVec 32 := Scalar.muli v1477 c16_i32_2759
  let c0_i32_2767 : BitVec 32 := 0#32
  ![v3105.toNat, 0]
def k0_dev150 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1109 : BitVec 32 := 26#32
  let v1476 : BitVec 32 := Scalar.addi v2 c26_i32_1109
  let c32_i32_1110 : BitVec 32 := 32#32
  let v1477 : BitVec 32 := Scalar.remsi v1476 c32_i32_1110
  let c1_i32_2763 : BitVec 32 := 1#32
  let v3106 : BitVec 32 := Scalar.muli v1477 c1_i32_2763
  let v3107 : BitVec 32 := Scalar.addi c0_i32_2764 v3106
  v3107.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1114 : BitVec 32 := 27#32
  let v1482 : BitVec 32 := Scalar.addi v2 c27_i32_1114
  let c32_i32_1115 : BitVec 32 := 32#32
  let v1483 : BitVec 32 := Scalar.remsi v1482 c32_i32_1115
  let c8_i32_1116 : BitVec 32 := 8#32
  let v1484 : BitVec 32 := Scalar.divsi v1483 c8_i32_1116
  let c3_i32_1117 : BitVec 32 := 3#32
  let v1485 : BitVec 1 := Scalar.cmpi .eq v1484 c3_i32_1117
  let v1486 : BitVec 32 := Scalar.extui v1485
  let c0_i32_1118 : BitVec 32 := 0#32
  let v1487 : BitVec 1 := Scalar.cmpi .ne v1486 c0_i32_1118
  v1487

def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1114 : BitVec 32 := 27#32
  let v1482 : BitVec 32 := Scalar.addi v2 c27_i32_1114
  let c32_i32_1115 : BitVec 32 := 32#32
  let v1483 : BitVec 32 := Scalar.remsi v1482 c32_i32_1115
  let c16_i32_2759 : BitVec 32 := 16#32
  let v3105 : BitVec 32 := Scalar.muli v1483 c16_i32_2759
  let c0_i32_2767 : BitVec 32 := 0#32
  ![v3105.toNat, 0]
def k0_dev151 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1114 : BitVec 32 := 27#32
  let v1482 : BitVec 32 := Scalar.addi v2 c27_i32_1114
  let c32_i32_1115 : BitVec 32 := 32#32
  let v1483 : BitVec 32 := Scalar.remsi v1482 c32_i32_1115
  let c1_i32_2763 : BitVec 32 := 1#32
  let v3106 : BitVec 32 := Scalar.muli v1483 c1_i32_2763
  let v3107 : BitVec 32 := Scalar.addi c0_i32_2764 v3106
  v3107.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1119 : BitVec 32 := 28#32
  let v1488 : BitVec 32 := Scalar.addi v2 c28_i32_1119
  let c32_i32_1120 : BitVec 32 := 32#32
  let v1489 : BitVec 32 := Scalar.remsi v1488 c32_i32_1120
  let c8_i32_1121 : BitVec 32 := 8#32
  let v1490 : BitVec 32 := Scalar.divsi v1489 c8_i32_1121
  let c3_i32_1122 : BitVec 32 := 3#32
  let v1491 : BitVec 1 := Scalar.cmpi .eq v1490 c3_i32_1122
  let v1492 : BitVec 32 := Scalar.extui v1491
  let c0_i32_1123 : BitVec 32 := 0#32
  let v1493 : BitVec 1 := Scalar.cmpi .ne v1492 c0_i32_1123
  v1493

def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1119 : BitVec 32 := 28#32
  let v1488 : BitVec 32 := Scalar.addi v2 c28_i32_1119
  let c32_i32_1120 : BitVec 32 := 32#32
  let v1489 : BitVec 32 := Scalar.remsi v1488 c32_i32_1120
  let c16_i32_2759 : BitVec 32 := 16#32
  let v3105 : BitVec 32 := Scalar.muli v1489 c16_i32_2759
  let c0_i32_2767 : BitVec 32 := 0#32
  ![v3105.toNat, 0]
def k0_dev152 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1119 : BitVec 32 := 28#32
  let v1488 : BitVec 32 := Scalar.addi v2 c28_i32_1119
  let c32_i32_1120 : BitVec 32 := 32#32
  let v1489 : BitVec 32 := Scalar.remsi v1488 c32_i32_1120
  let c1_i32_2763 : BitVec 32 := 1#32
  let v3106 : BitVec 32 := Scalar.muli v1489 c1_i32_2763
  let v3107 : BitVec 32 := Scalar.addi c0_i32_2764 v3106
  v3107.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1124 : BitVec 32 := 29#32
  let v1494 : BitVec 32 := Scalar.addi v2 c29_i32_1124
  let c32_i32_1125 : BitVec 32 := 32#32
  let v1495 : BitVec 32 := Scalar.remsi v1494 c32_i32_1125
  let c8_i32_1126 : BitVec 32 := 8#32
  let v1496 : BitVec 32 := Scalar.divsi v1495 c8_i32_1126
  let c3_i32_1127 : BitVec 32 := 3#32
  let v1497 : BitVec 1 := Scalar.cmpi .eq v1496 c3_i32_1127
  let v1498 : BitVec 32 := Scalar.extui v1497
  let c0_i32_1128 : BitVec 32 := 0#32
  let v1499 : BitVec 1 := Scalar.cmpi .ne v1498 c0_i32_1128
  v1499

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1124 : BitVec 32 := 29#32
  let v1494 : BitVec 32 := Scalar.addi v2 c29_i32_1124
  let c32_i32_1125 : BitVec 32 := 32#32
  let v1495 : BitVec 32 := Scalar.remsi v1494 c32_i32_1125
  let c16_i32_2759 : BitVec 32 := 16#32
  let v3105 : BitVec 32 := Scalar.muli v1495 c16_i32_2759
  let c0_i32_2767 : BitVec 32 := 0#32
  ![v3105.toNat, 0]
def k0_dev153 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1124 : BitVec 32 := 29#32
  let v1494 : BitVec 32 := Scalar.addi v2 c29_i32_1124
  let c32_i32_1125 : BitVec 32 := 32#32
  let v1495 : BitVec 32 := Scalar.remsi v1494 c32_i32_1125
  let c1_i32_2763 : BitVec 32 := 1#32
  let v3106 : BitVec 32 := Scalar.muli v1495 c1_i32_2763
  let v3107 : BitVec 32 := Scalar.addi c0_i32_2764 v3106
  v3107.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1129 : BitVec 32 := 30#32
  let v1500 : BitVec 32 := Scalar.addi v2 c30_i32_1129
  let c32_i32_1130 : BitVec 32 := 32#32
  let v1501 : BitVec 32 := Scalar.remsi v1500 c32_i32_1130
  let c8_i32_1131 : BitVec 32 := 8#32
  let v1502 : BitVec 32 := Scalar.divsi v1501 c8_i32_1131
  let c3_i32_1132 : BitVec 32 := 3#32
  let v1503 : BitVec 1 := Scalar.cmpi .eq v1502 c3_i32_1132
  let v1504 : BitVec 32 := Scalar.extui v1503
  let c0_i32_1133 : BitVec 32 := 0#32
  let v1505 : BitVec 1 := Scalar.cmpi .ne v1504 c0_i32_1133
  v1505

def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1129 : BitVec 32 := 30#32
  let v1500 : BitVec 32 := Scalar.addi v2 c30_i32_1129
  let c32_i32_1130 : BitVec 32 := 32#32
  let v1501 : BitVec 32 := Scalar.remsi v1500 c32_i32_1130
  let c16_i32_2759 : BitVec 32 := 16#32
  let v3105 : BitVec 32 := Scalar.muli v1501 c16_i32_2759
  let c0_i32_2767 : BitVec 32 := 0#32
  ![v3105.toNat, 0]
def k0_dev154 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1129 : BitVec 32 := 30#32
  let v1500 : BitVec 32 := Scalar.addi v2 c30_i32_1129
  let c32_i32_1130 : BitVec 32 := 32#32
  let v1501 : BitVec 32 := Scalar.remsi v1500 c32_i32_1130
  let c1_i32_2763 : BitVec 32 := 1#32
  let v3106 : BitVec 32 := Scalar.muli v1501 c1_i32_2763
  let v3107 : BitVec 32 := Scalar.addi c0_i32_2764 v3106
  v3107.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1134 : BitVec 32 := 31#32
  let v1506 : BitVec 32 := Scalar.addi v2 c31_i32_1134
  let c32_i32_1135 : BitVec 32 := 32#32
  let v1507 : BitVec 32 := Scalar.remsi v1506 c32_i32_1135
  let c8_i32_1136 : BitVec 32 := 8#32
  let v1508 : BitVec 32 := Scalar.divsi v1507 c8_i32_1136
  let c3_i32_1137 : BitVec 32 := 3#32
  let v1509 : BitVec 1 := Scalar.cmpi .eq v1508 c3_i32_1137
  let v1510 : BitVec 32 := Scalar.extui v1509
  let c0_i32_1138 : BitVec 32 := 0#32
  let v1511 : BitVec 1 := Scalar.cmpi .ne v1510 c0_i32_1138
  v1511

def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1134 : BitVec 32 := 31#32
  let v1506 : BitVec 32 := Scalar.addi v2 c31_i32_1134
  let c32_i32_1135 : BitVec 32 := 32#32
  let v1507 : BitVec 32 := Scalar.remsi v1506 c32_i32_1135
  let c16_i32_2759 : BitVec 32 := 16#32
  let v3105 : BitVec 32 := Scalar.muli v1507 c16_i32_2759
  let c0_i32_2767 : BitVec 32 := 0#32
  ![v3105.toNat, 0]
def k0_dev155 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1134 : BitVec 32 := 31#32
  let v1506 : BitVec 32 := Scalar.addi v2 c31_i32_1134
  let c32_i32_1135 : BitVec 32 := 32#32
  let v1507 : BitVec 32 := Scalar.remsi v1506 c32_i32_1135
  let c1_i32_2763 : BitVec 32 := 1#32
  let v3106 : BitVec 32 := Scalar.muli v1507 c1_i32_2763
  let v3107 : BitVec 32 := Scalar.addi c0_i32_2764 v3106
  v3107.toNat
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1139 : BitVec 32 := 16#32
  let v1512 : BitVec 32 := Scalar.muli v2 c16_i32_1139
  let v1513 : Index := Scalar.indexCast v1512
  let c0_1140 : Index := 0#32
  ![v1513.toNat, 0]
def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1522 : BitVec 32 := 16#32
  let v1899 : BitVec 32 := Scalar.muli v2 c16_i32_1522
  let c0_i32_1527 : BitVec 32 := 0#32
  ![v1899.toNat, 0]
def k0_dev156 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1519 : BitVec 32 := 1#32
  let v1896 : BitVec 32 := Scalar.addi v2 c1_i32_1519
  let c32_i32_1520 : BitVec 32 := 32#32
  let v1897 : BitVec 32 := Scalar.remsi v1896 c32_i32_1520
  let c1_i32_1525 : BitVec 32 := 1#32
  let v1900 : BitVec 32 := Scalar.muli v1897 c1_i32_1525
  let v1901 : BitVec 32 := Scalar.addi c0_i32_1526 v1900
  v1901.toNat
def k0_dev157 (d0 : Dev nD) : Nat :=
  let c0_i32_1536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1529 : BitVec 32 := 2#32
  let v1908 : BitVec 32 := Scalar.addi v2 c2_i32_1529
  let c32_i32_1530 : BitVec 32 := 32#32
  let v1909 : BitVec 32 := Scalar.remsi v1908 c32_i32_1530
  let c1_i32_1535 : BitVec 32 := 1#32
  let v1912 : BitVec 32 := Scalar.muli v1909 c1_i32_1535
  let v1913 : BitVec 32 := Scalar.addi c0_i32_1536 v1912
  v1913.toNat
def k0_dev158 (d0 : Dev nD) : Nat :=
  let c0_i32_1546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1539 : BitVec 32 := 3#32
  let v1920 : BitVec 32 := Scalar.addi v2 c3_i32_1539
  let c32_i32_1540 : BitVec 32 := 32#32
  let v1921 : BitVec 32 := Scalar.remsi v1920 c32_i32_1540
  let c1_i32_1545 : BitVec 32 := 1#32
  let v1924 : BitVec 32 := Scalar.muli v1921 c1_i32_1545
  let v1925 : BitVec 32 := Scalar.addi c0_i32_1546 v1924
  v1925.toNat
def k0_dev159 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1549 : BitVec 32 := 4#32
  let v1932 : BitVec 32 := Scalar.addi v2 c4_i32_1549
  let c32_i32_1550 : BitVec 32 := 32#32
  let v1933 : BitVec 32 := Scalar.remsi v1932 c32_i32_1550
  let c1_i32_1555 : BitVec 32 := 1#32
  let v1936 : BitVec 32 := Scalar.muli v1933 c1_i32_1555
  let v1937 : BitVec 32 := Scalar.addi c0_i32_1556 v1936
  v1937.toNat
def k0_dev160 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1559 : BitVec 32 := 5#32
  let v1944 : BitVec 32 := Scalar.addi v2 c5_i32_1559
  let c32_i32_1560 : BitVec 32 := 32#32
  let v1945 : BitVec 32 := Scalar.remsi v1944 c32_i32_1560
  let c1_i32_1565 : BitVec 32 := 1#32
  let v1948 : BitVec 32 := Scalar.muli v1945 c1_i32_1565
  let v1949 : BitVec 32 := Scalar.addi c0_i32_1566 v1948
  v1949.toNat
def k0_dev161 (d0 : Dev nD) : Nat :=
  let c0_i32_1576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1569 : BitVec 32 := 6#32
  let v1956 : BitVec 32 := Scalar.addi v2 c6_i32_1569
  let c32_i32_1570 : BitVec 32 := 32#32
  let v1957 : BitVec 32 := Scalar.remsi v1956 c32_i32_1570
  let c1_i32_1575 : BitVec 32 := 1#32
  let v1960 : BitVec 32 := Scalar.muli v1957 c1_i32_1575
  let v1961 : BitVec 32 := Scalar.addi c0_i32_1576 v1960
  v1961.toNat
def k0_dev162 (d0 : Dev nD) : Nat :=
  let c0_i32_1586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1579 : BitVec 32 := 7#32
  let v1968 : BitVec 32 := Scalar.addi v2 c7_i32_1579
  let c32_i32_1580 : BitVec 32 := 32#32
  let v1969 : BitVec 32 := Scalar.remsi v1968 c32_i32_1580
  let c1_i32_1585 : BitVec 32 := 1#32
  let v1972 : BitVec 32 := Scalar.muli v1969 c1_i32_1585
  let v1973 : BitVec 32 := Scalar.addi c0_i32_1586 v1972
  v1973.toNat
def k0_dev163 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1589 : BitVec 32 := 8#32
  let v1980 : BitVec 32 := Scalar.addi v2 c8_i32_1589
  let c32_i32_1590 : BitVec 32 := 32#32
  let v1981 : BitVec 32 := Scalar.remsi v1980 c32_i32_1590
  let c1_i32_1595 : BitVec 32 := 1#32
  let v1984 : BitVec 32 := Scalar.muli v1981 c1_i32_1595
  let v1985 : BitVec 32 := Scalar.addi c0_i32_1596 v1984
  v1985.toNat
def k0_dev164 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1599 : BitVec 32 := 9#32
  let v1992 : BitVec 32 := Scalar.addi v2 c9_i32_1599
  let c32_i32_1600 : BitVec 32 := 32#32
  let v1993 : BitVec 32 := Scalar.remsi v1992 c32_i32_1600
  let c1_i32_1605 : BitVec 32 := 1#32
  let v1996 : BitVec 32 := Scalar.muli v1993 c1_i32_1605
  let v1997 : BitVec 32 := Scalar.addi c0_i32_1606 v1996
  v1997.toNat
def k0_dev165 (d0 : Dev nD) : Nat :=
  let c0_i32_1616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1609 : BitVec 32 := 10#32
  let v2004 : BitVec 32 := Scalar.addi v2 c10_i32_1609
  let c32_i32_1610 : BitVec 32 := 32#32
  let v2005 : BitVec 32 := Scalar.remsi v2004 c32_i32_1610
  let c1_i32_1615 : BitVec 32 := 1#32
  let v2008 : BitVec 32 := Scalar.muli v2005 c1_i32_1615
  let v2009 : BitVec 32 := Scalar.addi c0_i32_1616 v2008
  v2009.toNat
def k0_dev166 (d0 : Dev nD) : Nat :=
  let c0_i32_1626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1619 : BitVec 32 := 11#32
  let v2016 : BitVec 32 := Scalar.addi v2 c11_i32_1619
  let c32_i32_1620 : BitVec 32 := 32#32
  let v2017 : BitVec 32 := Scalar.remsi v2016 c32_i32_1620
  let c1_i32_1625 : BitVec 32 := 1#32
  let v2020 : BitVec 32 := Scalar.muli v2017 c1_i32_1625
  let v2021 : BitVec 32 := Scalar.addi c0_i32_1626 v2020
  v2021.toNat
def k0_dev167 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1629 : BitVec 32 := 12#32
  let v2028 : BitVec 32 := Scalar.addi v2 c12_i32_1629
  let c32_i32_1630 : BitVec 32 := 32#32
  let v2029 : BitVec 32 := Scalar.remsi v2028 c32_i32_1630
  let c1_i32_1635 : BitVec 32 := 1#32
  let v2032 : BitVec 32 := Scalar.muli v2029 c1_i32_1635
  let v2033 : BitVec 32 := Scalar.addi c0_i32_1636 v2032
  v2033.toNat
def k0_dev168 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1639 : BitVec 32 := 13#32
  let v2040 : BitVec 32 := Scalar.addi v2 c13_i32_1639
  let c32_i32_1640 : BitVec 32 := 32#32
  let v2041 : BitVec 32 := Scalar.remsi v2040 c32_i32_1640
  let c1_i32_1645 : BitVec 32 := 1#32
  let v2044 : BitVec 32 := Scalar.muli v2041 c1_i32_1645
  let v2045 : BitVec 32 := Scalar.addi c0_i32_1646 v2044
  v2045.toNat
def k0_dev169 (d0 : Dev nD) : Nat :=
  let c0_i32_1656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1649 : BitVec 32 := 14#32
  let v2052 : BitVec 32 := Scalar.addi v2 c14_i32_1649
  let c32_i32_1650 : BitVec 32 := 32#32
  let v2053 : BitVec 32 := Scalar.remsi v2052 c32_i32_1650
  let c1_i32_1655 : BitVec 32 := 1#32
  let v2056 : BitVec 32 := Scalar.muli v2053 c1_i32_1655
  let v2057 : BitVec 32 := Scalar.addi c0_i32_1656 v2056
  v2057.toNat
def k0_dev170 (d0 : Dev nD) : Nat :=
  let c0_i32_1666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1659 : BitVec 32 := 15#32
  let v2064 : BitVec 32 := Scalar.addi v2 c15_i32_1659
  let c32_i32_1660 : BitVec 32 := 32#32
  let v2065 : BitVec 32 := Scalar.remsi v2064 c32_i32_1660
  let c1_i32_1665 : BitVec 32 := 1#32
  let v2068 : BitVec 32 := Scalar.muli v2065 c1_i32_1665
  let v2069 : BitVec 32 := Scalar.addi c0_i32_1666 v2068
  v2069.toNat
def k0_dev171 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1669 : BitVec 32 := 16#32
  let v2076 : BitVec 32 := Scalar.addi v2 c16_i32_1669
  let c32_i32_1670 : BitVec 32 := 32#32
  let v2077 : BitVec 32 := Scalar.remsi v2076 c32_i32_1670
  let c1_i32_1675 : BitVec 32 := 1#32
  let v2080 : BitVec 32 := Scalar.muli v2077 c1_i32_1675
  let v2081 : BitVec 32 := Scalar.addi c0_i32_1676 v2080
  v2081.toNat
def k0_dev172 (d0 : Dev nD) : Nat :=
  let c0_i32_1686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1679 : BitVec 32 := 17#32
  let v2088 : BitVec 32 := Scalar.addi v2 c17_i32_1679
  let c32_i32_1680 : BitVec 32 := 32#32
  let v2089 : BitVec 32 := Scalar.remsi v2088 c32_i32_1680
  let c1_i32_1685 : BitVec 32 := 1#32
  let v2092 : BitVec 32 := Scalar.muli v2089 c1_i32_1685
  let v2093 : BitVec 32 := Scalar.addi c0_i32_1686 v2092
  v2093.toNat
def k0_dev173 (d0 : Dev nD) : Nat :=
  let c0_i32_1696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1689 : BitVec 32 := 18#32
  let v2100 : BitVec 32 := Scalar.addi v2 c18_i32_1689
  let c32_i32_1690 : BitVec 32 := 32#32
  let v2101 : BitVec 32 := Scalar.remsi v2100 c32_i32_1690
  let c1_i32_1695 : BitVec 32 := 1#32
  let v2104 : BitVec 32 := Scalar.muli v2101 c1_i32_1695
  let v2105 : BitVec 32 := Scalar.addi c0_i32_1696 v2104
  v2105.toNat
def k0_dev174 (d0 : Dev nD) : Nat :=
  let c0_i32_1706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1699 : BitVec 32 := 19#32
  let v2112 : BitVec 32 := Scalar.addi v2 c19_i32_1699
  let c32_i32_1700 : BitVec 32 := 32#32
  let v2113 : BitVec 32 := Scalar.remsi v2112 c32_i32_1700
  let c1_i32_1705 : BitVec 32 := 1#32
  let v2116 : BitVec 32 := Scalar.muli v2113 c1_i32_1705
  let v2117 : BitVec 32 := Scalar.addi c0_i32_1706 v2116
  v2117.toNat
def k0_dev175 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1709 : BitVec 32 := 20#32
  let v2124 : BitVec 32 := Scalar.addi v2 c20_i32_1709
  let c32_i32_1710 : BitVec 32 := 32#32
  let v2125 : BitVec 32 := Scalar.remsi v2124 c32_i32_1710
  let c1_i32_1715 : BitVec 32 := 1#32
  let v2128 : BitVec 32 := Scalar.muli v2125 c1_i32_1715
  let v2129 : BitVec 32 := Scalar.addi c0_i32_1716 v2128
  v2129.toNat
def k0_dev176 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1719 : BitVec 32 := 21#32
  let v2136 : BitVec 32 := Scalar.addi v2 c21_i32_1719
  let c32_i32_1720 : BitVec 32 := 32#32
  let v2137 : BitVec 32 := Scalar.remsi v2136 c32_i32_1720
  let c1_i32_1725 : BitVec 32 := 1#32
  let v2140 : BitVec 32 := Scalar.muli v2137 c1_i32_1725
  let v2141 : BitVec 32 := Scalar.addi c0_i32_1726 v2140
  v2141.toNat
def k0_dev177 (d0 : Dev nD) : Nat :=
  let c0_i32_1736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1729 : BitVec 32 := 22#32
  let v2148 : BitVec 32 := Scalar.addi v2 c22_i32_1729
  let c32_i32_1730 : BitVec 32 := 32#32
  let v2149 : BitVec 32 := Scalar.remsi v2148 c32_i32_1730
  let c1_i32_1735 : BitVec 32 := 1#32
  let v2152 : BitVec 32 := Scalar.muli v2149 c1_i32_1735
  let v2153 : BitVec 32 := Scalar.addi c0_i32_1736 v2152
  v2153.toNat
def k0_dev178 (d0 : Dev nD) : Nat :=
  let c0_i32_1746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1739 : BitVec 32 := 23#32
  let v2160 : BitVec 32 := Scalar.addi v2 c23_i32_1739
  let c32_i32_1740 : BitVec 32 := 32#32
  let v2161 : BitVec 32 := Scalar.remsi v2160 c32_i32_1740
  let c1_i32_1745 : BitVec 32 := 1#32
  let v2164 : BitVec 32 := Scalar.muli v2161 c1_i32_1745
  let v2165 : BitVec 32 := Scalar.addi c0_i32_1746 v2164
  v2165.toNat
def k0_dev179 (d0 : Dev nD) : Nat :=
  let c0_i32_1756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1749 : BitVec 32 := 24#32
  let v2172 : BitVec 32 := Scalar.addi v2 c24_i32_1749
  let c32_i32_1750 : BitVec 32 := 32#32
  let v2173 : BitVec 32 := Scalar.remsi v2172 c32_i32_1750
  let c1_i32_1755 : BitVec 32 := 1#32
  let v2176 : BitVec 32 := Scalar.muli v2173 c1_i32_1755
  let v2177 : BitVec 32 := Scalar.addi c0_i32_1756 v2176
  v2177.toNat
def k0_dev180 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1759 : BitVec 32 := 25#32
  let v2184 : BitVec 32 := Scalar.addi v2 c25_i32_1759
  let c32_i32_1760 : BitVec 32 := 32#32
  let v2185 : BitVec 32 := Scalar.remsi v2184 c32_i32_1760
  let c1_i32_1765 : BitVec 32 := 1#32
  let v2188 : BitVec 32 := Scalar.muli v2185 c1_i32_1765
  let v2189 : BitVec 32 := Scalar.addi c0_i32_1766 v2188
  v2189.toNat
def k0_dev181 (d0 : Dev nD) : Nat :=
  let c0_i32_1776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1769 : BitVec 32 := 26#32
  let v2196 : BitVec 32 := Scalar.addi v2 c26_i32_1769
  let c32_i32_1770 : BitVec 32 := 32#32
  let v2197 : BitVec 32 := Scalar.remsi v2196 c32_i32_1770
  let c1_i32_1775 : BitVec 32 := 1#32
  let v2200 : BitVec 32 := Scalar.muli v2197 c1_i32_1775
  let v2201 : BitVec 32 := Scalar.addi c0_i32_1776 v2200
  v2201.toNat
def k0_dev182 (d0 : Dev nD) : Nat :=
  let c0_i32_1786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1779 : BitVec 32 := 27#32
  let v2208 : BitVec 32 := Scalar.addi v2 c27_i32_1779
  let c32_i32_1780 : BitVec 32 := 32#32
  let v2209 : BitVec 32 := Scalar.remsi v2208 c32_i32_1780
  let c1_i32_1785 : BitVec 32 := 1#32
  let v2212 : BitVec 32 := Scalar.muli v2209 c1_i32_1785
  let v2213 : BitVec 32 := Scalar.addi c0_i32_1786 v2212
  v2213.toNat
def k0_dev183 (d0 : Dev nD) : Nat :=
  let c0_i32_1796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1789 : BitVec 32 := 28#32
  let v2220 : BitVec 32 := Scalar.addi v2 c28_i32_1789
  let c32_i32_1790 : BitVec 32 := 32#32
  let v2221 : BitVec 32 := Scalar.remsi v2220 c32_i32_1790
  let c1_i32_1795 : BitVec 32 := 1#32
  let v2224 : BitVec 32 := Scalar.muli v2221 c1_i32_1795
  let v2225 : BitVec 32 := Scalar.addi c0_i32_1796 v2224
  v2225.toNat
def k0_dev184 (d0 : Dev nD) : Nat :=
  let c0_i32_1806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1799 : BitVec 32 := 29#32
  let v2232 : BitVec 32 := Scalar.addi v2 c29_i32_1799
  let c32_i32_1800 : BitVec 32 := 32#32
  let v2233 : BitVec 32 := Scalar.remsi v2232 c32_i32_1800
  let c1_i32_1805 : BitVec 32 := 1#32
  let v2236 : BitVec 32 := Scalar.muli v2233 c1_i32_1805
  let v2237 : BitVec 32 := Scalar.addi c0_i32_1806 v2236
  v2237.toNat
def k0_dev185 (d0 : Dev nD) : Nat :=
  let c0_i32_1816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1809 : BitVec 32 := 30#32
  let v2244 : BitVec 32 := Scalar.addi v2 c30_i32_1809
  let c32_i32_1810 : BitVec 32 := 32#32
  let v2245 : BitVec 32 := Scalar.remsi v2244 c32_i32_1810
  let c1_i32_1815 : BitVec 32 := 1#32
  let v2248 : BitVec 32 := Scalar.muli v2245 c1_i32_1815
  let v2249 : BitVec 32 := Scalar.addi c0_i32_1816 v2248
  v2249.toNat
def k0_dev186 (d0 : Dev nD) : Nat :=
  let c0_i32_1826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1819 : BitVec 32 := 31#32
  let v2256 : BitVec 32 := Scalar.addi v2 c31_i32_1819
  let c32_i32_1820 : BitVec 32 := 32#32
  let v2257 : BitVec 32 := Scalar.remsi v2256 c32_i32_1820
  let c1_i32_1825 : BitVec 32 := 1#32
  let v2260 : BitVec 32 := Scalar.muli v2257 c1_i32_1825
  let v2261 : BitVec 32 := Scalar.addi c0_i32_1826 v2260
  v2261.toNat
def k0_off127 (d0 : Dev nD) (c1_i32_1830 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1829 : BitVec 32 := 32#32
  let v2268 : BitVec 32 := Scalar.addi v2 c32_i32_1829
  let v2269 : BitVec 32 := Scalar.subi v2268 c1_i32_1830
  let c32_i32_1831 : BitVec 32 := 32#32
  let v2270 : BitVec 32 := Scalar.remsi v2269 c32_i32_1831
  let c16_i32_1833 : BitVec 32 := 16#32
  let v2272 : BitVec 32 := Scalar.muli v2270 c16_i32_1833
  let c0_i32_1838 : BitVec 32 := 0#32
  ![v2272.toNat, 0]
def k0_off128 (d0 : Dev nD) (c1_i32_1830 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1829 : BitVec 32 := 32#32
  let v2268 : BitVec 32 := Scalar.addi v2 c32_i32_1829
  let v2269 : BitVec 32 := Scalar.subi v2268 c1_i32_1830
  let c32_i32_1831 : BitVec 32 := 32#32
  let v2270 : BitVec 32 := Scalar.remsi v2269 c32_i32_1831
  let c16_i32_1840 : BitVec 32 := 16#32
  let v2279 : BitVec 32 := Scalar.muli v2270 c16_i32_1840
  let v2280 : Index := Scalar.indexCast v2279
  let c0_1841 : Index := 0#32
  ![v2280.toNat, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x1024 : Shape := ⟨2, ![512, 1024]⟩
abbrev S1024x32768 : Shape := ⟨2, ![1024, 32768]⟩
abbrev S32768x1024 : Shape := ⟨2, ![32768, 1024]⟩
abbrev S64x2048x128 : Shape := ⟨3, ![64, 2048, 128]⟩
abbrev S512x32768 : Shape := ⟨2, ![512, 32768]⟩
abbrev S512x256x128 : Shape := ⟨3, ![512, 256, 128]⟩
abbrev S64x4x2048x128 : Shape := ⟨4, ![64, 4, 2048, 128]⟩
abbrev S256x2048x128 : Shape := ⟨3, ![256, 2048, 128]⟩
abbrev S256x512x2048 : Shape := ⟨3, ![256, 512, 2048]⟩
abbrev S_ : Shape := ⟨0, ![]⟩
abbrev S256x512 : Shape := ⟨2, ![256, 512]⟩
abbrev S256x512x1 : Shape := ⟨3, ![256, 512, 1]⟩
abbrev S256x512x128 : Shape := ⟨3, ![256, 512, 128]⟩

abbrev nBuf : Space → Nat
  | .hbm => 30
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S32768x1024, .f32⟩
  | .hbm, ⟨3, _⟩ => ⟨S64x2048x128, .f32⟩
  | .hbm, ⟨4, _⟩ => ⟨S64x2048x128, .f32⟩
  | .hbm, ⟨5, _⟩ => ⟨S512x32768, .f32⟩
  | .hbm, ⟨6, _⟩ => ⟨S512x256x128, .f32⟩
  | .hbm, ⟨7, _⟩ => ⟨S64x4x2048x128, .f32⟩
  | .hbm, ⟨8, _⟩ => ⟨S256x2048x128, .f32⟩
  | .hbm, ⟨9, _⟩ => ⟨S64x4x2048x128, .f32⟩
  | .hbm, ⟨10, _⟩ => ⟨S256x2048x128, .f32⟩
  | .hbm, ⟨11, _⟩ => ⟨S256x512x2048, .f32⟩
  | .hbm, ⟨12, _⟩ => ⟨S_, .f32⟩
  | .hbm, ⟨13, _⟩ => ⟨S256x512x2048, .f32⟩
  | .hbm, ⟨14, _⟩ => ⟨S256x512x2048, .f32⟩
  | .hbm, ⟨15, _⟩ => ⟨S_, .f32⟩
  | .hbm, ⟨16, _⟩ => ⟨S256x512, .f32⟩
  | .hbm, ⟨17, _⟩ => ⟨S256x512x1, .f32⟩
  | .hbm, ⟨18, _⟩ => ⟨S256x512x2048, .f32⟩
  | .hbm, ⟨19, _⟩ => ⟨S256x512x2048, .f32⟩
  | .hbm, ⟨20, _⟩ => ⟨S256x512x2048, .f32⟩
  | .hbm, ⟨21, _⟩ => ⟨S256x512x128, .f32⟩
  | .hbm, ⟨22, _⟩ => ⟨S_, .f32⟩
  | .hbm, ⟨23, _⟩ => ⟨S256x512, .f32⟩
  | .hbm, ⟨24, _⟩ => ⟨S256x512x1, .f32⟩
  | .hbm, ⟨25, _⟩ => ⟨S256x512x128, .f32⟩
  | .hbm, ⟨26, _⟩ => ⟨S256x512x128, .f32⟩
  | .hbm, ⟨27, _⟩ => ⟨S512x256x128, .f32⟩
  | .hbm, ⟨28, _⟩ => ⟨S512x32768, .f32⟩
  | .hbm, ⟨29, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Prog.lean ====
/-
The kernel body as a program with loops. The printed body is one long unrolled sequence; here the same sequence is
written with a loop over the other 31 devices wherever the source has one, and is shown to be the printed body.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Gen

open Idealize.ShloMosaic Idealize.ShloMosaic.TcCoe Idealize.SL.Sem

variable {F : FTy → Type} [FloatOps F]

/-! ## The buffers and the semaphores of the body -/

abbrev xM : Memref sig .tc .vmem S512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S2x2048x128 .f32 := Memref.whole cc0_stg3_0
abbrev vM : Memref sig .tc .vmem S2x2048x128 .f32 := Memref.whole cc0_stg4_0
abbrev oM : Memref sig .tc .vmem S512x1024 .f32 := Memref.whole cc0_stg5_0
abbrev pM : Memref sig .tc .vmem S512x1024 .f32 := Memref.whole cc0_scratch0
abbrev bM : Memref sig .tc .vmem S512x1024 .bf16 := Memref.whole cc0_scratch1
abbrev rM : Memref sig .tc .vmem S31x16x1024 .bf16 := Memref.whole cc0_scratch2
abbrev gM : Memref sig .tc .vmem S512x1024 .bf16 := Memref.whole cc0_scratch3

abbrev barS : Sem sig := (SemArray.scalar (sig.barrier 0 rfl) : Sems sig S_).sem

/-! ## The other devices: `j + 1` places after and before `d0` in the order the kernel goes through them -/

abbrev myW (d0 : Dev nD) : BitVec 32 := Scalar.remsi (Scalar.divsi (Dev.word d0) 1#32) 32#32
abbrev nxW (j : Fin 31) (d0 : Dev nD) : BitVec 32 := Scalar.remsi (Scalar.addi (myW d0) (BitVec.ofNat 32 (j.val + 1))) 32#32
def devNx (j : Fin 31) (d0 : Dev nD) : Nat := (Scalar.addi 0#32 (Scalar.muli (nxW j d0) 1#32)).toNat
def offNx (j : Fin 31) (d0 : Dev nD) : Fin 2 → Nat := ![(Scalar.muli (nxW j d0) 16#32).toNat, 0]
def condNx (b : Fin 4) (j : Fin 31) (d0 : Dev nD) : BitVec 1 :=
  Scalar.cmpi .ne (Scalar.extui (Scalar.cmpi .eq (Scalar.divsi (nxW j d0) 8#32) (BitVec.ofNat 32 b.val))) 0#32
abbrev offPv (j : Fin 31) (d0 : Dev nD) : Fin 2 → Nat := k0_off127 d0 (BitVec.ofNat 32 (1 + j.val))
abbrev offPv' (j : Fin 31) (d0 : Dev nD) : Fin 2 → Nat := k0_off128 d0 (BitVec.ofNat 32 (1 + j.val))

/-- The device `j + 1` places after `d`, and the one `j + 1` places before it. -/
def nx (j : Fin 31) (d : Dev nD) : Dev nD := ⟨(d.val + j.val + 1) % 32, Nat.mod_lt _ (by decide)⟩
def pv (j : Fin 31) (d : Dev nD) : Dev nD := ⟨(d.val + (31 - j.val)) % 32, Nat.mod_lt _ (by decide)⟩

theorem devNx_eq : ∀ (j : Fin 31) (d0 : Dev nD), devNx j d0 = (nx j d0).val := by decide +kernel
theorem offNx_eq : ∀ (j : Fin 31) (d0 : Dev nD), offNx j d0 = ![16 * (nx j d0).val, 0] := by decide +kernel
theorem offPv_eq : ∀ (j : Fin 31) (d0 : Dev nD), offPv j d0 = ![16 * (pv j d0).val, 0] := by decide +kernel
theorem offPv'_eq : ∀ (j : Fin 31) (d0 : Dev nD), offPv' j d0 = ![16 * (pv j d0).val, 0] := by decide +kernel
theorem off125_eq : ∀ d0 : Dev nD, k0_off125 d0 = ![16 * d0.val, 0] := by decide +kernel
theorem off126_eq : ∀ d0 : Dev nD, k0_off126 d0 = ![16 * d0.val, 0] := by decide +kernel
theorem condNx_eq : ∀ (b : Fin 4) (j : Fin 31) (d0 : Dev nD), (condNx b j d0 = 1#1) ↔ (nx j d0).val / 8 = b.val := by decide +kernel

theorem devNx_lt (j : Fin 31) (d0 : Dev nD) : devNx j d0 < nD := by rw [devNx_eq]; exact (nx j d0).isLt

/-! ## Rows and slots -/

theorem inb31 (j : Fin 31) : ∀ a, (![j.val] : Fin 1 → Nat) a + S1.size a ≤ S31.size a := by
  intro a; have := j.isLt; fin_cases a; show j.val + 1 ≤ 31; omega

abbrev semAt (s : DmaSems sig S31) (j : Fin 31) : DmaSem sig :=
  ((s.slice (Rect.unit (s := S31) ![j.val] S1.size (inb31 j))).squeeze S_ squeezes_S1_S_).sem

theorem inbR : ∀ (j : Fin 31) (a : Fin 3), (![j.val, 0, 0] : Fin 3 → Nat) a + S1x16x1024.size a ≤ S31x16x1024.size a := by decide
theorem wordsR : ∀ (j : Fin 31), (Rect.unit (s := S31x16x1024) ![j.val, 0, 0] S1x16x1024.size (inbR j)).WholeWords (EltTy.packing .bf16) := by decide

/-- Slot `j` of the receive buffer as the 3-dimensional slice it is, and as the `16 × 1024` array the copies name. -/
abbrev slotRect (j : Fin 31) : Rect S31x16x1024 := Rect.unit (s := S31x16x1024) ![j.val, 0, 0] S1x16x1024.size (inbR j)
abbrev slot3 (j : Fin 31) : Memref sig .tc .vmem S1x16x1024 .bf16 := rM.slice (slotRect j) (fun _ => rfl)
abbrev slotM (j : Fin 31) : Memref sig .tc .vmem S16x1024 .bf16 := (slot3 j).squeeze S16x1024 squeezes_S1x16x1024_S16x1024
theorem slotM_words (j : Fin 31) : (slotM j).view.WordExact :=
  ((Memref.isWhole_whole cc0_scratch2).wordExact_slice rfl _ (wordsR j)).reshape _ _

theorem inbChunk : ∀ (s : Fin 32) (a : Fin 2), (![16 * s.val, 0] : Fin 2 → Nat) a + S16x1024.size a ≤ S512x1024.size a := by decide
theorem wordsChunk : ∀ (s : Fin 32), (Rect.unit (s := S512x1024) ![16 * s.val, 0] S16x1024.size (inbChunk s)).WholeWords (EltTy.packing .bf16) := by decide
theorem packedChunk : ∀ (s : Fin 32), (Rect.unit (s := S512x1024) ![16 * s.val, 0] S16x1024.size (inbChunk s)).PackedRows (EltTy.packing .bf16) := by decide

theorem inb_of_eq {off : Fin 2 → Nat} {s : Fin 32} (h : off = ![16 * s.val, 0]) : ∀ a, off a + S16x1024.size a ≤ S512x1024.size a := by
  subst h; exact inbChunk s
theorem words_of_eq {off : Fin 2 → Nat} {s : Fin 32} (h : off = ![16 * s.val, 0]) :
    (Rect.unit (s := S512x1024) off S16x1024.size (inb_of_eq h)).WholeWords (EltTy.packing .bf16) := by
  subst h; exact wordsChunk s
theorem packed_of_eq {off : Fin 2 → Nat} {s : Fin 32} (h : off = ![16 * s.val, 0]) :
    (Rect.unit (s := S512x1024) off S16x1024.size (inb_of_eq h)).PackedRows (EltTy.packing .bf16) := by
  subst h; exact packedChunk s

/-- 16 rows of a `512 × 1024` buffer at the offsets the program computes. -/
abbrev rowsR {off : Fin 2 → Nat} {s : Fin 32} (h : off = ![16 * s.val, 0]) : Rect S512x1024 :=
  Rect.unit (s := S512x1024) off S16x1024.size (inb_of_eq h)

theorem inbBlk : ∀ (b : Fin 4) (a : Fin 2), (![128 * b.val, 0] : Fin 2 → Nat) a + S128x1024.size a ≤ S512x1024.size a := by decide
theorem packedBlk : ∀ (b : Fin 4), (Rect.unit (s := S512x1024) ![128 * b.val, 0] S128x1024.size (inbBlk b)).PackedRows (EltTy.packing .bf16) := by decide
abbrev blkR (b : Fin 4) : Rect S512x1024 := Rect.unit (s := S512x1024) ![128 * b.val, 0] S128x1024.size (inbBlk b)

theorem inbKv : ∀ (g : Fin 2) (a : Fin 3), (![g.val, 0, 0] : Fin 3 → Nat) a + S1x2048x128.size a ≤ S2x2048x128.size a := by decide
abbrev kvR (g : Fin 2) : Rect S2x2048x128 := Rect.unit (s := S2x2048x128) ![g.val, 0, 0] S1x2048x128.size (inbKv g)

theorem slicesHead : ∀ h : Fin 8, S128x1024.Slices ![0, 128 * h.val] S128x128 := by decide

/-! ## One block of query rows -/

/-- The block's query rows for the device's heads. -/
def qVal (x : Vec F S128x1024 .f32) (wq : Vec F S1024x1024 .f32) : FVec F S128x1024 .f32 :=
  matmul dot_S128x1024_S1024x1024_S128x1024_1_0_0_1_n_n none (shapeCast S128x1024 x shapeCasts_S128x1024_S128x1024)
    (shapeCast S1024x1024 wq shapeCasts_S1024x1024_S1024x1024) (constant S128x1024 .f32 0x00000000#32)

/-- The scores of one head, scaled. -/
def sVal (q : FVec F S128x128 .f32) (k : Vec F S1x2048x128 .f32) : FVec F S128x2048 .f32 :=
  mulf (matmul dot_S128x128_S2048x128_S128x2048_1_1_0_0_n_n none q
      (shapeCast S2048x128 k shapeCasts_S1x2048x128_S2048x128) (constant S128x2048 .f32 0x00000000#32))
    (broadcast S128x2048 (Scalar.ofBits .f32 0x3DB504F3#32))

/-- Their exponentials, each row taken relative to its maximum. -/
def eVal (s : FVec F S128x2048 .f32) : FVec F S128x2048 .f32 :=
  exp (subf s (broadcastTo S128x2048 (shapeCast S128x1
    (multiReduction .maximumf [1] S128 s 0xFF800000#32 reduces_S128x2048_S128 (.inl rfl) rfl) shapeCasts_S128_S128x1) broadcasts_S128x1_S128x2048))

/-- One head: the weighted sum of the value rows over the sum of the weights. -/
def oVal (e : FVec F S128x2048 .f32) (v : Vec F S1x2048x128 .f32) : FVec F S128x128 .f32 :=
  divf (matmul dot_S128x2048_S2048x128_S128x128_1_0_0_1_n_n none e
      (shapeCast S2048x128 v shapeCasts_S1x2048x128_S2048x128) (constant S128x128 .f32 0x00000000#32))
    (broadcastTo S128x128 (shapeCast S128x1
      (multiReduction .add [1] S128 e 0x00000000#32 reduces_S128x2048_S128 (.inl rfl) rfl) shapeCasts_S128_S128x1) broadcasts_S128x1_S128x128)

def headVal (q : FVec F S128x1024 .f32) (h : Fin 8) (k v : Vec F S1x2048x128 .f32) : FVec F S128x128 .f32 :=
  oVal (eVal (sVal (extractStridedSlice S128x128 ![0, 128 * h.val] q (slicesHead h)) k)) v

/-- The block's partial product with the device's rows of the output matrix. -/
def pVal (a : Fin 8 → FVec F S128x128 .f32) (wo : Vec F S1024x1024 .f32) : FVec F S128x1024 .f32 :=
  matmul dot_S128x1024_S1024x1024_S128x1024_1_0_0_1_n_n none
    (concatenate S128x1024 1 [⟨S128x128, a 0⟩, ⟨S128x128, a 1⟩, ⟨S128x128, a 2⟩, ⟨S128x128, a 3⟩, ⟨S128x128, a 4⟩, ⟨S128x128, a 5⟩, ⟨S128x128, a 6⟩, ⟨S128x128, a 7⟩]
      concatenates_S128x128_S128x128_S128x128_S128x128_S128x128_S128x128_S128x128_S128x128_S128x1024_d1)
    (shapeCast S1024x1024 wo shapeCasts_S1024x1024_S1024x1024) (constant S128x1024 .f32 0x00000000#32)

def accVal (a : FVec F S16x1024 .f32) (r : Vec F S1x16x1024 .bf16) : FVec F S16x1024 .f32 :=
  addf a (extf .f32 (shapeCast S16x1024 r shapeCasts_S1x16x1024_S16x1024) bitsLt_bf16_f32)

abbrev PT (F : FTy → Type) [FloatOps F] : Type → Type 1 := Prog (TpuEff nD τ sig (Elt F) Λ₀ .tc)

def headP (q : FVec F S128x1024 .f32) (h : Fin 8) (g : Fin 2) : PT F (FVec F S128x128 .f32) := do
  let k : Vec F S1x2048x128 .f32 ← Prog.lift (.load kM (kvR g).toLoadRect (View.loadsAt_vmem h_S1x2048x128))
  let v : Vec F S1x2048x128 .f32 ← Prog.lift (.load vM (kvR g).toLoadRect (View.loadsAt_vmem h_S1x2048x128))
  pure (headVal q h k v)

/-- A loop over a list of places. -/
def seqL : List (Fin 31) → (Fin 31 → PT F PUnit) → PT F PUnit
  | [], _ => pure ⟨⟩
  | j :: l, f => do f j; seqL l f

def foldP {A : Type} : List (Fin 31) → (A → Fin 31 → PT F A) → A → PT F A
  | [], _, a => pure a
  | j :: l, f, a => do let a' ← f a j; foldP l f a'

/-- The 31 places in order. -/
abbrev places : List (Fin 31) := [0, 1, 2, 3, 4, 5, 6, 7, 8, 9, 10, 11, 12, 13, 14, 15, 16, 17, 18, 19, 20, 21, 22, 23, 24, 25, 26, 27, 28, 29, 30]

def sigP (d0 : Dev nD) (j : Fin 31) : PT F PUnit := semSignalWord (⟨devNx j d0, devNx_lt j d0⟩ : Dev nD) barS 1#32

def rsSendP (d0 : Dev nD) (b : Fin 4) (j : Fin 31) : PT F PUnit :=
  if condNx b j d0 = 1#1 then do
    Prog.lift (.enqueueDma (bM.slice (rowsR (offNx_eq j d0)) (fun _ => rfl)) (.remote (Dev.tc (⟨devNx j d0, devNx_lt j d0⟩ : Dev nD)) (slotM j) (.dma (semAt cc0_scratch4 j)))
      (.dma (semAt cc0_scratch5 j)) ((Memref.isWhole_whole cc0_scratch1).wordExact_slice rfl _ (words_of_eq (offNx_eq j d0))) (slotM_words j) ⟨⟨rfl, Or.inl rfl⟩, trivial⟩)
    pure ⟨⟩
  else do
    pure ⟨⟩

def blkP (d0 : Dev nD) (b : Fin 4) : PT F PUnit := do
  let x : Vec F S128x1024 .f32 ← Prog.lift (.load xM (blkR b).toLoadRect (View.loadsAt_vmem h_S128x1024))
  let wq : Vec F S1024x1024 .f32 ← Prog.lift (.load wqM (Rect.unit (s := S1024x1024) ![0, 0] S1024x1024.size inb_S1024x1024_S1024x1024_0_0).toLoadRect (View.loadsAt_vmem h_S1024x1024))
  let a0 ← headP (qVal x wq) 0 0
  let a1 ← headP (qVal x wq) 1 0
  let a2 ← headP (qVal x wq) 2 0
  let a3 ← headP (qVal x wq) 3 0
  let a4 ← headP (qVal x wq) 4 1
  let a5 ← headP (qVal x wq) 5 1
  let a6 ← headP (qVal x wq) 6 1
  let a7 ← headP (qVal x wq) 7 1
  let wo : Vec F S1024x1024 .f32 ← Prog.lift (.load woM (Rect.unit (s := S1024x1024) ![0, 0] S1024x1024.size inb_S1024x1024_S1024x1024_0_0).toLoadRect (View.loadsAt_vmem h_S1024x1024))
  let _ ← Prog.lift (.load pM (blkR b).toLoadRect (View.loadsAt_vmem h_S128x1024))
  Prog.lift (.store pM (blkR b) (shapeCast S128x1024 (pVal ![a0, a1, a2, a3, a4, a5, a6, a7] wo) shapeCasts_S128x1024_S128x1024) Finset.univ (View.stores_vmem_bits_univ h_S128x1024 rfl) (.inl rfl))
  let _ ← Prog.lift (.load bM (blkR b).toLoadRect (View.loadsAt_vmem h_S128x1024))
  Prog.lift (.store bM (blkR b) (shapeCast S128x1024 (truncf .bf16 (pVal ![a0, a1, a2, a3, a4, a5, a6, a7] wo) bitsLt_bf16_f32) shapeCasts_S128x1024_S128x1024) Finset.univ
    (View.stores_vmem h_S128x1024 ((Memref.isWhole_whole cc0_scratch1).storeExact_slice rfl _ (packedBlk b)) (fun _ => rfl)) (.inl rfl))
  seqL places (rsSendP d0 b)

def accP (a : FVec F S16x1024 .f32) (j : Fin 31) : PT F (FVec F S16x1024 .f32) := do
  Prog.lift (.waitDma2 (semAt cc0_scratch5 j) (slotM j) (slotM j) (slotM_words j) (slotM_words j))
  let r : Vec F S1x16x1024 .bf16 ← Prog.lift (.load rM (slotRect j).toLoadRect (View.loadsAt_vmem h_S1x16x1024))
  pure (accVal a r)

def agSendP (d0 : Dev nD) (j : Fin 31) : PT F PUnit :=
  Prog.lift (.enqueueDma (gM.slice (rowsR (off126_eq d0)) (fun _ => rfl)) (.remote (Dev.tc (⟨devNx j d0, devNx_lt j d0⟩ : Dev nD)) (gM.slice (rowsR (off126_eq d0)) (fun _ => rfl)) (.dma (semAt cc0_scratch6 j)))
    (.dma (semAt cc0_scratch7 j)) ((Memref.isWhole_whole cc0_scratch3).wordExact_slice rfl _ (words_of_eq (off126_eq d0))) ((Memref.isWhole_whole cc0_scratch3).wordExact_slice rfl _ (words_of_eq (off126_eq d0))) ⟨⟨rfl, Or.inl rfl⟩, trivial⟩)

def agRecvP (d0 : Dev nD) (j : Fin 31) : PT F PUnit := do
  Prog.lift (.waitDma2 (semAt cc0_scratch7 j) (gM.slice (rowsR (offPv_eq j d0)) (fun _ => rfl)) (gM.slice (rowsR (offPv_eq j d0)) (fun _ => rfl))
    ((Memref.isWhole_whole cc0_scratch3).wordExact_slice rfl _ (words_of_eq (offPv_eq j d0))) ((Memref.isWhole_whole cc0_scratch3).wordExact_slice rfl _ (words_of_eq (offPv_eq j d0))))
  let r : Vec F S16x1024 .bf16 ← Prog.lift (.load gM (rowsR (offPv'_eq j d0)).toLoadRect (View.loadsAt_vmem h_S16x1024))
  let _ ← Prog.lift (.load oM (rowsR (offPv'_eq j d0)).toLoadRect (View.loadsAt_vmem h_S16x1024))
  Prog.lift (.store oM (rowsR (offPv'_eq j d0)) (extf .f32 r bitsLt_bf16_f32 : FVec F S16x1024 .f32) Finset.univ (View.stores_vmem_bits_univ h_S16x1024 rfl) (.inl rfl))

theorem chunk0 : (![0, 0] : Fin 2 → Nat) = ![16 * (0 : Fin 32).val, 0] := rfl

def endP (j : Fin 31) : PT F PUnit := do
  Prog.lift (.waitDma2 (semAt cc0_scratch4 j) (slotM j) (bM.slice (rowsR chunk0) (fun _ => rfl)) (slotM_words j)
    ((Memref.isWhole_whole cc0_scratch1).wordExact_slice rfl _ (words_of_eq chunk0)))
  Prog.lift (.waitDma2 (semAt cc0_scratch6 j) (gM.slice (rowsR chunk0) (fun _ => rfl)) (gM.slice (rowsR chunk0) (fun _ => rfl))
    ((Memref.isWhole_whole cc0_scratch3).wordExact_slice rfl _ (words_of_eq chunk0)) ((Memref.isWhole_whole cc0_scratch3).wordExact_slice rfl _ (words_of_eq chunk0)))

/-- The body on device `d0`, with its loops, after it has asked which device it is. -/
def restP (d0 : Dev nD) : PT F PUnit := do
  seqL places (sigP d0)
  semWaitWord barS 31#32
  blkP d0 0
  blkP d0 1
  blkP d0 2
  blkP d0 3
  let a : Vec F S16x1024 .f32 ← Prog.lift (.load pM (rowsR (off125_eq d0)).toLoadRect (View.loadsAt_vmem h_S16x1024))
  let acc ← foldP places accP a
  let _ ← Prog.lift (.load oM (rowsR (off125_eq d0)).toLoadRect (View.loadsAt_vmem h_S16x1024))
  Prog.lift (.store oM (rowsR (off125_eq d0)) acc Finset.univ (View.stores_vmem_bits_univ h_S16x1024 rfl) (.inl rfl))
  let _ ← Prog.lift (.load gM (rowsR (off125_eq d0)).toLoadRect (View.loadsAt_vmem h_S16x1024))
  Prog.lift (.store gM (rowsR (off125_eq d0)) (shapeCast S16x1024 (truncf .bf16 acc bitsLt_bf16_f32) shapeCasts_S16x1024_S16x1024) Finset.univ
    (View.stores_vmem h_S16x1024 ((Memref.isWhole_whole cc0_scratch3).storeExact_slice rfl _ (packed_of_eq (off125_eq d0))) (fun _ => rfl)) (.inl rfl))
  seqL places (agSendP d0)
  seqL places (agRecvP d0)
  seqL places endP

section
variable (h0 : xM.IsWhole) (h1 : wqM.IsWhole) (h2 : woM.IsWhole) (h3 : kM.IsWhole) (h4 : vM.IsWhole) (h5 : oM.IsWhole)
  (h6 : pM.IsWhole) (h7 : bM.IsWhole) (h8 : rM.IsWhole) (h9 : gM.IsWhole)

set_option maxRecDepth 65536 in
/-- The printed body asks for the device and then goes on as `restP` does: once the device is known every branch of the
    sends is decided, and the two are the same sequence. -/
theorem body_eq : ∃ k : Dev nD → PT F PUnit,
    cc0__body (F := F) xM h0 wqM h1 woM h2 kM h3 vM h4 oM h5 pM h6 bM h7 rM h8 gM h9 cc0_scratch4 cc0_scratch5 cc0_scratch6 cc0_scratch7 = Prog.op .deviceId k ∧
    ∀ d : Dev nD, k d = restP d :=
  ⟨_, rfl, fun d => by fin_cases d <;> chain_rfl⟩
end

theorem seqL_nil (f : Fin 31 → PT F PUnit) : seqL [] f = pure ⟨⟩ := rfl
theorem foldP_nil {A : Type} (f : A → Fin 31 → PT F A) (a : A) : foldP [] f a = pure a := rfl
theorem seqL_cons (j : Fin 31) (l : List (Fin 31)) (f : Fin 31 → PT F PUnit) : seqL (j :: l) f = (f j >>= fun _ => seqL l f) := rfl
theorem foldP_cons {A : Type} (j : Fin 31) (l : List (Fin 31)) (f : A → Fin 31 → PT F A) (a : A) :
    foldP (j :: l) f a = (f a j >>= fun a' => foldP l f a') := rfl

attribute [irreducible] seqL foldP

end Cert.KernelIdeal.Gen

end
-- ==== Proof.Contents.lean ====
/-
What the buffers hold, index by index, and which parts of them the copies move.

Device `c` computes its partial product in four blocks of 128 rows (`PF`, and rounded `PB`). The rows of chunk `s` (16
rows) go to device `s`, into the slot of its receive buffer numbered by how far the sender is behind it (`RSV`). Device
`c` adds the 31 slots to its own chunk (`ACC`), and the rounded sum travels back to everyone (`AG`). `OUT` is the result.
-/
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.Pointwise.Index

@[expose] public section

noncomputable section

namespace Cert.KernelIdeal.Gen

open Idealize.ShloMosaic Idealize.ShloMosaic.TcCoe Idealize.SL.Sem

variable {F : FTy → Type} [FloatOps F]

/-! ## Indices -/

abbrev I2 : Type := S512x1024.Idx
abbrev I3 : Type := S31x16x1024.Idx

/-- Which 16-row chunk, and which 128-row block, an index of a `512 × 1024` buffer lies in. -/
def chk (i : I2) : Fin 32 := ⟨(i 0).val / 16, by have := (i 0).isLt; change (i 0).val < 512 at this; omega⟩
def blkOf (i : I2) : Fin 4 := ⟨(i 0).val / 128, by have := (i 0).isLt; change (i 0).val < 512 at this; omega⟩
/-- The index inside the chunk, and inside the block. -/
def inChk (i : I2) : S16x1024.Idx := ix2 ⟨(i 0).val % 16, Nat.mod_lt _ (by decide)⟩ ⟨(i 1).val, (i 1).isLt⟩
def inBlk (i : I2) : S128x1024.Idx := ix2 ⟨(i 0).val % 128, Nat.mod_lt _ (by decide)⟩ ⟨(i 1).val, (i 1).isLt⟩
/-- Row `r` of chunk `s`. -/
def rowIx (s : Fin 32) (r : Fin 16) (q : Fin 1024) : I2 :=
  ix2 ⟨16 * s.val + r.val, by have := s.isLt; have := r.isLt; omega⟩ q

/-- The parts of the buffers: a chunk, a block, a slot. -/
def chunkS (s : Fin 32) : Finset I2 := Finset.univ.filter fun i => chk i = s
def blkS (b : Fin 4) : Finset I2 := Finset.univ.filter fun i => blkOf i = b
def slotOf (i : I3) : Fin 31 := ⟨(i 0).val, (i 0).isLt⟩
def slotS (j : Fin 31) : Finset I3 := Finset.univ.filter fun i => slotOf i = j

theorem mem_chunkS {s : Fin 32} {i : I2} : i ∈ chunkS s ↔ chk i = s := by simp [chunkS]
theorem mem_blkS {b : Fin 4} {i : I2} : i ∈ blkS b ↔ blkOf i = b := by simp [blkS]
theorem mem_slotS {j : Fin 31} {i : I3} : i ∈ slotS j ↔ slotOf i = j := by simp [slotS]

theorem mem_rows {off : Fin 2 → Nat} {s : Fin 32} (h : off = ![16 * s.val, 0]) (i : I2) : i ∈ (rowsR h).set ↔ chk i = s := by
  subst h
  rw [Rect.mem_set_unit, Fin.forall_fin_two]
  have h1 : (i 1).val < 1024 := (i 1).isLt
  have e : (chk i).val = (i 0).val / 16 := rfl
  rw [Fin.ext_iff, e]
  show (16 * s.val ≤ (i 0).val ∧ (i 0).val < 16 * s.val + 16) ∧ (0 ≤ (i 1).val ∧ (i 1).val < 0 + 1024) ↔ _
  omega

theorem mem_blk (b : Fin 4) (i : I2) : i ∈ (blkR b).set ↔ blkOf i = b := by
  rw [Rect.mem_set_unit, Fin.forall_fin_two]
  have h1 : (i 1).val < 1024 := (i 1).isLt
  have e : (blkOf i).val = (i 0).val / 128 := rfl
  rw [Fin.ext_iff, e]
  show (128 * b.val ≤ (i 0).val ∧ (i 0).val < 128 * b.val + 128) ∧ (0 ≤ (i 1).val ∧ (i 1).val < 0 + 1024) ↔ _
  omega

theorem mem_slot (j : Fin 31) (i : I3) : i ∈ (slotRect j).set ↔ slotOf i = j := by
  rw [Rect.mem_set_unit]
  have h1 : (i 1).val < 16 := (i 1).isLt
  have h2 : (i 2).val < 1024 := (i 2).isLt
  have e : (slotOf i).val = (i 0).val := rfl
  rw [Fin.ext_iff, e]
  constructor
  · intro h; have h0 := h 0
    change j.val ≤ (i 0).val ∧ (i 0).val < j.val + 1 at h0; omega
  · intro h a
    match a with
    | ⟨0, _⟩ => show j.val ≤ (i 0).val ∧ (i 0).val < j.val + 1; omega
    | ⟨1, _⟩ => show 0 ≤ (i 1).val ∧ (i 1).val < 0 + 16; omega
    | ⟨2, _⟩ => show 0 ≤ (i 2).val ∧ (i 2).val < 0 + 1024; omega

theorem rows_set {off : Fin 2 → Nat} {s : Fin 32} (h : off = ![16 * s.val, 0]) : (rowsR h).set = chunkS s := by
  ext i; rw [mem_rows, mem_chunkS]
theorem blk_set (b : Fin 4) : (blkR b).set = blkS b := by
  ext i; rw [mem_blk, mem_blkS]
theorem slot_set (j : Fin 31) : (slotRect j).set = slotS j := by
  ext i; rw [mem_slot, mem_slotS]

/-- Where the rectangles put their indices. -/
theorem rows_emb {off : Fin 2 → Nat} {s : Fin 32} (h : off = ![16 * s.val, 0]) (x : S16x1024.Idx) :
    (rowsR h).emb x = rowIx s (x 0) (x 1) := by
  subst h
  refine Shape.idx_ext₂ ?_ ?_
  · show 16 * s.val + 1 * (x 0).val = 16 * s.val + (x 0).val; omega
  · show 0 + 1 * (x 1).val = (x 1).val; omega

theorem slot_emb (j : Fin 31) (x : S1x16x1024.Idx) : (slotRect j).emb x = ix3 j ⟨(x 1).val, (x 1).isLt⟩ ⟨(x 2).val, (x 2).isLt⟩ := by
  have h0 : (x 0).val < 1 := (x 0).isLt
  funext a
  match a with
  | ⟨0, _⟩ => exact Fin.ext (show j.val + 1 * (x 0).val = j.val by omega)
  | ⟨1, _⟩ => exact Fin.ext (show 0 + 1 * (x 1).val = (x 1).val by omega)
  | ⟨2, _⟩ => exact Fin.ext (show 0 + 1 * (x 2).val = (x 2).val by omega)

theorem slotM_emb (j : Fin 31) (x : S16x1024.Idx) : (slotM j).view.emb x = ix3 j (x 0) (x 1) := by
  have e : (slotM j).view.emb x = (slotRect j).emb (Shape.reshapeEquiv squeezes_S1x16x1024_S16x1024.numel_eq x) := rfl
  have hx : x = ValueIdx.ix2 (n0 := 16) (n1 := 1024) (x 0) (x 1) := Shape.idx_ext₂ rfl rfl
  have hr := ValueIdx.reshapeEquiv_ix2_1ab (a := 16) (b := 1024) squeezes_S1x16x1024_S16x1024.numel_eq (x 0) (x 1)
  rw [e, hx]
  exact (congrArg (slotRect j).emb hr).trans (slot_emb j _)

theorem blk_emb (b : Fin 4) (x : S128x1024.Idx) :
    blkOf ((blkR b).emb x) = b ∧ inBlk ((blkR b).emb x) = x := by
  have h0 : (x 0).val < 128 := (x 0).isLt
  have e0 : ((blkR b).emb x 0).val = 128 * b.val + (x 0).val := by
    show 128 * b.val + 1 * (x 0).val = _; omega
  have e1 : ((blkR b).emb x 1).val = (x 1).val := by show 0 + 1 * (x 1).val = _; omega
  refine ⟨Fin.ext ?_, Shape.idx_ext₂ ?_ ?_⟩
  · show ((blkR b).emb x 0).val / 128 = b.val; rw [e0]; omega
  · show ((blkR b).emb x 0).val % 128 = (x 0).val; rw [e0]; omega
  · exact e1

theorem rows_chk {off : Fin 2 → Nat} {s : Fin 32} (h : off = ![16 * s.val, 0]) (x : S16x1024.Idx) :
    chk ((rowsR h).emb x) = s ∧ inChk ((rowsR h).emb x) = x := by
  have h0 : (x 0).val < 16 := (x 0).isLt
  rw [rows_emb h x]
  refine ⟨Fin.ext ?_, Shape.idx_ext₂ ?_ rfl⟩
  · show (16 * s.val + (x 0).val) / 16 = s.val; omega
  · show (16 * s.val + (x 0).val) % 16 = (x 0).val; omega

theorem chk_rowIx (s : Fin 32) (r : Fin 16) (q : Fin 1024) : chk (rowIx s r q) = s :=
  Fin.ext (show (16 * s.val + r.val) / 16 = s.val by have := r.isLt; omega)
theorem inChk_rowIx (s : Fin 32) (r : Fin 16) (q : Fin 1024) : inChk (rowIx s r q) = ix2 r q :=
  Shape.idx_ext₂ (show (16 * s.val + r.val) % 16 = r.val by have := r.isLt; omega) rfl
theorem rowIx_chk (i : I2) : rowIx (chk i) (inChk i 0) (inChk i 1) = i :=
  Shape.idx_ext₂ (show 16 * ((i 0).val / 16) + (i 0).val % 16 = (i 0).val by omega) rfl

/-! ## The values -/

/-- What each device is given. -/
structure Ins (F : FTy → Type) where
  x : Dev nD → Vec F S512x1024 .f32
  wq : Dev nD → Vec F S1024x1024 .f32
  wo : Dev nD → Vec F S1024x1024 .f32
  k : Dev nD → Vec F S2x2048x128 .f32
  v : Dev nD → Vec F S2x2048x128 .f32

variable (I : Ins F)

abbrev whole1024 : Rect S1024x1024 := Rect.unit (s := S1024x1024) ![0, 0] S1024x1024.size inb_S1024x1024_S1024x1024_0_0

def xRd (c : Dev nD) (b : Fin 4) : Vec F S128x1024 .f32 := xM.view.readAt (Elt F) (blkR b).toLoadRect (I.x c)
def wqRd (c : Dev nD) : Vec F S1024x1024 .f32 := wqM.view.readAt (Elt F) whole1024.toLoadRect (I.wq c)
def woRd (c : Dev nD) : Vec F S1024x1024 .f32 := woM.view.readAt (Elt F) whole1024.toLoadRect (I.wo c)
def kRd (c : Dev nD) (g : Fin 2) : Vec F S1x2048x128 .f32 := kM.view.readAt (Elt F) (kvR g).toLoadRect (I.k c)
def vRd (c : Dev nD) (g : Fin 2) : Vec F S1x2048x128 .f32 := vM.view.readAt (Elt F) (kvR g).toLoadRect (I.v c)

def hdV (c : Dev nD) (b : Fin 4) (h : Fin 8) (g : Fin 2) : FVec F S128x128 .f32 := headVal (qVal (xRd I c b) (wqRd I c)) h (kRd I c g) (vRd I c g)

/-- Device `c`'s partial product on block `b`. -/
def blkV (c : Dev nD) (b : Fin 4) : FVec F S128x1024 .f32 :=
  pVal ![hdV I c b 0 0, hdV I c b 1 0, hdV I c b 2 0, hdV I c b 3 0, hdV I c b 4 1, hdV I c b 5 1, hdV I c b 6 1, hdV I c b 7 1] (woRd I c)

def PF (c : Dev nD) : Vec F S512x1024 .f32 := fun i =>
  shapeCast S128x1024 (blkV I c (blkOf i)) shapeCasts_S128x1024_S128x1024 (inBlk i)
def PB (c : Dev nD) : Vec F S512x1024 .bf16 := fun i =>
  shapeCast S128x1024 (truncf .bf16 (blkV I c (blkOf i)) bitsLt_bf16_f32) shapeCasts_S128x1024_S128x1024 (inBlk i)

/-- What the receive buffer of `c` ends up holding. -/
def RSV (c : Dev nD) : Vec F S31x16x1024 .bf16 := fun i => PB I (pv (slotOf i) c) (rowIx c (i 1) (i 2))

/-- The sum of chunk `c` over the devices, as device `c` adds it up. -/
def acc0 (c : Dev nD) : FVec F S16x1024 .f32 := pM.view.readAt (Elt F) (rowsR (off125_eq c)).toLoadRect (PF I c)
def accStep (c : Dev nD) (a : FVec F S16x1024 .f32) (j : Fin 31) : FVec F S16x1024 .f32 :=
  accVal a (rM.view.readAt (Elt F) (slotRect j).toLoadRect (RSV I c))
def ACC (c : Dev nD) : FVec F S16x1024 .f32 := places.foldl (accStep I c) (acc0 I c)

/-- The rounded sums, the same on every device. -/
def AG : Vec F S512x1024 .bf16 := fun i =>
  shapeCast S16x1024 (truncf .bf16 (ACC I (chk i)) bitsLt_bf16_f32) shapeCasts_S16x1024_S16x1024 (inChk i)

/-- The result on device `c`. -/
def OUT (c : Dev nD) : Vec F S512x1024 .f32 := fun i =>
  if chk i = c then ACC I c (inChk i)
  else (extf .f32 (fun x : S16x1024.Idx => AG I (rowIx (chk i) (x 0) (x 1)) : FVec F S16x1024 .bf16) bitsLt_bf16_f32 : FVec F S16x1024 .f32) (inChk i)

/-! ## Credits -/

/-- The credit of one 16-row transfer. -/
def N : ℕ := (slotM 0).view.dmaCredit
theorem N_pos : 0 < N := View.dmaCredit_pos _ (by decide)
theorem credit_slot (j : Fin 31) : (slotM j).view.dmaCredit = N := rfl
theorem credit_b {off : Fin 2 → Nat} {s : Fin 32} (h : off = ![16 * s.val, 0]) : (bM.slice (rowsR h) (fun _ => rfl)).view.dmaCredit = N := rfl
theorem credit_g {off : Fin 2 → Nat} {s : Fin 32} (h : off = ![16 * s.val, 0]) : (gM.slice (rowsR h) (fun _ => rfl)).view.dmaCredit = N := rfl

/-! ## The parts as the views' sets -/

theorem set_slotM (j : Fin 31) : (slotM j).view.set = slotS j := by
  have e : (slotM j).view.set = ((View.whole cc0_scratch2).slice (slotRect j)).set := View.set_reshape _ _
  rw [e, View.set_slice_whole, slot_set]
theorem set_b {off : Fin 2 → Nat} {s : Fin 32} (h : off = ![16 * s.val, 0]) : (bM.slice (rowsR h) (fun _ => rfl)).view.set = chunkS s := by
  have e : (bM.slice (rowsR h) (fun _ => rfl)).view.set = ((View.whole cc0_scratch1).slice (rowsR h)).set := rfl
  rw [e, View.set_slice_whole, rows_set]
theorem set_g {off : Fin 2 → Nat} {s : Fin 32} (h : off = ![16 * s.val, 0]) : (gM.slice (rowsR h) (fun _ => rfl)).view.set = chunkS s := by
  have e : (gM.slice (rowsR h) (fun _ => rfl)).view.set = ((View.whole cc0_scratch3).slice (rowsR h)).set := rfl
  rw [e, View.set_slice_whole, rows_set]

/-! ## What the copies and the stores leave -/

/-- A chunk of the partial product lands in the slot the receiver expects it in. -/
theorem land_slot (c : Dev nD) (j : Fin 31) (fd : (slotM j).view.ty.Contents (Elt F)) (hpn : pv j (nx j c) = c) :
    ∀ i ∈ slotS j, (slotM j).view.write (Elt F) fd ((bM.slice (rowsR (offNx_eq j c)) (fun _ => rfl)).view.read (Elt F) (PB I c)) Finset.univ i
      = RSV I (nx j c) i := by
  intro i hi
  rw [← set_slotM] at hi
  obtain ⟨x, -, rfl⟩ := Finset.mem_map.1 hi
  rw [View.write_emb_of_mem _ _ (Finset.mem_univ x), slotM_emb]
  show PB I c ((rowsR (offNx_eq j c)).emb x) = PB I (pv j (nx j c)) (rowIx (nx j c) (x 0) (x 1))
  rw [hpn, rows_emb]

/-- A chunk of the rounded sums lands where it came from. -/
theorem land_chunk (s : Fin 32) {off : Fin 2 → Nat} (h : off = ![16 * s.val, 0]) (fd : (gM.slice (rowsR h) (fun _ => rfl)).view.ty.Contents (Elt F))
    (f : Vec F S512x1024 .bf16) :
    ∀ i ∈ chunkS s, (gM.slice (rowsR h) (fun _ => rfl)).view.write (Elt F) fd ((gM.slice (rowsR h) (fun _ => rfl)).view.read (Elt F) f) Finset.univ i = f i := by
  intro i hi
  rw [← set_g h] at hi
  obtain ⟨x, -, rfl⟩ := Finset.mem_map.1 hi
  rw [View.write_emb_of_mem _ _ (Finset.mem_univ x)]
  rfl

/-- A store of block `b` leaves the block holding what was stored. -/
theorem store_p (c : Dev nD) (b : Fin 4) (f : Vec F S512x1024 .f32) :
    ∀ i, (pM.access (blkR b)).write (Elt F) f (shapeCast S128x1024 (blkV I c b) shapeCasts_S128x1024_S128x1024) Finset.univ i
      = if blkOf i = b then PF I c i else f i := by
  intro i
  by_cases hi : blkOf i = b
  · rw [if_pos hi]
    have hm : i ∈ (blkR b).set := (mem_blk b i).2 hi
    rw [← Rect.map_emb_univ] at hm
    obtain ⟨x, -, rfl⟩ := Finset.mem_map.1 hm
    refine (View.write_emb_of_mem (v := pM.access (blkR b)) f _ (Finset.mem_univ x)).trans ?_
    show shapeCast S128x1024 (blkV I c b) shapeCasts_S128x1024_S128x1024 x = PF I c ((blkR b).emb x)
    unfold PF
    rw [(blk_emb b x).1, (blk_emb b x).2]
  · rw [if_neg hi]
    refine View.write_of_not_mem (v := pM.access (blkR b)) f _ _ ?_
    rw [View.setOn_univ]
    intro h'
    have e : (pM.access (blkR b)).set = (blkR b).set := View.set_slice_whole cc0_scratch0 (blkR b)
    rw [e, mem_blk] at h'
    exact hi h'

theorem store_b (c : Dev nD) (b : Fin 4) (f : Vec F S512x1024 .bf16) :
    ∀ i ∈ blkS b, (bM.access (blkR b)).write (Elt F) f (shapeCast S128x1024 (truncf .bf16 (blkV I c b) bitsLt_bf16_f32) shapeCasts_S128x1024_S128x1024) Finset.univ i
      = PB I c i := by
  intro i hi
  rw [mem_blkS] at hi
  have hm : i ∈ (blkR b).set := (mem_blk b i).2 hi
  rw [← Rect.map_emb_univ] at hm
  obtain ⟨x, -, rfl⟩ := Finset.mem_map.1 hm
  refine (View.write_emb_of_mem (v := bM.access (blkR b)) f _ (Finset.mem_univ x)).trans ?_
  show shapeCast S128x1024 (truncf .bf16 (blkV I c b) bitsLt_bf16_f32) shapeCasts_S128x1024_S128x1024 x = PB I c ((blkR b).emb x)
  unfold PB
  rw [(blk_emb b x).1, (blk_emb b x).2]

/-- A store of 16 rows into the result, on the rows and off them. -/
theorem store_o (s : Fin 32) {off : Fin 2 → Nat} (h : off = ![16 * s.val, 0]) (f : Vec F S512x1024 .f32) (w : FVec F S16x1024 .f32) (i : I2) :
    (oM.access (rowsR h)).write (Elt F) f w Finset.univ i = if chk i = s then w (inChk i) else f i := by
  by_cases hi : chk i = s
  · rw [if_pos hi]
    have hm : i ∈ (rowsR h).set := (mem_rows h i).2 hi
    rw [← Rect.map_emb_univ] at hm
    obtain ⟨x, -, rfl⟩ := Finset.mem_map.1 hm
    refine (View.write_emb_of_mem (v := oM.access (rowsR h)) f _ (Finset.mem_univ x)).trans ?_
    show w x = w (inChk ((rowsR h).emb x))
    rw [(rows_chk h x).2]
  · rw [if_neg hi]
    refine View.write_of_not_mem (v := oM.access (rowsR h)) f _ _ ?_
    rw [View.setOn_univ]
    intro h'
    have e : (oM.access (rowsR h)).set = (rowsR h).set := View.set_slice_whole cc0_stg5_0 (rowsR h)
    rw [e, mem_rows] at h'
    exact hi h'

theorem store_g (c : Dev nD) {off : Fin 2 → Nat} (h : off = ![16 * c.val, 0]) (f : Vec F S512x1024 .bf16) :
    ∀ i ∈ chunkS c, (gM.access (rowsR h)).write (Elt F) f (shapeCast S16x1024 (truncf .bf16 (ACC I c) bitsLt_bf16_f32) shapeCasts_S16x1024_S16x1024) Finset.univ i
      = AG I i := by
  intro i hi
  rw [mem_chunkS] at hi
  have hm : i ∈ (rowsR h).set := (mem_rows h i).2 hi
  rw [← Rect.map_emb_univ] at hm
  obtain ⟨x, -, rfl⟩ := Finset.mem_map.1 hm
  refine (View.write_emb_of_mem (v := gM.access (rowsR h)) f _ (Finset.mem_univ x)).trans ?_
  show shapeCast S16x1024 (truncf .bf16 (ACC I c) bitsLt_bf16_f32) shapeCasts_S16x1024_S16x1024 x = AG I ((rowsR h).emb x)
  unfold AG
  rw [(rows_chk h x).1, (rows_chk h x).2]

/-- The rows of chunk `s ≠ c` of the result are the rounded sums widened. -/
theorem out_other (c : Dev nD) (s : Fin 32) (hs : s ≠ c) {off : Fin 2 → Nat} (h : off = ![16 * s.val, 0]) (i : I2) (hi : chk i = s) :
    (extf .f32 (gM.view.readAt (Elt F) (rowsR h).toLoadRect (AG I) : FVec F S16x1024 .bf16) bitsLt_bf16_f32 : FVec F S16x1024 .f32) (inChk i) = OUT I c i := by
  have e : (gM.view.readAt (Elt F) (rowsR h).toLoadRect (AG I) : FVec F S16x1024 .bf16) = fun x : S16x1024.Idx => AG I (rowIx (chk i) (x 0) (x 1)) := by
    funext x
    show AG I ((rowsR h).emb x) = _
    rw [rows_emb, hi]
  unfold OUT
  rw [if_neg (by rw [hi]; exact hs), e]
theorem out_own (c : Dev nD) (i : I2) (hi : chk i = c) : ACC I c (inChk i) = OUT I c i := by
  unfold OUT; rw [if_pos hi]

end Cert.KernelIdeal.Gen

end
-- ==== Proof.Protocol.lean ====
/-
Who waits for whom. Every semaphore has one round.

The barrier semaphore of a device is raised once by each of the 31 others, and each hands over, with its signal, the
place the signalled device will write to: one slot of its receive buffer and one chunk of its gather buffer. The 31
receive semaphores of either phase are raised by the landing copies, which hand over the slot or the chunk with what has
landed in it; the send semaphores hand the source of the copy back.
-/
module

public import proofs.«01_k».proof.Proof.Contents
public import Idealize.ShloMosaic.Lib.ShareLeaves

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Going round the devices -/

/-- The number of the way back: who is `j + 1` places behind is `rev j + 1` places ahead. -/
def rev (j : Fin 31) : Fin 31 := ⟨30 - j.val, by omega⟩
theorem rev_rev : ∀ j, rev (rev j) = j := by decide
theorem nx_pv : ∀ (j : Fin 31) (c : Dev nD), nx j (pv j c) = c := by decide +kernel
theorem pv_nx : ∀ (j : Fin 31) (c : Dev nD), pv j (nx j c) = c := by decide +kernel
theorem nx_rev : ∀ (j : Fin 31) (c : Dev nD), nx (rev j) c = pv j c := by decide +kernel
theorem nx_ne : ∀ (j : Fin 31) (c : Dev nD), nx j c ≠ c := by decide +kernel
theorem pv_ne : ∀ (j : Fin 31) (c : Dev nD), pv j c ≠ c := by decide +kernel
theorem nx_inj (j j' : Fin 31) (c : Dev nD) (h : nx j c = nx j' c) : j = j' := by
  have h' : (c.val + j.val + 1) % 32 = (c.val + j'.val + 1) % 32 := congrArg Fin.val h
  exact Fin.ext (by omega)
theorem pv_inj (j j' : Fin 31) (c : Dev nD) (h : pv j c = pv j' c) : j = j' := by
  have h' : (c.val + (31 - j.val)) % 32 = (c.val + (31 - j'.val)) % 32 := congrArg Fin.val h
  exact Fin.ext (by omega)
theorem nx_surj (c s : Dev nD) (h : s ≠ c) : ∃ j, nx j c = s := by
  have hs : s.val < 32 := s.isLt
  have hc : c.val < 32 := c.isLt
  have hn : s.val ≠ c.val := fun e => h (Fin.ext e)
  refine ⟨⟨(s.val + 31 - c.val) % 32, by omega⟩, Fin.ext ?_⟩
  show (c.val + (s.val + 31 - c.val) % 32 + 1) % 32 = s.val
  omega
theorem pv_surj (c s : Dev nD) (h : s ≠ c) : ∃ j, pv j c = s := by
  obtain ⟨j, hj⟩ := nx_surj c s h
  exact ⟨rev j, by rw [← nx_rev, rev_rev]; exact hj⟩

def ringE (j : Fin 31) : Dev nD ≃ Dev nD := ⟨nx j, pv j, pv_nx j, nx_pv j⟩
def revE : Fin 31 ≃ Fin 31 := ⟨rev, rev, rev_rev, rev_rev⟩

/-! ## The semaphores -/

/-- The 4 × 31 semaphores of the copies: those counting sends and arrivals of the first phase, and of the second. -/
def dsem : Fin 4 × Fin 31 → DmaSem sig := fun kj => match kj.1 with
  | 0 => semAt cc0_scratch4 kj.2 | 1 => semAt cc0_scratch5 kj.2 | 2 => semAt cc0_scratch6 kj.2 | 3 => semAt cc0_scratch7 kj.2
abbrev osem : Fin 4 × Fin 31 → SemLoc sig := fun kj => .dma (dsem kj)
abbrev CK : Type := Option (Fin 4 × Fin 31)
def csem : CK → SemLoc sig | none => .reg barS | some kj => osem kj
abbrev kcell (ck : Dev nD × CK) : GSem nD τ sig := ((ck.1 : Thread nD τ), csem ck.2)

/-- Which of them a semaphore is. -/
def decode : SemLoc sig → Option CK
  | .reg s => if s = barS then some none else none
  | .dma q => if 6 ≤ q.val then some (some (⟨(q.val - 6) / 31 % 4, Nat.mod_lt _ (by decide)⟩, ⟨(q.val - 6) % 31, Nat.mod_lt _ (by decide)⟩)) else none

theorem dsem_val : ∀ kj : Fin 4 × Fin 31, (dsem kj).val = 6 + 31 * kj.1.val + kj.2.val := by decide +kernel
theorem decode_csem (k : CK) : decode (csem k) = some k := by
  match k with
  | none => show (if barS = barS then some none else none) = some none; exact if_pos rfl
  | some kj =>
    obtain ⟨k, j⟩ := kj
    have h := dsem_val (k, j)
    have hk := k.isLt; have hj := j.isLt
    show decode (.dma (dsem (k, j))) = _
    unfold decode
    dsimp only
    rw [if_pos (by rw [h]; dsimp only; omega)]
    have e1 : (⟨((dsem (k, j)).val - 6) / 31 % 4, Nat.mod_lt _ (by decide)⟩ : Fin 4) = k := Fin.ext (by dsimp only; rw [h]; dsimp only; omega)
    have e2 : (⟨((dsem (k, j)).val - 6) % 31, Nat.mod_lt _ (by decide)⟩ : Fin 31) = j := Fin.ext (by dsimp only; rw [h]; dsimp only; omega)
    rw [e1, e2]
theorem csem_injective : Function.Injective csem := fun a b h => by
  have := congrArg decode h; rw [decode_csem, decode_csem] at this; exact Option.some.inj this
theorem kcell_injective : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

abbrev barC (c : Dev nD) : GSem nD τ sig := kcell (c, none)
abbrev dmaC (k : Fin 4) (c : Dev nD) (j : Fin 31) : GSem nD τ sig := kcell (c, some (k, j))

/-! ## The buffers -/

abbrev at5 (c : Dev nD) (S : Finset I2) (q : PosShare TreeShare) (f : Vec F S512x1024 .f32) : sProp 𝕄 := ((c : Thread nD τ).loc cc0_stg5_0) ↦[S]{q} f
abbrev pAt (c : Dev nD) (S : Finset I2) (q : PosShare TreeShare) (f : Vec F S512x1024 .f32) : sProp 𝕄 := ((c : Thread nD τ).loc cc0_scratch0) ↦[S]{q} f
abbrev bAt (c : Dev nD) (S : Finset I2) (q : PosShare TreeShare) (f : Vec F S512x1024 .bf16) : sProp 𝕄 := ((c : Thread nD τ).loc cc0_scratch1) ↦[S]{q} f
abbrev rAt (c : Dev nD) (S : Finset I3) (q : PosShare TreeShare) (f : Vec F S31x16x1024 .bf16) : sProp 𝕄 := ((c : Thread nD τ).loc cc0_scratch2) ↦[S]{q} f
abbrev gAt (c : Dev nD) (S : Finset I2) (q : PosShare TreeShare) (f : Vec F S512x1024 .bf16) : sProp 𝕄 := ((c : Thread nD τ).loc cc0_scratch3) ↦[S]{q} f

/-- The share of its own chunk a device lends to its `j`-th copy of the second phase; the last leaf it keeps. -/
def lf (j : Fin 31) : PosShare TreeShare := leaf 5 fullShare (Fin.castSucc j : Fin (31 + 1))
def lfK : PosShare TreeShare := leaf 5 fullShare (Fin.last 31 : Fin (31 + 1))

/-! ## The schedule -/

variable (I : Ins F)

/-- What the signal of device `nx j d` to `d` hands over. -/
def barPay (d : Dev nD) (j : Fin 31) : sProp 𝕄 :=
  iprop((∃ f, rAt (F := F) (nx j d) (slotS j) fullShare f) ∗ (∃ f, gAt (F := F) (nx j d) (chunkS d) fullShare f))
def dmaPay (c : Dev nD) (k : Fin 4) (j : Fin 31) : sProp 𝕄 := match k with
  | 0 => bAt c (chunkS (nx j c)) fullShare (PB I c)
  | 1 => rAt c (slotS j) fullShare (RSV I c)
  | 2 => gAt c (chunkS c) (lf j) (AG I)
  | 3 => gAt c (chunkS (pv j c)) fullShare (AG I)

def payOf (o : Option CK) (c : Dev nD) (d : Fin 31) : sProp 𝕄 := match o with
  | none => iprop(emp)
  | some none => barPay c d
  | some (some (k, j)) => dmaPay I c k j
def dutiesOf (o : Option CK) : Finset (Fin 31) := match o with
  | none => ∅
  | some none => Finset.univ
  | some (some _) => {0}
def amountK (o : Option CK) : ℕ := match o with
  | some none => 1
  | _ => N

def Rd : Rounds.Schedule (GSem nD τ sig) (Fin 31) 𝕄 where
  duties g r := if r = 0 ∧ g.1.2 = .tc then dutiesOf (decode g.2) else ∅
  unitless _ := False
  amount g _ _ := amountK (decode g.2)
  payload g _ d := payOf I (decode g.2) g.1.1 d
  amount_pos g _ _ _ := by
    unfold amountK; split
    · exact Nat.one_pos
    · exact N_pos

instance payOf_storable (o : Option CK) (c : Dev nD) (d : Fin 31) : BI.Storable (upEmb : UEmb _ 𝕄) (payOf I o c d) := by
  unfold payOf
  split
  · infer_instance
  · unfold barPay; infer_instance
  · rename_i k j
    unfold dmaPay
    split <;> infer_instance
instance Rd_storable (g : GSem nD τ sig) (r : ℕ) (d : Fin 31) : BI.Storable (upEmb : UEmb _ 𝕄) ((Rd I).payload g r d) :=
  payOf_storable I _ _ _

section
variable (c : Dev nD)

theorem duties_at (k : CK) : (Rd I).duties (kcell (c, k)) 0 = dutiesOf (some k) := by
  unfold Rd
  dsimp only
  rw [if_pos ⟨rfl, rfl⟩, decode_csem]
theorem duties_bar : (Rd I).duties (barC c) 0 = Finset.univ := duties_at I c none
theorem duties_dma (k : Fin 4) (j : Fin 31) : (Rd I).duties (dmaC k c j) 0 = {0} := duties_at I c (some (k, j))
theorem duties_later (g : GSem nD τ sig) : ∀ r, 1 ≤ r → (Rd I).duties g r = ∅ := fun r hr => if_neg fun h => by omega
theorem amount_bar (d : Fin 31) : (Rd I).amount (barC c) 0 d = 1 := by
  show amountK (decode (csem none)) = 1
  rw [decode_csem]; rfl
theorem amount_dma (k : Fin 4) (j : Fin 31) (d : Fin 31) : (Rd I).amount (dmaC k c j) 0 d = N := by
  show amountK (decode (csem (some (k, j)))) = N
  rw [decode_csem]; rfl
theorem payload_bar (d : Fin 31) : (Rd I).payload (barC c) 0 d = barPay c d := by
  show payOf I (decode (csem none)) c d = _
  rw [decode_csem]; rfl
theorem payload_dma (k : Fin 4) (j : Fin 31) (d : Fin 31) : (Rd I).payload (dmaC k c j) 0 d = dmaPay I c k j := by
  show payOf I (decode (csem (some (k, j)))) c d = _
  rw [decode_csem]; rfl
theorem expect_bar : (Rd I).expect (barC c) 0 = 31 := by
  unfold Schedule.expect Schedule.amountOf
  rw [duties_bar, Finset.sum_congr rfl fun d _ => amount_bar I c d, Finset.sum_const, Finset.card_univ, Fintype.card_fin, smul_eq_mul]
theorem expect_dma (k : Fin 4) (j : Fin 31) : (Rd I).expect (dmaC k c j) 0 = N := by
  unfold Schedule.expect Schedule.amountOf
  rw [duties_dma, Finset.sum_singleton, amount_dma]
theorem rest_bar : bigSep ((Rd I).duties (barC c) 0 \ ∅) (fun d => (Rd I).payload (barC c) 0 d) = bigSep Finset.univ fun d => barPay c d := by
  rw [Finset.sdiff_empty, duties_bar]; exact bigSep_congr fun d _ => payload_bar I c d
theorem rest_dma (k : Fin 4) (j : Fin 31) : bigSep ((Rd I).duties (dmaC k c j) 0 \ ∅) (fun d => (Rd I).payload (dmaC k c j) 0 d) = dmaPay I c k j := by
  rw [Finset.sdiff_empty, duties_dma, bigSep_singleton, payload_dma]
end

/-! ## Debts and levels -/

def Obar (T : Finset (Fin 31)) (c : Dev nD) : CellTallies nD τ sig Unit := ∑ j ∈ T, tallyAt (barC (nx j c)) () 1
def Odma (k : Fin 4) (T : Finset (Fin 31)) (c : Dev nD) : CellTallies nD τ sig Unit := ∑ j ∈ T, tallyAt (dmaC k (nx j c) j) () N
/-- What device `c` owes at launch: a signal to everyone, and everyone's two copies. -/
def O₀ (c : Dev nD) : CellTallies nD τ sig Unit := Obar Finset.univ c + (Odma 1 Finset.univ c + Odma 3 Finset.univ c)

def lvK : Option CK → ℕ
  | some none => 1
  | some (some (k, _)) => if k = 1 then 2 else if k = 3 then 3 else 0
  | none => 0
def L (g : GSem nD τ sig) : Finset Unit := if g.1.2 = .tc then {()} else ∅
def lv (g : GSem nD τ sig) (_ : Unit) : ℕ := lvK (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (kcell (c, k)) () = lvK (some k) := by
  show lvK (decode (csem k)) = _; rw [decode_csem]

theorem Obar_pos {T : Finset (Fin 31)} {c : Dev nD} {g : GSem nD τ sig} {u : Unit} (h : 0 < Obar T c g u) : ∃ d, g = barC d := by
  unfold Obar at h
  rw [Finset.sum_apply, Finsupp.finset_sum_apply] at h
  obtain ⟨j, -, hj⟩ := Finset.exists_ne_zero_of_sum_ne_zero (Nat.pos_iff_ne_zero.1 h)
  rw [tallyAt_apply] at hj
  by_contra hn
  exact hj (if_neg fun h' => hn ⟨_, h'.1⟩)
theorem Odma_pos {k : Fin 4} {T : Finset (Fin 31)} {c : Dev nD} {g : GSem nD τ sig} {u : Unit} (h : 0 < Odma k T c g u) : ∃ d j, g = dmaC k d j := by
  unfold Odma at h
  rw [Finset.sum_apply, Finsupp.finset_sum_apply] at h
  obtain ⟨j, -, hj⟩ := Finset.exists_ne_zero_of_sum_ne_zero (Nat.pos_iff_ne_zero.1 h)
  rw [tallyAt_apply] at hj
  by_contra hn
  exact hj (if_neg fun h' => hn ⟨_, _, h'.1⟩)

/-- A wait is allowed below everything still owed. -/
theorem mayWait_of (c : Dev nD) (sm : SemLoc sig) (n : ℕ) (hn : lvK (decode sm) ≤ n) (O : CellTallies nD τ sig Unit)
    (hO : ∀ g u, 0 < O g u → ∃ d k, g = kcell (d, k) ∧ n < lvK (some k)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hn)
    (fun g u hg => by obtain ⟨d, k, rfl, h⟩ := hO g u hg; rw [show u = () from rfl, lv_cell]; exact h)

theorem add_pos_or {O O' : CellTallies nD τ sig Unit} {g : GSem nD τ sig} {u : Unit} (h : 0 < (O + O') g u) : 0 < O g u ∨ 0 < O' g u := by
  rw [Pi.add_apply, Finsupp.add_apply] at h; omega

theorem mayWait_recv (c : Dev nD) (j : Fin 31) (T : Finset (Fin 31)) :
    (levAts L lv : sProp 𝕄) ⊢ MayWait (c : Thread nD τ) (csem (some (1, j))) () (Odma 3 T c) :=
  mayWait_of c _ 2 (by rw [decode_csem]; exact le_refl 2) _ fun g u hg => by
    obtain ⟨d, j, rfl⟩ := Odma_pos hg; exact ⟨d, _, rfl, by simp [lvK]⟩
theorem mayWait_bar (c : Dev nD) :
    (levAts L lv : sProp 𝕄) ⊢ MayWait (c : Thread nD τ) (csem none) () (Odma 1 Finset.univ c + Odma 3 Finset.univ c) :=
  mayWait_of c _ 1 (by rw [decode_csem]; exact le_refl 1) _ fun g u hg => by
    rcases add_pos_or hg with h | h <;> obtain ⟨d, j, rfl⟩ := Odma_pos h <;> exact ⟨d, _, rfl, by simp [lvK]⟩
theorem mayWait_stage (c : Dev nD) (sm : SemLoc sig) (hs : decode sm = none) (O : CellTallies nD τ sig Unit) (hO : O = O₀ c ∨ O = 0) :
    (levAts L lv : sProp 𝕄) ⊢ MayWait (c : Thread nD τ) sm () O := by
  rcases hO with rfl | rfl
  · refine mayWait_of c _ 0 (by rw [hs]; exact le_refl 0) _ fun g u hg => ?_
    rcases add_pos_or hg with h | h
    · obtain ⟨d, rfl⟩ := Obar_pos h; exact ⟨d, _, rfl, by simp [lvK]⟩
    · rcases add_pos_or h with h | h <;> obtain ⟨d, j, rfl⟩ := Odma_pos h <;> exact ⟨d, _, rfl, by simp [lvK]⟩
  · rw [MayWait_zero]; iintro -; iempintro

/-! ## The shared records -/

variable (K : Dev nD × CK → ℕ)

/-- Every semaphore's invariant, that round 0 is reached at each, and the levels. -/
def records : sProp 𝕄 :=
  iprop((bigSep Finset.univ fun ck : Dev nD × CK => cellInv ER (Rd I) (K ck) (kcell ck))
    ∗ (bigSep Finset.univ fun ck : Dev nD × CK => reached ER (kcell ck) 0))
instance records_persistent : BI.Persistent (records I K) := by unfold records; infer_instance

theorem inv_at (ck : Dev nD × CK) : records I K ⊢ cellInv ER (Rd I) (K ck) (kcell ck) := by
  have h : (bigSep Finset.univ fun ck : Dev nD × CK => (cellInv ER (Rd I) (K ck) (kcell ck) : sProp 𝕄)) ⊢ cellInv ER (Rd I) (K ck) (kcell ck) :=
    bigSep_elim (Finset.mem_univ ck)
  unfold records
  iintro ⟨H, -⟩
  iapply h; iexact H
theorem reached_at (ck : Dev nD × CK) : records I K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records
  iintro ⟨-, H⟩
  iapply h; iexact H

end Cert.KernelIdeal.Gen

end
-- ==== Proof.Steps.lean ====
/-
One step of each of the body's loops, and the loops.
-/
module

public import proofs.«01_k».proof.Proof.Protocol

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

abbrev 𝒱₀ : Variants := Variants.none

/-- A device's core `c` runs `p` to the end, and `Q` holds then. -/
abbrev W {α : Type} (c : Dev nD) (p : PT F α) (Q : α → sProp 𝕄) : sProp 𝕄 :=
  wp frame (wpE (defs₀ (F := F)) 𝒱₀ (c : Thread nD τ) none) Set.univ p Q

/-- What the core owes, whatever it has waited for. -/
def owesW (c : Dev nD) (O : CellTallies nD τ sig Unit) : sProp 𝕄 := iprop(∃ w, owes (c : Thread nD τ) O w)

/-! ## Loops -/

theorem W_bind {α β : Type} (c : Dev nD) {p : PT F α} {k : α → PT F β} {Q : β → sProp 𝕄} {Φ : α → sProp 𝕄} :
    W c p Φ ⊢ iprop((∀ a, Φ a -∗ W c (k a) Q) -∗ W c (p >>= k) Q) := by
  unfold W; rw [wp_bind]; exact wp_wand _ _ _

theorem loop (R : sProp 𝕄) [BI.Persistent R] (c : Dev nD) (f : Fin 31 → PT F PUnit) (Own : Finset (Fin 31) → sProp 𝕄) (Pre Post : Fin 31 → sProp 𝕄)
    (h : ∀ (j : Fin 31) (T : Finset (Fin 31)), j ∉ T → iprop(R ∗ Own (insert j T) ∗ Pre j) ⊢ W c (f j) (fun _ => iprop(Own T ∗ Post j))) :
    ∀ l : List (Fin 31), l.Nodup →
      iprop(R ∗ Own l.toFinset ∗ bigSep l.toFinset Pre) ⊢ W c (seqL l f) (fun _ => iprop(Own ∅ ∗ bigSep l.toFinset Post))
  | [], _ => by
    unfold W
    rw [seqL_nil, wp_pure, List.toFinset_nil, bigSep_empty, bigSep_empty]
    iintro ⟨-, HO, H⟩
    imodintro
    isplitl [HO] <;> iassumption
  | j :: l, hn => by
    have hj : j ∉ l.toFinset := by rw [List.mem_toFinset]; exact (List.nodup_cons.1 hn).1
    have e (Φ : Fin 31 → sProp 𝕄) : bigSep (insert j l.toFinset) Φ = iprop(Φ j ∗ bigSep l.toFinset Φ) := bigSep_insert hj
    rw [List.toFinset_cons, e, e, seqL_cons]
    iintro ⟨#HR, HO, Hj, HP⟩
    ihave Hw := (h j l.toFinset hj) $$ [HO Hj]
    · isplitr; · iexact HR
      isplitl [HO] <;> iassumption
    iapply (W_bind c) $$ Hw
    iintro %_ ⟨HO, Hpost⟩
    ihave Hw := (loop R c f Own Pre Post h l (List.nodup_cons.1 hn).2) $$ [HO HP]
    · isplitr; · iexact HR
      isplitl [HO] <;> iassumption
    iapply (wp_wand _ _ _) $$ Hw
    iintro %_ ⟨HO, Hl⟩
    isplitl [HO]; · iexact HO
    isplitl [Hpost] <;> iassumption

theorem loop_fold (R : sProp 𝕄) [BI.Persistent R] (c : Dev nD) {A : Type} (f : A → Fin 31 → PT F A) (g : A → Fin 31 → A) (Own : sProp 𝕄) (Pre Post : Fin 31 → sProp 𝕄)
    (h : ∀ (j : Fin 31) (a : A), iprop(R ∗ Own ∗ Pre j) ⊢ W c (f a j) (fun a' => iprop(⌜a' = g a j⌝ ∗ Own ∗ Post j))) :
    ∀ (l : List (Fin 31)) (a : A), l.Nodup →
      iprop(R ∗ Own ∗ bigSep l.toFinset Pre) ⊢ W c (foldP l f a) (fun a' => iprop(⌜a' = l.foldl g a⌝ ∗ Own ∗ bigSep l.toFinset Post))
  | [], a, _ => by
    unfold W
    rw [foldP_nil, wp_pure, List.toFinset_nil, bigSep_empty, bigSep_empty]
    iintro ⟨-, HO, H⟩
    imodintro
    isplitr; · ipureintro; rfl
    isplitl [HO] <;> iassumption
  | j :: l, a, hn => by
    have hj : j ∉ l.toFinset := by rw [List.mem_toFinset]; exact (List.nodup_cons.1 hn).1
    have e (Φ : Fin 31 → sProp 𝕄) : bigSep (insert j l.toFinset) Φ = iprop(Φ j ∗ bigSep l.toFinset Φ) := bigSep_insert hj
    rw [List.toFinset_cons, e, e, foldP_cons]
    iintro ⟨#HR, HO, Hj, HP⟩
    ihave Hw := (h j a) $$ [HO Hj]
    · isplitr; · iexact HR
      isplitl [HO] <;> iassumption
    iapply (W_bind c) $$ Hw
    iintro %a' ⟨%ha, HO, Hpost⟩
    subst ha
    ihave Hw := (loop_fold R c f g Own Pre Post h l (g a j) (List.nodup_cons.1 hn).2) $$ [HO HP]
    · isplitr; · iexact HR
      isplitl [HO] <;> iassumption
    iapply (wp_wand _ _ _) $$ Hw
    iintro %a'' ⟨%ha, HO, Hl⟩
    isplitr; · ipureintro; exact ha
    isplitl [HO]; · iexact HO
    isplitl [Hpost] <;> iassumption

theorem places_nodup : places.Nodup := by decide
theorem places_univ : places.toFinset = Finset.univ := by decide

theorem loop_all (R : sProp 𝕄) [BI.Persistent R] (c : Dev nD) (f : Fin 31 → PT F PUnit) (Own : Finset (Fin 31) → sProp 𝕄) (Pre Post : Fin 31 → sProp 𝕄)
    (h : ∀ (j : Fin 31) (T : Finset (Fin 31)), j ∉ T → iprop(R ∗ Own (insert j T) ∗ Pre j) ⊢ W c (f j) (fun _ => iprop(Own T ∗ Post j))) :
    iprop(R ∗ Own Finset.univ ∗ bigSep Finset.univ Pre) ⊢ W c (seqL places f) (fun _ => iprop(Own ∅ ∗ bigSep Finset.univ Post)) := by
  have := loop R c f Own Pre Post h places places_nodup
  rw [places_univ] at this; exact this
theorem loop_fold_all (R : sProp 𝕄) [BI.Persistent R] (c : Dev nD) {A : Type} (f : A → Fin 31 → PT F A) (g : A → Fin 31 → A) (Own : sProp 𝕄) (Pre Post : Fin 31 → sProp 𝕄)
    (h : ∀ (j : Fin 31) (a : A), iprop(R ∗ Own ∗ Pre j) ⊢ W c (f a j) (fun a' => iprop(⌜a' = g a j⌝ ∗ Own ∗ Post j))) (a : A) :
    iprop(R ∗ Own ∗ bigSep Finset.univ Pre) ⊢ W c (foldP places f a) (fun a' => iprop(⌜a' = places.foldl g a⌝ ∗ Own ∗ bigSep Finset.univ Post)) := by
  have := loop_fold R c f g Own Pre Post h places a places_nodup
  rw [places_univ] at this; exact this

/-! ## The steps -/

variable (c : Dev nD) (I : Ins F) (K : Dev nD × CK → ℕ)

theorem dev_eq (j : Fin 31) (c : Dev nD) : (⟨devNx j c, devNx_lt j c⟩ : Dev nD) = nx j c := Fin.ext (devNx_eq j c)

/-- What the `j`-th signal needs: its duty, and the two places it hands over. -/
def sigPre (c : Dev nD) (j : Fin 31) : sProp 𝕄 :=
  iprop(dutyTok ER (barC (nx j c)) 0 (rev j) ∗ (∃ f, rAt (F := F) c (slotS (rev j)) fullShare f) ∗ (∃ f, gAt (F := F) c (chunkS (nx j c)) fullShare f))

theorem sig_step (O : CellTallies nD τ sig Unit) (j : Fin 31) (T : Finset (Fin 31)) (hj : j ∉ T) :
    iprop(records I K ∗ owesW c (Obar (insert j T) c + O) ∗ sigPre c j) ⊢ W c (sigP c j) (fun _ => iprop(owesW c (Obar T c + O) ∗ emp)) := by
  have hO : Obar (insert j T) c + O = (Obar T c + O) + tallyAt (barC (nx j c)) () 1 := by
    unfold Obar; rw [Finset.sum_insert hj, add_assoc, add_comm]
  have hpay : iprop((∃ f, rAt (F := F) c (slotS (rev j)) fullShare f) ∗ (∃ f, gAt (F := F) c (chunkS (nx j c)) fullShare f))
      = (Rd I).payload ((nx j c : Thread nD τ), SemLoc.reg barS) 0 (rev j) := by
    refine Eq.trans ?_ (payload_bar I (nx j c) (rev j)).symm
    unfold barPay; rw [nx_rev, pv_nx]
  unfold W sigP sigPre owesW
  rw [hpay, dev_eq, hO]
  simp only [semSignalWord, Prog.lift, Prog.bind_op, Prog.bind_ret, Prog.pure_eq_ret]
  iintro ⟨#HR, ⟨%w, HO⟩, Ht, Hp⟩
  iapply (Rounds.wp_signal 𝒱₀ ER (Rd I) (c : Thread nD τ) none (dst := (nx j c : Thread nD τ)) (κ := K (nx j c, none))
      (d := rev j) (r := 0) (by have h := duties_bar I (nx j c); exact h ▸ Finset.mem_univ _) ((amount_bar I (nx j c) (rev j)).trans (by decide)) () (Obar T c + O) rfl)
    $$ [HO Ht Hp]
  · isplitr; · iapply (inv_at I K (nx j c, none)); iexact HR
    isplitl [HO]; · iexact HO
    isplitl [Ht]; · iexact Ht
    isplitl [Hp]; · iexact Hp
    iapply (reached_at I K (nx j c, none)); iexact HR
  iintro HO
  rw [wp_ret]
  imodintro
  isplitl [HO]
  · iexists w; iexact HO
  iempintro

theorem bar_wait (O : CellTallies nD τ sig Unit) (hO : (levAts L lv : sProp 𝕄) ⊢ MayWait (c : Thread nD τ) (csem none) () O) :
    iprop(records I K ∗ levAts L lv ∗ owesW c O ∗ cred (tallyAt (barC c) () 31) ∗ atPos ER (barC c) 0 ∅ 0)
      ⊢ W c (semWaitWord barS 31#32) (fun _ => iprop(owesW c O ∗ atPos ER (barC c) 1 ∅ 0 ∗ bigSep Finset.univ fun j => barPay (F := F) c j)) := by
  unfold W owesW
  simp only [semWaitWord, Prog.lift, Prog.bind_op, Prog.bind_ret, Prog.pure_eq_ret]
  iintro ⟨#HR, #Hlev, ⟨%w, HO⟩, Hc, Hat⟩
  iapply (Rounds.wp_wait_rest_token 𝒱₀ ER (Rd I) (c : Thread nD τ) none (κ := K (c, none)) (sm := csem none)
      (wpE_semWait_eq 𝒱₀ (c : Thread nD τ) none Set.univ) (Set.mem_univ _) () (O := O) (W := w) (R := 0) (m := 0) (T := ∅)
      (by rw [expect_bar]; decide)) $$ [Hc HO Hat]
  · isplitr; · iapply (inv_at I K (c, none)); iexact HR
    isplitl [Hc]; · iexact Hc
    isplitl [HO]; · iexact HO
    isplitr; · iapply hO; iexact Hlev
    iexact Hat
  iintro ⟨HO, Hat, -, Hpay⟩
  ihave Hp := (Entails.of_eq (rest_bar I c)) $$ Hpay
  rw [wp_ret]
  imodintro
  isplitl [HO]; · iexists _; iexact HO
  isplitl [Hat]; · iexact Hat
  iexact Hp

/-- A wait for one copy, at any of the four kinds of semaphore. -/
theorem wait_dma (k : Fin 4) (j : Fin 31) (O : CellTallies nD τ sig Unit) (q : DmaSem sig) (hq : q = dsem (k, j))
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {kk : PUnit → PT F α} {Q : α → sProp 𝕄} :
    iprop(records I K ∗ owesW c O ∗ MayWait (c : Thread nD τ) (csem (some (k, j))) () O ∗ cred (tallyAt (dmaC k c j) () N) ∗ atPos ER (dmaC k c j) 0 ∅ 0)
      ⊢ iprop(((owesW c O ∗ atPos ER (dmaC k c j) 1 ∅ 0 ∗ dmaPay I c k j) -∗ W c (kk ⟨⟩) Q)
          -∗ W c (.op (.waitDma2 q src dst hsrc hdst) kk) Q) := by
  subst hq
  have hk : 0 + dst.view.dmaCredit = (Rd I).expect (dmaC k c j) 0 := by rw [Nat.zero_add, hN, expect_dma]
  have rule (w : Waits sig Unit) := Rounds.wp_wait_rest_token (defs := defs₀ (F := F)) 𝒱₀ ER (Rd I) (c : Thread nD τ) none (κ := K (c, some (k, j))) (sm := csem (some (k, j)))
      (Q := Q) (k := kk) (wpE_waitDma2_eq (defs := defs₀ (F := F)) (src := src) (dst := dst) (hsrc := hsrc) (hdst := hdst) (sem := dsem (k, j)) 𝒱₀ (c : Thread nD τ) none Set.univ) (Set.mem_univ _) () (O := O) (W := w) (R := 0) (m := 0) (T := ∅) hk
  unfold W owesW
  rw [← hN]
  iintro ⟨#HR, ⟨%w, HO⟩, Hm, Hc, Hat⟩ Hk
  iapply (rule w) $$ [HO Hm Hc Hat]
  · isplitr; · iapply (inv_at I K (c, some (k, j))); iexact HR
    isplitl [Hc]; · iexact Hc
    isplitl [HO]; · iexact HO
    isplitl [Hm]; · iexact Hm
    iexact Hat
  iintro ⟨HO, Hat, -, Hpay⟩
  ihave Hp := (Entails.of_eq (rest_dma I c k j)) $$ Hpay
  iapply Hk
  isplitl [HO]; · iexists _; iexact HO
  isplitl [Hat]; · iexact Hat
  iexact Hp

/-! ### The copies -/

/-- What the `j`-th copy of the first phase needs besides its source. -/
def rsPre (c : Dev nD) (j : Fin 31) : sProp 𝕄 :=
  iprop(dutyTok ER (dmaC 0 c j) 0 0 ∗ dutyTok ER (dmaC 1 (nx j c) j) 0 0 ∗ (∃ f, rAt (F := F) (nx j c) (slotS j) fullShare f))
def rsSrc (c : Dev nD) (j : Fin 31) : sProp 𝕄 := bAt c (chunkS (nx j c)) fullShare (PB I c)

theorem rs_send (c n : Dev nD) (j : Fin 31) (hn : n = nx j c) (O : CellTallies nD τ sig Unit)
    {hsc : (slotM j : Memref sig (Dev.tc n : Thread nD τ).2.kind .vmem S16x1024 .bf16).view.ref.isScScratch = false}
    {hsrc : (bM.slice (rowsR (offNx_eq j c)) (fun _ => rfl)).view.WordExact} {hdst : (slotM j).view.WordExact}
    {hsem : DmaTarget.Typed .vmem (.dma (semAt cc0_scratch5 j)) (.remote (Dev.tc n : Thread nD τ) (slotM j) (.dma (semAt cc0_scratch4 j)) hsc)}
    {α : Type} {Q : α → sProp 𝕄} {k : PUnit → PT F α} :
    iprop(records I K ∗ owesW c (O + tallyAt (dmaC 1 (nx j c) j) () N) ∗ rsPre c j ∗ rsSrc I c j)
      ⊢ iprop(((owesW c O ∗ cred (tallyAt (dmaC 0 c j) () N)) -∗ W c (k ⟨⟩) Q)
          -∗ W c (.op (.enqueueDma (bM.slice (rowsR (offNx_eq j c)) (fun _ => rfl)) (.remote (Dev.tc n : Thread nD τ) (slotM j) (.dma (semAt cc0_scratch4 j)) hsc)
              (.dma (semAt cc0_scratch5 j)) hsrc hdst hsem) k) Q) := by
  subst hn
  have rule (w : Waits sig Unit) (fn : Vec F S31x16x1024 .bf16) := Rounds.wp_send_pointsTo (defs := defs₀ (F := F)) (Γ := PendingWaitsCtx.empty) 𝒱₀ ER (Rd I) (c : Thread nD τ) none (c' := (Dev.tc (nx j c) : Thread nD τ)) (κ₁ := K (c, some (0, j))) (κ₂ := K (nx j c, some (1, j)))
    (src := bM.slice (rowsR (offNx_eq j c)) (fun _ => rfl)) (dst := slotM j) (hsc := hsc) (hsrc := hsrc) (hdst := hdst) (hsem := hsem)
    (sS := .dma (semAt cc0_scratch4 j)) (sem := .dma (semAt cc0_scratch5 j)) (q := fullShare) (fs := PB I c) (k := k) (Q := Q)
    (r₁ := 0) (r₂ := 0) (d₁ := (0 : Fin 31)) (d₂ := (0 : Fin 31)) (fd := fn)
    (by have h := duties_dma I c 0 j; exact h ▸ Finset.mem_singleton_self _) (by have h := duties_dma I (nx j c) 1 j; exact h ▸ Finset.mem_singleton_self _)
    () () N rfl (amount_dma I c 0 j 0) (amount_dma I (nx j c) 1 j 0) O rfl (W := w)
    (by
      refine BIBase.Entails.trans ?_ (Entails.of_eq (payload_dma I c 0 j 0).symm)
      rw [set_b]
      exact Entails.of_eq rfl)
    (by
      refine BIBase.Entails.trans ?_ (Entails.of_eq (payload_dma I (nx j c) 1 j 0).symm)
      rw [set_slotM]
      exact Entails.of_eq (pointsTo_congr (land_slot I c j fn (pv_nx j c))))
    (Es := Set.univ)
  unfold W owesW rsPre rsSrc
  iintro ⟨#HR, ⟨%w, HO⟩, ⟨Ht0, Ht1, ⟨%fn, Hd⟩⟩, Hs⟩ Hk
  iapply (rule w fn) $$ [HO Ht0 Ht1 Hd Hs]
  · isplitr; · iapply (inv_at I K (c, some (0, j))); iexact HR
    isplitr; · iapply (inv_at I K (nx j c, some (1, j))); iexact HR
    isplitl [Hs]; · rw [set_b]; iexact Hs
    isplitl [Hd]; · rw [set_slotM]; iexact Hd
    isplitl [HO]; · iexact HO
    isplitl [Ht0]; · iexact Ht0
    isplitr; · iapply (reached_at I K (c, some (0, j))); iexact HR
    isplitl [Ht1]; · iexact Ht1
    iapply (reached_at I K (nx j c, some (1, j))); iexact HR
  iintro ⟨Hc, HO⟩
  iapply Hk
  isplitl [HO]; · iexists w; iexact HO
  iexact Hc

/-- What the `j`-th copy of the second phase needs. -/
def agPre (c : Dev nD) (j : Fin 31) : sProp 𝕄 :=
  iprop((dutyTok ER (dmaC 2 c j) 0 0 ∗ dutyTok ER (dmaC 3 (nx j c) j) 0 0 ∗ (∃ f, gAt (F := F) (nx j c) (chunkS c) fullShare f))
    ∗ gAt c (chunkS c) (lf j) (AG I))

theorem ag_send (c n : Dev nD) (j : Fin 31) (hn : n = nx j c) (O : CellTallies nD τ sig Unit)
    {hsc : (gM.slice (rowsR (off126_eq c)) (fun _ => rfl) : Memref sig (Dev.tc n : Thread nD τ).2.kind .vmem S16x1024 .bf16).view.ref.isScScratch = false}
    {hsrc hdst : (gM.slice (rowsR (off126_eq c)) (fun _ => rfl)).view.WordExact}
    {hsem : DmaTarget.Typed .vmem (.dma (semAt cc0_scratch7 j)) (.remote (Dev.tc n : Thread nD τ) (gM.slice (rowsR (off126_eq c)) (fun _ => rfl)) (.dma (semAt cc0_scratch6 j)) hsc)}
    {α : Type} {Q : α → sProp 𝕄} {k : PUnit → PT F α} :
    iprop(records I K ∗ owesW c (O + tallyAt (dmaC 3 (nx j c) j) () N) ∗ agPre I c j)
      ⊢ iprop(((owesW c O ∗ cred (tallyAt (dmaC 2 c j) () N)) -∗ W c (k ⟨⟩) Q)
          -∗ W c (.op (.enqueueDma (gM.slice (rowsR (off126_eq c)) (fun _ => rfl)) (.remote (Dev.tc n : Thread nD τ) (gM.slice (rowsR (off126_eq c)) (fun _ => rfl)) (.dma (semAt cc0_scratch6 j)) hsc)
              (.dma (semAt cc0_scratch7 j)) hsrc hdst hsem) k) Q) := by
  subst hn
  have rule (w : Waits sig Unit) (fn : Vec F S512x1024 .bf16) := Rounds.wp_send_pointsTo (defs := defs₀ (F := F)) (Γ := PendingWaitsCtx.empty) 𝒱₀ ER (Rd I) (c : Thread nD τ) none (c' := (Dev.tc (nx j c) : Thread nD τ)) (κ₁ := K (c, some (2, j))) (κ₂ := K (nx j c, some (3, j)))
    (src := gM.slice (rowsR (off126_eq c)) (fun _ => rfl)) (dst := gM.slice (rowsR (off126_eq c)) (fun _ => rfl)) (hsc := hsc) (hsrc := hsrc) (hdst := hdst) (hsem := hsem)
    (sS := .dma (semAt cc0_scratch6 j)) (sem := .dma (semAt cc0_scratch7 j)) (q := lf j) (fs := AG I) (k := k) (Q := Q)
    (r₁ := 0) (r₂ := 0) (d₁ := (0 : Fin 31)) (d₂ := (0 : Fin 31)) (fd := fn)
    (by have h := duties_dma I c 2 j; exact h ▸ Finset.mem_singleton_self _) (by have h := duties_dma I (nx j c) 3 j; exact h ▸ Finset.mem_singleton_self _)
    () () N rfl (amount_dma I c 2 j 0) (amount_dma I (nx j c) 3 j 0) O rfl (W := w)
    (by
      refine BIBase.Entails.trans ?_ (Entails.of_eq (payload_dma I c 2 j 0).symm)
      rw [set_g]
      exact Entails.of_eq rfl)
    (by
      refine BIBase.Entails.trans ?_ (Entails.of_eq (payload_dma I (nx j c) 3 j 0).symm)
      unfold dmaPay
      rw [set_g, pv_nx]
      exact Entails.of_eq (pointsTo_congr (land_chunk c (off126_eq c) fn (AG I))))
    (Es := Set.univ)
  unfold W owesW agPre
  iintro ⟨#HR, ⟨%w, HO⟩, ⟨Ht0, Ht1, ⟨%fn, Hd⟩⟩, Hs⟩ Hk
  iapply (rule w fn) $$ [HO Ht0 Ht1 Hd Hs]
  · isplitr; · iapply (inv_at I K (c, some (2, j))); iexact HR
    isplitr; · iapply (inv_at I K (nx j c, some (3, j))); iexact HR
    isplitl [Hs]; · rw [set_g]; iexact Hs
    isplitl [Hd]; · rw [set_g]; iexact Hd
    isplitl [HO]; · iexact HO
    isplitl [Ht0]; · iexact Ht0
    isplitr; · iapply (reached_at I K (c, some (2, j))); iexact HR
    isplitl [Ht1]; · iexact Ht1
    iapply (reached_at I K (nx j c, some (3, j))); iexact HR
  iintro ⟨Hc, HO⟩
  iapply Hk
  isplitl [HO]; · iexists w; iexact HO
  iexact Hc

end Cert.KernelIdeal.Gen

end
-- ==== Proof.Blocks.lean ====
/-
One block of query rows: the attention of the device's eight heads, the store of the partial product, and the copies of
its chunks to their owners.
-/
module

public import proofs.«01_k».proof.Proof.Steps

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (I : Ins F) (K : Dev nD × CK → ℕ)

/-! ## Families over the devices, over the places and over the blocks -/

theorem dev_univ : (Finset.univ : Finset (Dev nD)) = insert c (Finset.univ.map ⟨fun j => nx j c, fun a b h => nx_inj a b c h⟩) := by
  ext s
  simp only [Finset.mem_univ, Finset.mem_insert, Finset.mem_map, Function.Embedding.coeFn_mk, true_and, true_iff]
  by_cases h : s = c
  · exact Or.inl h
  · exact Or.inr (nx_surj c s h)
theorem dev_univ' : (Finset.univ : Finset (Dev nD)) = insert c (Finset.univ.map ⟨fun j => pv j c, fun a b h => pv_inj a b c h⟩) := by
  ext s
  simp only [Finset.mem_univ, Finset.mem_insert, Finset.mem_map, Function.Embedding.coeFn_mk, true_and, true_iff]
  by_cases h : s = c
  · exact Or.inl h
  · exact Or.inr (pv_surj c s h)

/-- A family over all devices is the device's own member and the others', in the order of going round. -/
theorem bigSep_dev (Φ : Dev nD → sProp 𝕄) : bigSep Finset.univ Φ = iprop(Φ c ∗ bigSep Finset.univ fun j => Φ (nx j c)) := by
  rw [dev_univ c, bigSep_insert (by
    simp only [Finset.mem_map, Finset.mem_univ, Function.Embedding.coeFn_mk, true_and, not_exists]
    exact fun j h => nx_ne j c h), bigSep_map]
  rfl
theorem bigSep_dev' (Φ : Dev nD → sProp 𝕄) : bigSep Finset.univ Φ = iprop(Φ c ∗ bigSep Finset.univ fun j => Φ (pv j c)) := by
  rw [dev_univ' c, bigSep_insert (by
    simp only [Finset.mem_map, Finset.mem_univ, Function.Embedding.coeFn_mk, true_and, not_exists]
    exact fun j h => pv_ne j c h), bigSep_map]
  rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family sorted by a label with four values. -/
theorem bigSep_sort {J : Type} [Fintype J] [DecidableEq J] (β : J → Fin 4) (Φ : J → sProp 𝕄) :
    bigSep Finset.univ Φ = bigSep Finset.univ fun b : Fin 4 => bigSep Finset.univ fun j => if β j = b then Φ j else iprop(emp) := by
  rw [bigSep_univ_comm]
  refine bigSep_congr fun j _ => ?_
  have h := bigSep_filter Finset.univ (fun b => β j = b) (fun _ : Fin 4 => Φ j)
  rw [Finset.filter_eq, if_pos (Finset.mem_univ _), bigSep_singleton] at h
  exact h

/-- The block a device's chunk lies in. -/
def bl (s : Dev nD) : Fin 4 := ⟨s.val / 8, by have : s.val < 32 := s.isLt; omega⟩
theorem bl_eq {s : Dev nD} {b : Fin 4} : bl s = b ↔ s.val / 8 = b.val := Fin.ext_iff
theorem bl_chk (i : I2) : bl (chk i) = blkOf i := Fin.ext (show (i 0).val / 16 / 8 = (i 0).val / 128 by omega)

/-- The places whose chunk lies in block `b`. -/
def Bs (b : Fin 4) : Finset (Fin 31) := Finset.univ.filter fun j => bl (nx j c) = b

theorem Odma_split (k : Fin 4) : Odma k Finset.univ c = Odma k (Bs c 0) c + (Odma k (Bs c 1) c + (Odma k (Bs c 2) c + Odma k (Bs c 3) c)) := by
  unfold Odma Bs
  rw [← Finset.sum_fiberwise Finset.univ (fun j => bl (nx j c)), Fin.sum_univ_four, add_assoc, add_assoc]

/-! ## The buffers in parts -/

theorem chunks_univ : (Finset.univ : Finset I2) = Finset.univ.biUnion chunkS := by
  ext i; simp only [Finset.mem_univ, Finset.mem_biUnion, mem_chunkS, true_and, true_iff]; exact ⟨_, rfl⟩
theorem slots_univ : (Finset.univ : Finset I3) = Finset.univ.biUnion slotS := by
  ext i; simp only [Finset.mem_univ, Finset.mem_biUnion, mem_slotS, true_and, true_iff]; exact ⟨_, rfl⟩
theorem blks_univ : (Finset.univ : Finset I2) = Finset.univ.biUnion blkS := by
  ext i; simp only [Finset.mem_univ, Finset.mem_biUnion, mem_blkS, true_and, true_iff]; exact ⟨_, rfl⟩
theorem chunks_disj (s s' : Fin 32) (h : s ≠ s') : Disjoint (chunkS s) (chunkS s') :=
  Finset.disjoint_left.2 fun i hi hi' => h ((mem_chunkS.1 hi).symm.trans (mem_chunkS.1 hi'))
theorem slots_disj (s s' : Fin 31) (h : s ≠ s') : Disjoint (slotS s) (slotS s') :=
  Finset.disjoint_left.2 fun i hi hi' => h ((mem_slotS.1 hi).symm.trans (mem_slotS.1 hi'))
theorem blks_disj (s s' : Fin 4) (h : s ≠ s') : Disjoint (blkS s) (blkS s') :=
  Finset.disjoint_left.2 fun i hi hi' => h ((mem_blkS.1 hi).symm.trans (mem_blkS.1 hi'))
theorem blk_chunks (b : Fin 4) : blkS b = (Finset.univ.filter fun s : Dev nD => bl s = b).biUnion chunkS := by
  ext i
  simp only [mem_blkS, Finset.mem_biUnion, Finset.mem_filter, Finset.mem_univ, true_and, mem_chunkS]
  exact ⟨fun h => ⟨chk i, (bl_chk i).trans h, rfl⟩, fun ⟨s, h, e⟩ => by rw [← bl_chk, e]; exact h⟩

theorem bAt_blks (f : Vec F S512x1024 .bf16) : bAt c Finset.univ fullShare f = bigSep Finset.univ fun b => bAt c (blkS b) fullShare f := by
  rw [blks_univ]; exact pointsTo_biUnion _ _ fun t _ t' _ h => blks_disj t t' h
theorem bAt_chunks (f : Vec F S512x1024 .bf16) : bAt c Finset.univ fullShare f = bigSep Finset.univ fun s => bAt c (chunkS s) fullShare f := by
  rw [chunks_univ]; exact pointsTo_biUnion _ _ fun t _ t' _ h => chunks_disj t t' h
theorem gAt_chunks (f : Vec F S512x1024 .bf16) : gAt c Finset.univ fullShare f = bigSep Finset.univ fun s => gAt c (chunkS s) fullShare f := by
  rw [chunks_univ]; exact pointsTo_biUnion _ _ fun t _ t' _ h => chunks_disj t t' h
theorem rAt_slots (f : Vec F S31x16x1024 .bf16) : rAt c Finset.univ fullShare f = bigSep Finset.univ fun j => rAt c (slotS j) fullShare f := by
  rw [slots_univ]; exact pointsTo_biUnion _ _ fun t _ t' _ h => slots_disj t t' h

/-- A block is the device's own chunk, if it lies there, and the chunks of the places that lie there. -/
theorem bAt_blk (b : Fin 4) : bAt c (blkS b) fullShare (PB I c)
    = iprop((if bl c = b then bAt c (chunkS c) fullShare (PB I c) else iprop(emp)) ∗ bigSep Finset.univ fun j => if bl (nx j c) = b then rsSrc I c j else iprop(emp)) := by
  rw [blk_chunks]
  have h : bAt c ((Finset.univ.filter fun s : Dev nD => bl s = b).biUnion chunkS) fullShare (PB I c)
      = bigSep (Finset.univ.filter fun s : Dev nD => bl s = b) fun s => bAt c (chunkS s) fullShare (PB I c) :=
    pointsTo_biUnion _ _ fun t _ t' _ h => chunks_disj t t' h
  rw [h, bigSep_filter, bigSep_dev c]
  rfl

/-! ## The inputs -/

def xAt (c : Dev nD) : sProp 𝕄 := ((c : Thread nD τ).loc cc0_stg0_0) ↦{fullShare} (I.x c)
def wqAt (c : Dev nD) : sProp 𝕄 := ((c : Thread nD τ).loc cc0_stg1_0) ↦{fullShare} (I.wq c)
def woAt (c : Dev nD) : sProp 𝕄 := ((c : Thread nD τ).loc cc0_stg2_0) ↦{fullShare} (I.wo c)
def kAt (c : Dev nD) : sProp 𝕄 := ((c : Thread nD τ).loc cc0_stg3_0) ↦{fullShare} (I.k c)
def vAt (c : Dev nD) : sProp 𝕄 := ((c : Thread nD τ).loc cc0_stg4_0) ↦{fullShare} (I.v c)
def insAt (c : Dev nD) : sProp 𝕄 := iprop(xAt I c ∗ wqAt I c ∗ woAt I c ∗ kAt I c ∗ vAt I c)

theorem head_step (q : FVec F S128x1024 .f32) (h : Fin 8) (g : Fin 2) :
    iprop(kAt I c ∗ vAt I c) ⊢ W c (headP q h g) (fun a => iprop(⌜a = headVal q h (kRd I c g) (vRd I c g)⌝ ∗ kAt I c ∗ vAt I c)) := by
  unfold W headP kAt vAt
  simp only [Prog.lift, Prog.bind_op, Prog.bind_ret, Prog.pure_eq_ret]
  iintro ⟨Hk, Hv⟩
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  rw [wp_ret]
  imodintro
  isplitr; · ipureintro; rfl
  isplitl [Hk] <;> iassumption

/-! ## The sends of a block -/

/-- What is still owed when the places in `T` of block `b` have not been sent. -/
def rsOwn (b : Fin 4) (O : CellTallies nD τ sig Unit) (T : Finset (Fin 31)) : sProp 𝕄 := owesW c (Odma 1 (T.filter fun j => bl (nx j c) = b) c + O)
/-- What the copy to place `j` needs, if it belongs to block `b`. -/
def rsIn (b : Fin 4) (j : Fin 31) : sProp 𝕄 := if bl (nx j c) = b then iprop(rsPre c j ∗ rsSrc I c j) else iprop(emp)
/-- What the copy to place `j` leaves, if it belongs to block `b`. -/
def rsOut (b : Fin 4) (j : Fin 31) : sProp 𝕄 := if bl (nx j c) = b then cred (tallyAt (dmaC 0 c j) () N) else iprop(emp)

theorem rs_step (b : Fin 4) (O : CellTallies nD τ sig Unit) (j : Fin 31) (T : Finset (Fin 31)) (hj : j ∉ T) :
    iprop(records I K ∗ rsOwn c b O (insert j T) ∗ rsIn c I b j) ⊢ W c (rsSendP c b j) (fun _ => iprop(rsOwn (F := F) c b O T ∗ rsOut c b j)) := by
  unfold rsOwn rsIn rsOut
  by_cases h : bl (nx j c) = b
  · have hc : condNx b j c = 1#1 := (condNx_eq b j c).2 (bl_eq.1 h)
    have hO : Odma 1 ((insert j T).filter fun j => bl (nx j c) = b) c + O
        = (Odma 1 (T.filter fun j => bl (nx j c) = b) c + O) + tallyAt (dmaC 1 (nx j c) j) () N := by
      rw [Finset.filter_insert, if_pos h]
      unfold Odma
      rw [Finset.sum_insert (fun hm => hj (Finset.mem_of_mem_filter j hm)), add_assoc, add_comm]
    unfold rsSendP
    rw [if_pos h, if_pos h, if_pos hc, hO]
    simp only [Prog.lift, Prog.bind_op, Prog.bind_ret, Prog.pure_eq_ret]
    iintro ⟨#HR, HO, Hp, Hs⟩
    iapply (rs_send I K c _ j (dev_eq j c) (Odma 1 (T.filter fun j => bl (nx j c) = b) c + O)) $$ [HO Hp Hs]
    · isplitr; · iexact HR
      isplitl [HO]; · iexact HO
      isplitl [Hp] <;> iassumption
    iintro ⟨HO, Hc⟩
    unfold W
    rw [wp_ret]
    imodintro
    isplitl [HO] <;> iassumption
  · have hc : ¬condNx b j c = 1#1 := fun e => h (bl_eq.2 ((condNx_eq b j c).1 e))
    unfold rsSendP
    rw [if_neg h, if_neg h, if_neg hc, Finset.filter_insert, if_neg h]
    unfold W
    simp only [Prog.pure_eq_ret]
    rw [wp_ret]
    iintro ⟨-, HO, -⟩
    imodintro
    isplitl; · iexact HO
    iempintro

theorem Odma_empty (k : Fin 4) : Odma k ∅ c = 0 := Finset.sum_empty

theorem rs_loop (b : Fin 4) (O : CellTallies nD τ sig Unit) :
    iprop(records I K ∗ owesW c (Odma 1 (Bs c b) c + O) ∗ bigSep Finset.univ (rsIn c I b))
      ⊢ W c (seqL places (rsSendP c b)) (fun _ => iprop(owesW c O
        ∗ bigSep Finset.univ (rsOut c b))) := by
  have h := loop_all (records I K) c (rsSendP c b) (rsOwn c b O) (rsIn c I b) (rsOut c b) (rs_step c I K b O)
  unfold rsOwn at h
  rw [Finset.filter_empty, Odma_empty, zero_add] at h
  exact h

/-! ## The block -/

theorem setOn_b (S : Finset I2) : bM.view.setOn S = S := Finset.map_refl
theorem access_b (b : Fin 4) : (bM.access (blkR b)).setOn Finset.univ = blkS b :=
  (View.set_slice_whole cc0_scratch1 (blkR b)).trans (blk_set b)

theorem ite_sep (P : Prop) [Decidable P] (A B : sProp 𝕄) :
    (if P then iprop(A ∗ B) else iprop(emp)) = iprop((if P then A else iprop(emp)) ∗ (if P then B else iprop(emp))) := by
  by_cases h : P
  · rw [if_pos h, if_pos h, if_pos h]
  · rw [if_neg h, if_neg h, if_neg h]
    exact (Entails.antisymm (sep_emp (PROP := sProp 𝕄)).1 (sep_emp (PROP := sProp 𝕄)).2).symm

theorem blk_step (b : Fin 4) (O : CellTallies nD τ sig Unit) (f : Vec F S512x1024 .f32) (fb : Vec F S512x1024 .bf16) :
    iprop(records I K ∗ insAt I c ∗ pAt c Finset.univ fullShare f ∗ bAt c (blkS b) fullShare fb ∗ owesW c (Odma 1 (Bs c b) c + O)
        ∗ bigSep Finset.univ fun j => if bl (nx j c) = b then rsPre (F := F) c j else iprop(emp))
      ⊢ W c (blkP c b) (fun _ => iprop(insAt I c ∗ pAt c Finset.univ fullShare (fun i => if blkOf i = b then PF I c i else f i)
          ∗ (if bl c = b then bAt c (chunkS c) fullShare (PB I c) else iprop(emp)) ∗ owesW c O
          ∗ bigSep Finset.univ (rsOut c b))) := by
  have hb : pVal ![headVal (qVal (xRd I c b) (wqRd I c)) 0 (kRd I c 0) (vRd I c 0), headVal (qVal (xRd I c b) (wqRd I c)) 1 (kRd I c 0) (vRd I c 0),
      headVal (qVal (xRd I c b) (wqRd I c)) 2 (kRd I c 0) (vRd I c 0), headVal (qVal (xRd I c b) (wqRd I c)) 3 (kRd I c 0) (vRd I c 0),
      headVal (qVal (xRd I c b) (wqRd I c)) 4 (kRd I c 1) (vRd I c 1), headVal (qVal (xRd I c b) (wqRd I c)) 5 (kRd I c 1) (vRd I c 1),
      headVal (qVal (xRd I c b) (wqRd I c)) 6 (kRd I c 1) (vRd I c 1), headVal (qVal (xRd I c b) (wqRd I c)) 7 (kRd I c 1) (vRd I c 1)]
      (woM.view.readAt (Elt F) whole1024.toLoadRect (I.wo c)) = blkV I c b := rfl
  unfold insAt xAt wqAt woAt
  iintro ⟨#HR, ⟨Hx, Hwq, Hwo, Hk, Hv⟩, Hp, Hb, HO, Hpre⟩
  unfold W blkP
  simp only [Prog.lift, Prog.bind_op, Prog.bind_ret, Prog.pure_eq_ret]
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  rw [show xM.view.readAt (Elt F) (blkR b).toLoadRect (I.x c) = xRd I c b from rfl, show wqM.view.readAt (Elt F) whole1024.toLoadRect (I.wq c) = wqRd I c from rfl]
  ihave Hw := (head_step c I (qVal (xRd I c b) (wqRd I c)) 0 0) $$ [Hk Hv]
  · isplitl [Hk] <;> iassumption
  iapply (W_bind c) $$ Hw; iintro %a0 ⟨%e0, Hk, Hv⟩
  ihave Hw := (head_step c I (qVal (xRd I c b) (wqRd I c)) 1 0) $$ [Hk Hv]
  · isplitl [Hk] <;> iassumption
  iapply (W_bind c) $$ Hw; iintro %a1 ⟨%e1, Hk, Hv⟩
  ihave Hw := (head_step c I (qVal (xRd I c b) (wqRd I c)) 2 0) $$ [Hk Hv]
  · isplitl [Hk] <;> iassumption
  iapply (W_bind c) $$ Hw; iintro %a2 ⟨%e2, Hk, Hv⟩
  ihave Hw := (head_step c I (qVal (xRd I c b) (wqRd I c)) 3 0) $$ [Hk Hv]
  · isplitl [Hk] <;> iassumption
  iapply (W_bind c) $$ Hw; iintro %a3 ⟨%e3, Hk, Hv⟩
  ihave Hw := (head_step c I (qVal (xRd I c b) (wqRd I c)) 4 1) $$ [Hk Hv]
  · isplitl [Hk] <;> iassumption
  iapply (W_bind c) $$ Hw; iintro %a4 ⟨%e4, Hk, Hv⟩
  ihave Hw := (head_step c I (qVal (xRd I c b) (wqRd I c)) 5 1) $$ [Hk Hv]
  · isplitl [Hk] <;> iassumption
  iapply (W_bind c) $$ Hw; iintro %a5 ⟨%e5, Hk, Hv⟩
  ihave Hw := (head_step c I (qVal (xRd I c b) (wqRd I c)) 6 1) $$ [Hk Hv]
  · isplitl [Hk] <;> iassumption
  iapply (W_bind c) $$ Hw; iintro %a6 ⟨%e6, Hk, Hv⟩
  ihave Hw := (head_step c I (qVal (xRd I c b) (wqRd I c)) 7 1) $$ [Hk Hv]
  · isplitl [Hk] <;> iassumption
  iapply (W_bind c) $$ Hw; iintro %a7 ⟨%e7, Hk, Hv⟩
  subst e0 e1 e2 e3 e4 e5 e6 e7
  iapply (wp_load 𝒱₀ (c : Thread nD τ) none Set.univ (m := woM) (Finset.subset_univ _)) $$ Hwo; iintro Hwo
  rw [hb]
  iapply (wp_load 𝒱₀ (c : Thread nD τ) none Set.univ (m := pM) (Finset.subset_univ _)) $$ Hp; iintro Hp
  iapply (wp_store 𝒱₀ (c : Thread nD τ) none Set.univ (m := pM) (r := blkR b) (Mk := Finset.univ) (Finset.subset_univ _)) $$ Hp; iintro Hp
  iapply (wp_load 𝒱₀ (c : Thread nD τ) none Set.univ (m := bM) (S := blkS b) (by rw [setOn_b, ← blk_set])) $$ Hb; iintro Hb
  iapply (wp_store 𝒱₀ (c : Thread nD τ) none Set.univ (m := bM) (r := blkR b) (Mk := Finset.univ) (S := blkS b) (by rw [access_b])) $$ Hb; iintro Hb
  have hp : ((pM.access (blkR b)).loc (c : Thread nD τ) ↦{fullShare} (pM.access (blkR b)).write (Elt F) f (shapeCast S128x1024 (blkV I c b) shapeCasts_S128x1024_S128x1024) Finset.univ : sProp 𝕄)
      = pAt c Finset.univ fullShare (fun i => if blkOf i = b then PF I c i else f i) := pointsTo_congr fun i _ => store_p I c b f i
  have hbb : ((bM.access (blkR b)).loc (c : Thread nD τ) ↦[blkS b]{fullShare} (bM.access (blkR b)).write (Elt F) fb (shapeCast S128x1024 (truncf .bf16 (blkV I c b) bitsLt_bf16_f32) shapeCasts_S128x1024_S128x1024) Finset.univ : sProp 𝕄)
      = bAt c (blkS b) fullShare (PB I c) := pointsTo_congr (store_b I c b fb)
  ihave Hp := (Entails.of_eq hp) $$ Hp
  ihave Hb := (Entails.of_eq (hbb.trans (bAt_blk c I b))) $$ Hb
  icases Hb with ⟨Hown, Hsrc⟩
  ihave Hw := (rs_loop c I K b O) $$ [HO Hpre Hsrc]
  · isplitr; · iexact HR
    isplitl [HO]; · iexact HO
    unfold rsIn
    simp only [ite_sep]
    rw [bigSep_sep']
    isplitl [Hpre] <;> iassumption
  iapply (wp_wand _ _ _) $$ Hw
  iintro %_ ⟨HO, Hc⟩
  isplitl [Hx Hwq Hwo Hk Hv]
  · isplitl [Hx]; · iexact Hx
    isplitl [Hwq]; · iexact Hwq
    isplitl [Hwo]; · iexact Hwo
    isplitl [Hk] <;> iassumption
  isplitl [Hp]; · iexact Hp
  isplitl [Hown]; · iexact Hown
  isplitl [HO] <;> iassumption

end Cert.KernelIdeal.Gen

end
-- ==== Proof.Body.lean ====
/-
The body on one device: the signals, the wait for everyone's, the four blocks, the sum, the copies of the sum, and the
waits for what was lent.
-/
module

public import proofs.«01_k».proof.Proof.Blocks

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (c : Dev nD) (I : Ins F) (K : Dev nD × CK → ℕ)

/-! ## The signals -/

theorem sig_loop (O : CellTallies nD τ sig Unit) :
    iprop(records I K ∗ owesW c (Obar Finset.univ c + O) ∗ bigSep Finset.univ (sigPre (F := F) c)) ⊢ W c (seqL places (sigP c)) (fun _ => owesW c O) := by
  have h := loop_all (records I K) c (sigP c) (fun T => owesW c (Obar T c + O)) (sigPre c) (fun _ => iprop(emp)) (sig_step c I K O)
  rw [show Obar ∅ c = 0 from Finset.sum_empty, zero_add] at h
  iintro H
  ihave Hw := h $$ H
  iapply (wp_wand _ _ _) $$ Hw
  iintro %_ ⟨HO, -⟩
  iexact HO

theorem some_intro {A : Type} (Φ : A → sProp 𝕄) (f : A) : Φ f ⊢ iprop(∃ f, Φ f) := by
  iintro H; iexists f; iexact H

theorem r_give : (iprop(∃ f, rAt c Finset.univ fullShare f) : sProp 𝕄) ⊢ bigSep Finset.univ fun j => iprop(∃ f, rAt (F := F) c (slotS (rev j)) fullShare f) := by
  have h (f : Vec F S31x16x1024 .bf16) : rAt c Finset.univ fullShare f ⊢ bigSep Finset.univ fun j => iprop(∃ f, rAt (F := F) c (slotS (rev j)) fullShare f) := by
    rw [rAt_slots, bigSep_univ_equiv revE]
    refine bigSep_mono fun j _ => ?_
    exact some_intro (fun f => rAt c (slotS (rev j)) fullShare f) f
  iintro ⟨%f, H⟩
  iapply (h f); iexact H

theorem g_give : (iprop(∃ f, gAt c Finset.univ fullShare f) : sProp 𝕄)
    ⊢ iprop((∃ f, gAt (F := F) c (chunkS c) fullShare f) ∗ bigSep Finset.univ fun j => iprop(∃ f, gAt (F := F) c (chunkS (nx j c)) fullShare f)) := by
  have h (f : Vec F S512x1024 .bf16) : gAt c Finset.univ fullShare f
      ⊢ bigSep Finset.univ fun s => iprop(∃ f, gAt (F := F) c (chunkS s) fullShare f) := by
    rw [gAt_chunks]
    refine bigSep_mono fun j _ => ?_
    exact some_intro (fun f => gAt c (chunkS j) fullShare f) f
  rw [← bigSep_dev c fun s => iprop(∃ f, gAt (F := F) c (chunkS s) fullShare f)]
  iintro ⟨%f, H⟩
  iapply (h f); iexact H

/-! ## The sum -/

theorem setOn_r (S : Finset I3) : rM.view.setOn S = S := Finset.map_refl
theorem setOn_g (S : Finset I2) : gM.view.setOn S = S := Finset.map_refl

/-- Nothing stands in the way of a wait while nothing is owed. -/
theorem mayWait_free (sm : SemLoc sig) : (iprop(emp) : sProp 𝕄) ⊢ MayWait (c : Thread nD τ) sm () 0 := by
  rw [MayWait_zero]; exact Entails.of_eq rfl

def waitIn (k : Fin 4) (j : Fin 31) : sProp 𝕄 := iprop(cred (tallyAt (dmaC k c j) () N) ∗ atPos ER (dmaC k c j) 0 ∅ 0)
def accOut (j : Fin 31) : sProp 𝕄 := iprop(atPos ER (dmaC 1 c j) 1 ∅ 0 ∗ rAt c (slotS j) fullShare (RSV I c))

theorem acc_step (j : Fin 31) (a : FVec F S16x1024 .f32) :
    iprop((records I K ∗ levAts L lv) ∗ owesW c (Odma 3 Finset.univ c) ∗ waitIn (F := F) c 1 j)
      ⊢ W c (accP a j) (fun a' => iprop(⌜a' = accStep I c a j⌝ ∗ owesW c (Odma 3 Finset.univ c) ∗ accOut c I j)) := by
  unfold accP waitIn accOut
  simp only [Prog.lift, Prog.bind_op, Prog.bind_ret, Prog.pure_eq_ret]
  iintro ⟨⟨#HR, #HL⟩, HO, Hc, Hat⟩
  iapply (wait_dma c I K 1 j (Odma 3 Finset.univ c) (semAt cc0_scratch5 j) rfl (credit_slot j)) $$ [HO Hc Hat]
  · isplitr; · iexact HR
    isplitl [HO]; · iexact HO
    isplitr; · iapply (mayWait_recv c j Finset.univ); iexact HL
    isplitl [Hc] <;> iassumption
  iintro ⟨HO, Hat, Hr⟩
  unfold W dmaPay
  iapply (wp_load 𝒱₀ (c : Thread nD τ) none Set.univ (m := rM) (S := slotS j) (by rw [setOn_r, ← slot_set])) $$ Hr; iintro Hr
  rw [wp_ret]
  imodintro
  isplitr; · ipureintro; rfl
  isplitl [HO]; · iexact HO
  isplitl [Hat] <;> iassumption

theorem acc_loop (a : FVec F S16x1024 .f32) :
    iprop((records I K ∗ levAts L lv) ∗ owesW c (Odma 3 Finset.univ c) ∗ bigSep Finset.univ (waitIn (F := F) c 1))
      ⊢ W c (foldP places accP a) (fun a' => iprop(⌜a' = places.foldl (accStep I c) a⌝ ∗ owesW c (Odma 3 Finset.univ c) ∗ bigSep Finset.univ (accOut c I))) :=
  loop_fold_all iprop(records I K ∗ levAts L lv) c accP (accStep I c) (owesW c (Odma 3 Finset.univ c)) (waitIn c 1) (accOut c I) (acc_step c I K) a

/-! ## The copies of the sum -/

def agOut (j : Fin 31) : sProp 𝕄 := cred (tallyAt (dmaC 2 c j) () N)

theorem ag_step (j : Fin 31) (T : Finset (Fin 31)) (hj : j ∉ T) :
    iprop(records I K ∗ owesW c (Odma 3 (insert j T) c) ∗ agPre I c j) ⊢ W c (agSendP c j) (fun _ => iprop(owesW c (Odma 3 T c) ∗ agOut (F := F) c j)) := by
  have hO : Odma 3 (insert j T) c = Odma 3 T c + tallyAt (dmaC 3 (nx j c) j) () N := by
    unfold Odma; rw [Finset.sum_insert hj, add_comm]
  unfold agSendP agOut
  rw [hO]
  simp only [Prog.lift, Prog.bind_op, Prog.bind_ret, Prog.pure_eq_ret]
  iintro ⟨#HR, HO, Hp⟩
  iapply (ag_send I K c _ j (dev_eq j c) (Odma 3 T c)) $$ [HO Hp]
  · isplitr; · iexact HR
    isplitl [HO] <;> iassumption
  iintro ⟨HO, Hc⟩
  unfold W
  rw [wp_ret]
  imodintro
  isplitl [HO] <;> iassumption

theorem ag_loop : iprop(records I K ∗ owesW c (Odma 3 Finset.univ c) ∗ bigSep Finset.univ (agPre I c))
    ⊢ W c (seqL places (agSendP c)) (fun _ => iprop(owesW c 0 ∗ bigSep Finset.univ (agOut (F := F) c))) := by
  have h := loop_all (records I K) c (agSendP c) (fun T => owesW c (Odma 3 T c)) (agPre I c) (agOut c) (ag_step c I K)
  rw [Odma_empty] at h
  exact h

/-! ## The others' sums -/

/-- The output is right except at the places in `T`. -/
def outOwn (T : Finset (Fin 31)) : sProp 𝕄 :=
  iprop(owesW c 0 ∗ ∃ f, ⌜∀ i, (∀ j ∈ T, chk i ≠ pv j c) → f i = OUT I c i⌝ ∗ at5 c Finset.univ fullShare f)
def recvOut (j : Fin 31) : sProp 𝕄 := iprop(atPos ER (dmaC 3 c j) 1 ∅ 0 ∗ gAt c (chunkS (pv j c)) fullShare (AG I))

theorem recv_step (j : Fin 31) (T : Finset (Fin 31)) (hj : j ∉ T) :
    iprop(records I K ∗ outOwn c I (insert j T) ∗ waitIn (F := F) c 3 j) ⊢ W c (agRecvP c j) (fun _ => iprop(outOwn c I T ∗ recvOut c I j)) := by
  unfold agRecvP outOwn waitIn recvOut
  simp only [Prog.lift, Prog.bind_op, Prog.bind_ret, Prog.pure_eq_ret]
  iintro ⟨#HR, ⟨HO, ⟨%f, %hf, Ho⟩⟩, Hc, Hat⟩
  iapply (wait_dma c I K 3 j 0 (semAt cc0_scratch7 j) rfl (credit_g (offPv_eq j c))) $$ [HO Hc Hat]
  · isplitr; · iexact HR
    isplitl [HO]; · iexact HO
    isplitr; · iapply (mayWait_free c (csem (some (3, j)))); iempintro
    isplitl [Hc] <;> iassumption
  iintro ⟨HO, Hat, Hg⟩
  unfold W dmaPay
  iapply (wp_load 𝒱₀ (c : Thread nD τ) none Set.univ (m := gM) (S := chunkS (pv j c)) (by rw [setOn_g, ← rows_set (offPv'_eq j c)])) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := rowsR (offPv'_eq j c)) (Mk := Finset.univ) (Finset.subset_univ _)) $$ Ho; iintro Ho
  rw [wp_ret]
  imodintro
  isplitl [HO Ho]
  · isplitl [HO]; · iexact HO
    iexists _
    isplitr
    rotate_left
    · iexact Ho
    · ipureintro
      intro i hi
      rw [store_o]
      by_cases h : chk i = pv j c
      · rw [if_pos h]; exact out_other I c (pv j c) (pv_ne j c) (offPv'_eq j c) i h
      · rw [if_neg h]
        exact hf i fun j' hj' => by
          rcases Finset.mem_insert.1 hj' with rfl | hj'
          · exact h
          · exact hi j' hj'
  isplitl [Hat] <;> iassumption

theorem recv_loop : iprop(records I K ∗ outOwn c I Finset.univ ∗ bigSep Finset.univ (waitIn (F := F) c 3))
    ⊢ W c (seqL places (agRecvP c)) (fun _ => iprop(outOwn c I ∅ ∗ bigSep Finset.univ (recvOut c I))) :=
  loop_all (records I K) c (agRecvP c) (outOwn c I) (waitIn c 3) (recvOut c I) (recv_step c I K)

/-! ## What was lent comes back -/

def endIn (j : Fin 31) : sProp 𝕄 := iprop(waitIn (F := F) c 0 j ∗ waitIn c 2 j)
def endOut (j : Fin 31) : sProp 𝕄 :=
  iprop((atPos ER (dmaC 0 c j) 1 ∅ 0 ∗ bAt c (chunkS (nx j c)) fullShare (PB I c)) ∗ (atPos ER (dmaC 2 c j) 1 ∅ 0 ∗ gAt c (chunkS c) (lf j) (AG I)))

theorem end_step (j : Fin 31) :
    iprop(records I K ∗ owesW c 0 ∗ endIn (F := F) c j) ⊢ W c (endP j) (fun _ => iprop(owesW c 0 ∗ endOut c I j)) := by
  unfold endP endIn endOut waitIn
  simp only [Prog.lift, Prog.bind_op, Prog.bind_ret, Prog.pure_eq_ret]
  iintro ⟨#HR, HO, ⟨Hc, Hat⟩, Hc2, Hat2⟩
  iapply (wait_dma c I K 0 j 0 (semAt cc0_scratch4 j) rfl (credit_b chunk0)) $$ [HO Hc Hat]
  · isplitr; · iexact HR
    isplitl [HO]; · iexact HO
    isplitr; · iapply (mayWait_free c (csem (some (0, j)))); iempintro
    isplitl [Hc] <;> iassumption
  iintro ⟨HO, Hat, Hb⟩
  iapply (wait_dma c I K 2 j 0 (semAt cc0_scratch6 j) rfl (credit_g chunk0)) $$ [HO Hc2 Hat2]
  · isplitr; · iexact HR
    isplitl [HO]; · iexact HO
    isplitr; · iapply (mayWait_free c (csem (some (2, j)))); iempintro
    isplitl [Hc2] <;> iassumption
  iintro ⟨HO, Hat2, Hg⟩
  unfold W dmaPay
  rw [wp_ret]
  imodintro
  isplitl [HO]; · iexact HO
  isplitl [Hat Hb]
  · isplitl [Hat] <;> iassumption
  isplitl [Hat2] <;> iassumption

theorem end_loop : iprop(records I K ∗ owesW c 0 ∗ bigSep Finset.univ (endIn (F := F) c))
    ⊢ W c (seqL places endP) (fun _ => iprop(owesW c 0 ∗ bigSep Finset.univ (endOut c I))) :=
  loop_all (records I K) c endP (fun _ => owesW c 0) (endIn c) (endOut c I) (fun j T _ => end_step c I K j)

/-! ## The shares of the device's own chunk -/

theorem fin_split (Φ : Fin (2 ^ 5) → sProp 𝕄) :
    bigSep Finset.univ Φ = iprop(Φ (Fin.last 31 : Fin (31 + 1)) ∗ bigSep Finset.univ fun j : Fin 31 => Φ (Fin.castSucc j : Fin (31 + 1))) := by
  have h (Ψ : Fin (31 + 1) → sProp 𝕄) : bigSep Finset.univ Ψ = iprop(Ψ (Fin.last 31) ∗ bigSep Finset.univ fun j : Fin 31 => Ψ (Fin.castSucc j)) := by
    rw [Fin.univ_castSuccEmb, Finset.cons_eq_insert, bigSep_insert (by
      simp only [Finset.mem_map, Finset.mem_univ, Fin.coe_castSuccEmb, true_and, not_exists]; exact fun x => (Fin.castSucc_lt_last x).ne), bigSep_map]; rfl
  exact h Φ

theorem g_leaves : gAt c (chunkS c) fullShare (AG I)
    = iprop(gAt c (chunkS c) lfK (AG I) ∗ bigSep Finset.univ fun j => gAt c (chunkS c) (lf j) (AG I)) := by
  refine (pointsTo_leaves (ℓ := (c : Thread nD τ).loc cc0_scratch3) (chunkS c) (AG I) 5 fullShare).trans ?_
  exact fin_split fun i => gAt c (chunkS c) (leaf 5 fullShare i) (AG I)

/-! ## The body -/

/-- The positions of one kind of copy semaphore. -/
def atK (k : Fin 4) (r : ℕ) : sProp 𝕄 := bigSep Finset.univ fun j => atPos ER (dmaC k c j) r ∅ 0
/-- The duties a device does: a signal to everyone, and the ends of its own copies. -/
def payToks : sProp 𝕄 :=
  iprop((bigSep Finset.univ fun j => dutyTok ER (barC (nx j c)) 0 (rev j)) ∗ (bigSep Finset.univ fun j => dutyTok ER (dmaC 0 c j) 0 (0 : Fin 31))
    ∗ (bigSep Finset.univ fun j => dutyTok ER (dmaC 1 (nx j c) j) 0 (0 : Fin 31)) ∗ (bigSep Finset.univ fun j => dutyTok ER (dmaC 2 c j) 0 (0 : Fin 31))
    ∗ bigSep Finset.univ fun j => dutyTok ER (dmaC 3 (nx j c) j) 0 (0 : Fin 31))
def bufs : sProp 𝕄 :=
  iprop((∃ f, pAt (F := F) c Finset.univ fullShare f) ∗ (∃ f, bAt (F := F) c Finset.univ fullShare f) ∗ (∃ f, rAt (F := F) c Finset.univ fullShare f)
    ∗ ∃ f, gAt (F := F) c Finset.univ fullShare f)
def credsAt : sProp 𝕄 :=
  iprop(cred (tallyAt (barC c) () 31) ∗ (bigSep Finset.univ fun j => cred (tallyAt (dmaC 1 c j) () N)) ∗ bigSep Finset.univ fun j => cred (tallyAt (dmaC 3 c j) () N))
def posAt (r : ℕ) : sProp 𝕄 := iprop(atPos ER (barC c) r ∅ 0 ∗ atK c 0 r ∗ atK c 1 r ∗ atK c 2 r ∗ atK c 3 r)

theorem waitIn_sep (k : Fin 4) : iprop((bigSep Finset.univ fun j => cred (tallyAt (dmaC k c j) () N)) ∗ atK c k 0) ⊢ bigSep Finset.univ (waitIn (F := F) c k) := by
  unfold atK
  exact Entails.of_eq (bigSep_sep' ..).symm

/-- Everything the signals need. -/
theorem sig_in : iprop((bigSep Finset.univ fun j => dutyTok ER (barC (nx j c)) 0 (rev j)) ∗ (∃ f, rAt (F := F) c Finset.univ fullShare f) ∗ ∃ f, gAt (F := F) c Finset.univ fullShare f)
    ⊢ iprop((bigSep Finset.univ (sigPre (F := F) c)) ∗ ∃ f, gAt (F := F) c (chunkS c) fullShare f) := by
  have e : bigSep Finset.univ (sigPre (F := F) c) = iprop((bigSep Finset.univ fun j => dutyTok ER (barC (nx j c)) 0 (rev j))
      ∗ (bigSep Finset.univ fun j => iprop(∃ f, rAt (F := F) c (slotS (rev j)) fullShare f)) ∗ bigSep Finset.univ fun j => iprop(∃ f, gAt (F := F) c (chunkS (nx j c)) fullShare f)) := by
    unfold sigPre; rw [bigSep_sep', bigSep_sep']
  rw [e]
  iintro ⟨Ht, Hr, Hg⟩
  ihave Hr := (r_give c) $$ Hr
  ihave Hg := (g_give c) $$ Hg
  icases Hg with ⟨Hg0, Hg⟩
  isplitl [Ht Hr Hg]
  · isplitl [Ht]; · iexact Ht
    isplitl [Hr] <;> iassumption
  iexact Hg0

/-- What the copies of both phases need, out of what the others' signals brought. -/
theorem pre_in : iprop((bigSep Finset.univ fun j => barPay (F := F) c j) ∗ (bigSep Finset.univ fun j => dutyTok ER (dmaC 0 c j) 0 (0 : Fin 31))
      ∗ (bigSep Finset.univ fun j => dutyTok ER (dmaC 1 (nx j c) j) 0 (0 : Fin 31)) ∗ (bigSep Finset.univ fun j => dutyTok ER (dmaC 2 c j) 0 (0 : Fin 31))
      ∗ bigSep Finset.univ fun j => dutyTok ER (dmaC 3 (nx j c) j) 0 (0 : Fin 31))
    ⊢ iprop((bigSep Finset.univ fun b : Fin 4 => bigSep Finset.univ fun j => if bl (nx j c) = b then rsPre (F := F) c j else iprop(emp))
      ∗ bigSep Finset.univ fun j => iprop(dutyTok ER (dmaC 2 c j) 0 (0 : Fin 31) ∗ dutyTok ER (dmaC 3 (nx j c) j) 0 (0 : Fin 31) ∗ ∃ f, gAt (F := F) (nx j c) (chunkS c) fullShare f)) := by
  rw [← bigSep_sort (fun j => bl (nx j c)) (rsPre (F := F) c)]
  unfold barPay rsPre
  rw [bigSep_sep', bigSep_sep', bigSep_sep', bigSep_sep', bigSep_sep']
  iintro ⟨⟨Hr, Hg⟩, H0, H1, H2, H3⟩
  isplitl [Hr H0 H1]
  · isplitl [H0]; · iexact H0
    isplitl [H1] <;> iassumption
  isplitl [H2]; · iexact H2
  isplitl [H3] <;> iassumption

theorem O₀_split : O₀ c = Obar Finset.univ c
    + (Odma 1 (Bs c 0) c + (Odma 1 (Bs c 1) c + (Odma 1 (Bs c 2) c + (Odma 1 (Bs c 3) c + Odma 3 Finset.univ c)))) := by
  unfold O₀; rw [Odma_split c 1]; simp only [add_assoc]

/-- The four blocks fill the partial product. -/
theorem four_blocks (f : Vec F S512x1024 .f32) :
    (fun i => if blkOf i = 3 then PF I c i else if blkOf i = 2 then PF I c i else if blkOf i = 1 then PF I c i else if blkOf i = 0 then PF I c i else f i) = PF I c := by
  funext i
  have h : ∀ b : Fin 4, b = 3 ∨ b = 2 ∨ b = 1 ∨ b = 0 := by decide
  rcases h (blkOf i) with h | h | h | h <;> simp [h]

theorem own_chunk (Φ : sProp 𝕄) : (bigSep Finset.univ fun b : Fin 4 => if bl c = b then Φ else iprop(emp)) = Φ := by
  have h := bigSep_filter Finset.univ (fun b => bl c = b) (fun _ : Fin 4 => Φ)
  rw [Finset.filter_eq, if_pos (Finset.mem_univ _), bigSep_singleton] at h
  exact h.symm

theorem b_join : iprop(bAt c (chunkS c) fullShare (PB I c) ∗ bigSep Finset.univ fun j => bAt c (chunkS (nx j c)) fullShare (PB I c)) ⊢ bAt c Finset.univ fullShare (PB I c) := by
  rw [bAt_chunks, bigSep_dev c]
theorem g_join : iprop(gAt c (chunkS c) fullShare (AG I) ∗ bigSep Finset.univ fun j => gAt c (chunkS (pv j c)) fullShare (AG I)) ⊢ gAt c Finset.univ fullShare (AG I) := by
  rw [gAt_chunks, bigSep_dev' c]

def bodyIn : sProp 𝕄 :=
  iprop(owesW c (O₀ c) ∗ credsAt c ∗ posAt c 0 ∗ payToks c ∗ insAt I c ∗ (∃ f, at5 (F := F) c Finset.univ fullShare f) ∗ bufs c)
def bodyOut : sProp 𝕄 :=
  iprop(owesW c 0 ∗ posAt c 1 ∗ insAt I c ∗ at5 c Finset.univ fullShare (OUT I c) ∗ bufs c)

theorem access_g (c : Dev nD) : (gM.access (rowsR (off125_eq c))).setOn Finset.univ = chunkS c :=
  (View.set_slice_whole cc0_scratch3 (rowsR (off125_eq c))).trans (rows_set (off125_eq c))

/-- The buffers are whole again at the end. -/
theorem body_end (f' : Vec F S512x1024 .f32) (hf : ∀ i, f' i = OUT I c i) :
    iprop(owesW c 0 ∗ atPos ER (barC c) 1 ∅ 0 ∗ insAt I c ∗ at5 c Finset.univ fullShare f' ∗ pAt c Finset.univ fullShare (PF I c)
        ∗ bAt c (chunkS c) fullShare (PB I c) ∗ gAt c (chunkS c) lfK (AG I)
        ∗ bigSep Finset.univ (accOut c I) ∗ bigSep Finset.univ (recvOut c I) ∗ bigSep Finset.univ (endOut c I))
      ⊢ bodyOut c I := by
  obtain rfl : f' = OUT I c := funext hf
  unfold accOut recvOut endOut bodyOut posAt bufs atK
  rw [bigSep_sep', bigSep_sep', bigSep_sep', bigSep_sep', bigSep_sep']
  iintro ⟨HO, Hab, Hin, Ho, Hp, Hown, HgK, ⟨Ha1, Hr⟩, ⟨Ha3, Hg⟩, ⟨Ha0, Hb⟩, Ha2, Hgl⟩
  ihave Hr := (Entails.of_eq (rAt_slots c (RSV I c)).symm) $$ Hr
  ihave Hb := (b_join c I) $$ [Hown Hb]
  · isplitl [Hown] <;> iassumption
  ihave Hg0 := (Entails.of_eq (g_leaves c I).symm) $$ [HgK Hgl]
  · isplitl [HgK] <;> iassumption
  ihave Hg := (g_join c I) $$ [Hg0 Hg]
  · isplitl [Hg0] <;> iassumption
  isplitl [HO]; · iexact HO
  isplitl [Hab Ha0 Ha1 Ha2 Ha3]
  · isplitl [Hab]; · iexact Hab
    isplitl [Ha0]; · iexact Ha0
    isplitl [Ha1]; · iexact Ha1
    isplitl [Ha2] <;> iassumption
  isplitl [Hin]; · iexact Hin
  isplitl [Ho]; · iexact Ho
  isplitl [Hp]; · iexists _; iexact Hp
  isplitl [Hb]; · iexists _; iexact Hb
  isplitl [Hr]; · iexists _; iexact Hr
  iexists _; iexact Hg

theorem rest_step : iprop((records I K ∗ levAts L lv) ∗ bodyIn c I) ⊢ W c (restP c) (fun _ => bodyOut c I) := by
  unfold bodyIn credsAt posAt payToks bufs
  rw [O₀_split]
  iintro ⟨⟨#HR, #HL⟩, HO, ⟨Hcb, Hc1, Hc3⟩, ⟨Hab, Ha0, Ha1, Ha2, Ha3⟩, ⟨Htb, Ht0, Ht1, Ht2, Ht3⟩, Hin, Ho, ⟨%f, Hp⟩, ⟨%fb, Hb⟩, Hr, Hg⟩
  icases Ho with ⟨%fo, Ho⟩
  unfold W restP
  simp only [Prog.lift, Prog.bind_op, Prog.bind_ret, Prog.pure_eq_ret]
  ihave H := (sig_in c) $$ [Htb Hr Hg]
  · isplitl [Htb]; · iexact Htb
    isplitl [Hr] <;> iassumption
  icases H with ⟨Hsig, ⟨%fg, Hg⟩⟩
  ihave Hw := (sig_loop c I K _) $$ [HO Hsig]
  · isplitr; · iexact HR
    isplitl [HO] <;> iassumption
  iapply (W_bind c) $$ Hw; iintro %_ HO
  ihave Hw := (bar_wait c I K _ (by have h := mayWait_bar (F := F) c; rw [Odma_split c 1] at h; simp only [add_assoc] at h; exact h)) $$ [HO Hcb Hab]
  · isplitr; · iexact HR
    isplitr; · iexact HL
    isplitl [HO]; · iexact HO
    isplitl [Hcb] <;> iassumption
  iapply (W_bind c) $$ Hw; iintro %_ ⟨HO, Hab, Hpay⟩
  ihave H := (pre_in c) $$ [Hpay Ht0 Ht1 Ht2 Ht3]
  · isplitl [Hpay]; · iexact Hpay
    isplitl [Ht0]; · iexact Ht0
    isplitl [Ht1]; · iexact Ht1
    isplitl [Ht2] <;> iassumption
  icases H with ⟨Hrs, Hag⟩
  ihave Hrs := (Entails.of_eq (bigSep_four _)) $$ Hrs
  icases Hrs with ⟨Hrs0, Hrs1, Hrs2, Hrs3⟩
  ihave Hb := (Entails.of_eq ((bAt_blks c fb).trans (bigSep_four _))) $$ Hb
  icases Hb with ⟨Hb0, Hb1, Hb2, Hb3⟩
  ihave Hw := (blk_step c I K 0 _ f fb) $$ [Hin Hp Hb0 HO Hrs0]
  · isplitr; · iexact HR
    isplitl [Hin]; · iexact Hin
    isplitl [Hp]; · iexact Hp
    isplitl [Hb0]; · iexact Hb0
    isplitl [HO] <;> iassumption
  iapply (W_bind c) $$ Hw; iintro %_ ⟨Hin, Hp, Hw0, HO, Hk0⟩
  ihave Hw := (blk_step c I K 1 _ _ fb) $$ [Hin Hp Hb1 HO Hrs1]
  · isplitr; · iexact HR
    isplitl [Hin]; · iexact Hin
    isplitl [Hp]; · iexact Hp
    isplitl [Hb1]; · iexact Hb1
    isplitl [HO] <;> iassumption
  iapply (W_bind c) $$ Hw; iintro %_ ⟨Hin, Hp, Hw1, HO, Hk1⟩
  ihave Hw := (blk_step c I K 2 _ _ fb) $$ [Hin Hp Hb2 HO Hrs2]
  · isplitr; · iexact HR
    isplitl [Hin]; · iexact Hin
    isplitl [Hp]; · iexact Hp
    isplitl [Hb2]; · iexact Hb2
    isplitl [HO] <;> iassumption
  iapply (W_bind c) $$ Hw; iintro %_ ⟨Hin, Hp, Hw2, HO, Hk2⟩
  ihave Hw := (blk_step c I K 3 _ _ fb) $$ [Hin Hp Hb3 HO Hrs3]
  · isplitr; · iexact HR
    isplitl [Hin]; · iexact Hin
    isplitl [Hp]; · iexact Hp
    isplitl [Hb3]; · iexact Hb3
    isplitl [HO] <;> iassumption
  iapply (W_bind c) $$ Hw; iintro %_ ⟨Hin, Hp, Hw3, HO, Hk3⟩
  ihave Hp := (Entails.of_eq (congrArg (pAt c Finset.univ fullShare) (four_blocks c I f))) $$ Hp
  ihave Hown := (Entails.of_eq ((bigSep_four (fun b : Fin 4 => if bl c = b then bAt c (chunkS c) fullShare (PB I c) else iprop(emp))).symm.trans (own_chunk c _))) $$ [Hw0 Hw1 Hw2 Hw3]
  · isplitl [Hw0]; · iexact Hw0
    isplitl [Hw1]; · iexact Hw1
    isplitl [Hw2] <;> iassumption
  ihave Hc0 := (Entails.of_eq ((bigSep_four (fun b : Fin 4 => bigSep Finset.univ (rsOut (F := F) c b))).symm.trans
      (bigSep_sort (fun j => bl (nx j c)) (fun j => cred (tallyAt (dmaC 0 c j) () N))).symm)) $$ [Hk0 Hk1 Hk2 Hk3]
  · isplitl [Hk0]; · iexact Hk0
    isplitl [Hk1]; · iexact Hk1
    isplitl [Hk2] <;> iassumption
  iapply (wp_load 𝒱₀ (c : Thread nD τ) none Set.univ (m := pM) (Finset.subset_univ _)) $$ Hp; iintro Hp
  ihave H := (waitIn_sep c 1) $$ [Hc1 Ha1]
  · isplitl [Hc1] <;> iassumption
  ihave Hw := (acc_loop c I K _) $$ [HO H]
  · isplitr
    · isplitr; · iexact HR
      iexact HL
    isplitl [HO] <;> iassumption
  iapply (W_bind c) $$ Hw; iintro %a ⟨%ha, HO, Hacc⟩
  have ea : a = ACC I c := ha
  subst ea
  iapply (wp_load 𝒱₀ (c : Thread nD τ) none Set.univ (m := oM) (Finset.subset_univ _)) $$ Ho; iintro Ho
  iapply (wp_store 𝒱₀ (c : Thread nD τ) none Set.univ (m := oM) (r := rowsR (off125_eq c)) (Mk := Finset.univ) (Finset.subset_univ _)) $$ Ho; iintro Ho
  iapply (wp_load 𝒱₀ (c : Thread nD τ) none Set.univ (m := gM) (S := chunkS c) (by rw [setOn_g, ← rows_set (off125_eq c)])) $$ Hg; iintro Hg
  iapply (wp_store 𝒱₀ (c : Thread nD τ) none Set.univ (m := gM) (r := rowsR (off125_eq c)) (Mk := Finset.univ) (S := chunkS c) (by rw [access_g])) $$ Hg; iintro Hg
  have hg : ((gM.access (rowsR (off125_eq c))).loc (c : Thread nD τ) ↦[chunkS c]{fullShare} (gM.access (rowsR (off125_eq c))).write (Elt F) fg (shapeCast S16x1024 (truncf .bf16 (ACC I c) bitsLt_bf16_f32) shapeCasts_S16x1024_S16x1024) Finset.univ : sProp 𝕄)
      = gAt c (chunkS c) fullShare (AG I) := pointsTo_congr (store_g I c (off125_eq c) fg)
  ihave Hg := (Entails.of_eq (hg.trans (g_leaves c I))) $$ Hg
  icases Hg with ⟨HgK, Hgl⟩
  ihave H := (Entails.of_eq (bigSep_sep' ..).symm) $$ [Hag Hgl]
  · isplitl [Hag] <;> iassumption
  ihave Hw := (ag_loop c I K) $$ [HO H]
  · isplitr; · iexact HR
    isplitl [HO]; · iexact HO
    iexact H
  iapply (W_bind c) $$ Hw; iintro %_ ⟨HO, Hc2⟩
  ihave H := (waitIn_sep c 3) $$ [Hc3 Ha3]
  · isplitl [Hc3] <;> iassumption
  ihave Hw := (recv_loop c I K) $$ [HO Ho H]
  · isplitr; · iexact HR
    isplitl [HO Ho]
    · unfold outOwn
      isplitl [HO]; · iexact HO
      iexists _
      isplitr
      rotate_left
      · iexact Ho
      · ipureintro
        intro i hi
        rw [store_o]
        by_cases h : chk i = c
        · rw [if_pos h]; exact out_own I c i h
        · obtain ⟨j, hj⟩ := pv_surj c (chk i) h
          exact absurd hj.symm (hi j (Finset.mem_univ j))
    iexact H
  iapply (W_bind c) $$ Hw; iintro %_ ⟨Hout, Hrecv⟩
  unfold outOwn
  icases Hout with ⟨HO, ⟨%f', %hf', Ho⟩⟩
  ihave H0 := (waitIn_sep c 0) $$ [Hc0 Ha0]
  · isplitl [Hc0] <;> iassumption
  ihave Hc2 := (show bigSep Finset.univ (agOut (F := F) c) ⊢ bigSep Finset.univ (fun j => cred (tallyAt (dmaC 2 c j) () N)) from Entails.of_eq rfl) $$ Hc2
  ihave H2 := (waitIn_sep c 2) $$ [Hc2 Ha2]
  · isplitl [Hc2] <;> iassumption
  ihave H := (Entails.of_eq (bigSep_sep' ..).symm) $$ [H0 H2]
  · isplitl [H0] <;> iassumption
  ihave Hw := (end_loop c I K) $$ [HO H]
  · isplitr; · iexact HR
    isplitl [HO]; · iexact HO
    iexact H
  iapply (wp_wand _ _ _) $$ Hw
  iintro %_ ⟨HO, Hend⟩
  iapply (body_end c I f' (fun i => hf' i (fun j hj => absurd hj (Finset.notMem_empty j))))
  isplitl [HO]; · iexact HO
  isplitl [Hab]; · iexact Hab
  isplitl [Hin]; · iexact Hin
  isplitl [Ho]; · iexact Ho
  isplitl [Hp]; · iexact Hp
  isplitl [Hown]; · iexact Hown
  isplitl [HgK]; · iexact HgK
  isplitl [Hacc]; · iexact Hacc
  isplitl [Hrecv] <;> iassumption

end Cert.KernelIdeal.Gen

end
-- ==== Proof.Launch.lean ====
/-
The run. Each device is dealt its inputs, its buffers, its place at every one of its semaphores and the tokens of what it
is to raise; from there the body of every device ends in its postcondition, and the semaphores are closed at zero.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds.Family

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What the devices find staged. -/
def insOf : Ins F where
  x c := (win0_0.blk (0 : Fin 1)).view.read (Elt F) ((s₀ m ρ).mem ((c : Thread nD τ).loc main_arg0))
  wq c := (win0_1.blk (0 : Fin 1)).view.read (Elt F) ((s₀ m ρ).mem ((c : Thread nD τ).loc main_arg1))
  wo c := (win0_2.blk (0 : Fin 1)).view.read (Elt F) ((s₀ m ρ).mem ((c : Thread nD τ).loc main_arg2))
  k c := (win0_3.blk (0 : Fin 1)).view.read (Elt F) ((s₀ m ρ).mem ((c : Thread nD τ).loc main_arg3))
  v c := (win0_4.blk (0 : Fin 1)).view.read (Elt F) ((s₀ m ρ).mem ((c : Thread nD τ).loc main_arg4))

/-! ## One device's semaphores, listed -/

theorem bigSep_CK (Φ : CK → sProp 𝕄) : bigSep Finset.univ Φ = iprop(Φ none
    ∗ (bigSep Finset.univ fun j => Φ (some (0, j))) ∗ (bigSep Finset.univ fun j => Φ (some (1, j)))
    ∗ (bigSep Finset.univ fun j => Φ (some (2, j))) ∗ bigSep Finset.univ fun j => Φ (some (3, j))) := by
  have hu : (Finset.univ : Finset CK) = insert none (Finset.univ.map ⟨some, Option.some_injective _⟩) := by
    ext k; cases k <;> simp
  have e : bigSep Finset.univ Φ = iprop(Φ none ∗ bigSep (Finset.univ.map ⟨some, Option.some_injective _⟩) Φ) := by
    rw [hu]; exact bigSep_insert (by simp)
  rw [e, bigSep_map, bigSep_univ_prod, bigSep_four]
  rfl

theorem posAt_eq (c : Dev nD) (r : ℕ) : (bigSep Finset.univ fun k : CK => (atPos ER (kcell (c, k)) r ∅ 0 : sProp 𝕄)) = posAt c r := by
  rw [bigSep_CK]; rfl

/-- The semaphores of a device at zero. -/
def zeros (c : Dev nD) : sProp 𝕄 := bigSep Finset.univ fun k : CK => semVal (kcell (c, k)) 0

theorem close (I : Ins F) (K : Dev nD × CK → ℕ) (c : Dev nD) : iprop(records I K ∗ posAt c 1) ⊢ (|={Set.univ}=> zeros c : sProp 𝕄) := by
  have hi : records I K ⊢ bigSep Finset.univ fun k : CK => (cellInv ER (Rd I) (K (c, k)) (kcell (c, k)) : sProp 𝕄) :=
    (BI.bigSep_of_persistent Finset.univ (records I K)).trans (bigSep_mono fun k _ => inv_at I K (c, k))
  refine (sep_mono_left hi).trans ?_
  rw [← posAt_eq, ← bigSep_sep']
  exact Rounds.cells_close ER (Rd I) Finset.univ (fun k : CK => kcell (c, k)) (fun k => K (c, k)) (fun _ _ => Set.mem_univ _) (fun _ _ h => h)
    (fun _ => 1) (fun k _ => duties_later I _)

/-! ## The data of the call -/

/-- What the launch makes each device a holder of. -/
def G' (I : Ins F) (c : Dev nD) : sProp 𝕄 := iprop(∃ K, records I K ∗ posAt c 0 ∗ payToks c)
def start (c : Dev nD) : sProp 𝕄 := iprop(G' (insOf m ρ) c ∗ credsAt c ∗ levAts L lv)
def Φ₀ (c : Dev nD) : sProp 𝕄 := iprop(start m ρ c ∗ bufs c)
def Φ₁ (c : Dev nD) : sProp 𝕄 := iprop(bufs c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m ρ).x c
    | ⟨1, _⟩ => (insOf m ρ).wq c
    | ⟨2, _⟩ => (insOf m ρ).wo c
    | ⟨3, _⟩ => (insOf m ρ).k c
    | ⟨4, _⟩ => (insOf m ρ).v c
    | ⟨5, _⟩ => OUT (insOf m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem whole_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem held_intro (c : Dev nD) (b : Ref sig .tc) (X : b.ty.Contents (Elt F)) :
    (((c : Thread nD τ).loc b) ↦{fullShare} X : sProp 𝕄) ⊢ held c b X := by
  iintro H; iexists X; isplitr; · (ipureintro; rfl)
  iexact H
theorem held_elim (c : Dev nD) (b : Ref sig .tc) (X Y : b.ty.Contents (Elt F)) (h : X = Y) :
    (held c b X : sProp 𝕄) ⊢ ((c : Thread nD τ).loc b) ↦{fullShare} Y := by
  subst h
  iintro ⟨%f, %hf, H⟩; subst hf; iexact H

/-! ## The body -/

def bodyPre (c : Dev nD) : sProp 𝕄 :=
  iprop(Φ₀ m ρ c ∗ (dats m ρ 0 c).owesAt () t0_0.castSucc
    ∗ (∃ d, held c cc0_stg0_0 ((dats m ρ 0 c).before (0 : Fin 6) t0_0 d))
    ∗ (∃ d, held c cc0_stg1_0 ((dats m ρ 0 c).before (1 : Fin 6) t0_0 d))
    ∗ (∃ d, held c cc0_stg2_0 ((dats m ρ 0 c).before (2 : Fin 6) t0_0 d))
    ∗ (∃ d, held c cc0_stg3_0 ((dats m ρ 0 c).before (3 : Fin 6) t0_0 d))
    ∗ (∃ d, held c cc0_stg4_0 ((dats m ρ 0 c).before (4 : Fin 6) t0_0 d))
    ∗ (∃ d, held c cc0_stg5_0 ((dats m ρ 0 c).before (5 : Fin 6) t0_0 d)))

def bodyPost (c : Dev nD) : sProp 𝕄 :=
  iprop(Φ₁ c ∗ (dats m ρ 0 c).owesAt () t0_0.succ
    ∗ held c cc0_stg0_0 ((insOf m ρ).x c) ∗ held c cc0_stg1_0 ((insOf m ρ).wq c) ∗ held c cc0_stg2_0 ((insOf m ρ).wo c)
    ∗ held c cc0_stg3_0 ((insOf m ρ).k c) ∗ held c cc0_stg4_0 ((insOf m ρ).v c) ∗ held c cc0_stg5_0 (OUT (insOf m ρ) c))

/-- What was fetched is what the device was given. -/
theorem before_0 (c : Dev nD) (d) : (dats m ρ 0 c).before (0 : Fin 6) t0_0 d = (insOf m ρ).x c := by
  unfold Dat.before; rw [if_pos (fetch0_0 t0_0)]; rfl
theorem before_1 (c : Dev nD) (d) : (dats m ρ 0 c).before (1 : Fin 6) t0_0 d = (insOf m ρ).wq c := by
  unfold Dat.before; rw [if_pos (fetch0_1 t0_0)]; rfl
theorem before_2 (c : Dev nD) (d) : (dats m ρ 0 c).before (2 : Fin 6) t0_0 d = (insOf m ρ).wo c := by
  unfold Dat.before; rw [if_pos (fetch0_2 t0_0)]; rfl
theorem before_3 (c : Dev nD) (d) : (dats m ρ 0 c).before (3 : Fin 6) t0_0 d = (insOf m ρ).k c := by
  unfold Dat.before; rw [if_pos (fetch0_3 t0_0)]; rfl
theorem before_4 (c : Dev nD) (d) : (dats m ρ 0 c).before (4 : Fin 6) t0_0 d = (insOf m ρ).v c := by
  unfold Dat.before; rw [if_pos (fetch0_4 t0_0)]; rfl

/-- The precondition of the point, in the form the body's proof takes it. -/
theorem point_in (c : Dev nD) : bodyPre m ρ c ⊢ iprop(∃ K, (records (insOf m ρ) K ∗ levAts L lv) ∗ bodyIn c (insOf m ρ)) := by
  unfold bodyPre Φ₀ start G' bodyIn insAt xAt wqAt woAt kAt vAt at5 Dat.owesAt Pipeline.owesWithin
  rw [show (dats m ρ 0 c).owed t0_0.castSucc = O₀ c from rfl]
  iintro ⟨⟨⟨⟨%K, #HR, Hpos, Htok⟩, Hcr, #Hlev⟩, Hb⟩, ⟨%w, %hw, HO⟩, ⟨%d0, H0⟩, ⟨%d1, H1⟩, ⟨%d2, H2⟩, ⟨%d3, H3⟩, ⟨%d4, H4⟩, ⟨%d5, %f5, %h5, H5⟩⟩
  iexists K
  isplitr
  · isplitr; · iexact HR
    iexact Hlev
  isplitl [HO]; · unfold owesW; iexists w; iexact HO
  isplitl [Hcr]; · iexact Hcr
  isplitl [Hpos]; · iexact Hpos
  isplitl [Htok]; · iexact Htok
  isplitl [H0 H1 H2 H3 H4]
  · isplitl [H0]; · iapply (held_elim c cc0_stg0_0 _ _ (before_0 m ρ c d0)); iexact H0
    isplitl [H1]; · iapply (held_elim c cc0_stg1_0 _ _ (before_1 m ρ c d1)); iexact H1
    isplitl [H2]; · iapply (held_elim c cc0_stg2_0 _ _ (before_2 m ρ c d2)); iexact H2
    isplitl [H3]; · iapply (held_elim c cc0_stg3_0 _ _ (before_3 m ρ c d3)); iexact H3
    iapply (held_elim c cc0_stg4_0 _ _ (before_4 m ρ c d4)); iexact H4
  isplitl [H5]; · iexists f5; iexact H5
  iexact Hb

/-- The postcondition of the body, its semaphores closed. -/
theorem point_out (K : Dev nD × CK → ℕ) (c : Dev nD) : iprop(records (insOf m ρ) K ∗ bodyOut c (insOf m ρ)) ⊢ |={Set.univ}=> bodyPost m ρ c := by
  unfold bodyOut bodyPost Φ₁ insAt xAt wqAt woAt kAt vAt at5 Dat.owesAt Pipeline.owesWithin
  rw [show (dats m ρ 0 c).owed t0_0.succ = 0 from rfl]
  iintro ⟨#HR, HO, Hpos, ⟨H0, H1, H2, H3, H4⟩, H5, Hb⟩
  imod (close (insOf m ρ) K c) $$ [Hpos] with Hz
  · isplitr; · iexact HR
    iexact Hpos
  imodintro
  isplitl [Hb Hz]
  · isplitl [Hb] <;> iassumption
  isplitl [HO]
  · unfold owesW
    icases HO with ⟨%w, HO⟩
    iexists w
    isplitr; · ipureintro; exact fun _ _ => Or.inl trivial
    iexact HO
  isplitl [H0]; · iapply (held_intro c cc0_stg0_0 ((insOf m ρ).x c)); iexact H0
  isplitl [H1]; · iapply (held_intro c cc0_stg1_0 ((insOf m ρ).wq c)); iexact H1
  isplitl [H2]; · iapply (held_intro c cc0_stg2_0 ((insOf m ρ).wo c)); iexact H2
  isplitl [H3]; · iapply (held_intro c cc0_stg3_0 ((insOf m ρ).k c)); iexact H3
  isplitl [H4]; · iapply (held_intro c cc0_stg4_0 ((insOf m ρ).v c)); iexact H4
  iapply (held_intro c cc0_stg5_0 (OUT (insOf m ρ) c)); iexact H5

theorem sound_body (c : Dev nD) : bodyPre m ρ c ⊢ wp frame (wpE (defs₀ (F := F)) 𝒱₀ c none) Set.univ (bodyAt0 (F := F) t0_0) (fun _ => bodyPost m ρ c) := by
  obtain ⟨k, hk, hr⟩ := body_eq (F := F) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) (Memref.isWhole_whole _)
  rw [show bodyAt0 (F := F) t0_0 = Prog.op .deviceId k from hk, wp_deviceId, hr]
  refine (point_in m ρ c).trans ?_
  iintro ⟨%K, ⟨#HR, #Hlev⟩, Hin⟩
  iapply (wp_fupd _ _ _)
  ihave Hw := (rest_step c (insOf m ρ) K) $$ [Hin]
  · isplitr
    · isplitr; · iexact HR
      iexact Hlev
    iexact Hin
  iapply (wp_wand _ _ _) $$ Hw
  iintro %_ Hout
  iapply (point_out m ρ K c)
  isplitr; · iexact HR
  iexact Hout

theorem phi_0 (c : Dev nD) : (dats m ρ 0 c).Φ t0_0.castSucc = Φ₀ m ρ c := rfl
theorem phi_1 (c : Dev nD) : (dats m ρ 0 c).Φ t0_0.succ = Φ₁ c := rfl
theorem after_0 (c : Dev nD) : (dats m ρ 0 c).after (0 : Fin 6) t0_0 = (insOf m ρ).x c := rfl
theorem after_5 (c : Dev nD) : (dats m ρ 0 c).after (5 : Fin 6) t0_0 = OUT (insOf m ρ) c := rfl
theorem run_body : defs₀ (F := F) .tc 0 (t0_0, cfg0.slots t0_0) = bodyAt0 t0_0 := rfl
theorem after_1 (c : Dev nD) : (dats m ρ 0 c).after (1 : Fin 6) t0_0 = (insOf m ρ).wq c := rfl
theorem after_2 (c : Dev nD) : (dats m ρ 0 c).after (2 : Fin 6) t0_0 = (insOf m ρ).wo c := rfl
theorem after_3 (c : Dev nD) : (dats m ρ 0 c).after (3 : Fin 6) t0_0 = (insOf m ρ).k c := rfl
theorem after_4 (c : Dev nD) : (dats m ρ 0 c).after (4 : Fin 6) t0_0 = (insOf m ρ).v c := rfl

theorem to_eq {M : Type} [URA M] {X Y Z : sProp M} (h : X ⊢ Y) (e : Y = Z) : X ⊢ Z := e ▸ h
theorem of_eq_to {M : Type} [URA M] {X Y Z : sProp M} (e : X = Y) (h : Y ⊢ Z) : X ⊢ Z := e ▸ h

set_option maxRecDepth 4000 in
theorem body_obligation (c : Dev nD) : BodyObligation (dats (F := F) m ρ 0 c) (defs₀ (F := F)) 𝒱₀ () Set.univ := fun t => by
  have hs := sound_body m ρ c
  rw [fin_N0 t]
  rw [bigSep_W0, bigSep_W0]
  simp only [whole_pts]
  rw [run_body]
  generalize hY : bodyPost m ρ c = Y at hs
  generalize hX : bodyPre m ρ c = X at hs
  refine of_eq_to ?_ (to_eq hs ?_)
  · rw [← hX]
    unfold bodyPre
    rw [phi_0]
  · congr 1
    funext x
    rw [← hY]
    unfold bodyPost
    rw [phi_1, after_0, after_1, after_2, after_3, after_4, after_5]

end Cert.KernelIdeal.Gen

end
-- ==== Proof.Run.lean ====
/-
The launch: the semaphores' records are allocated, the tokens are dealt to those who pay with them, the credits are
counted, and the whole run ends with the inputs unchanged and the result of every device as its body left it.
-/
module

public import proofs.«01_k».proof.Proof.Launch
public import Idealize.ShloMosaic.Lib.Pipeline.CollectiveSegs

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Semaphores and tokens -/

theorem ownSemFacts : Pipeline.OwnSemFacts cfg0.spec osem where
  isScoped := by decide +kernel
  inj := fun a b h => by
    have h' : csem (some a) = csem (some b) := h
    exact Option.some.inj (csem_injective h')
  disj := by decide +kernel

def cells : Finset (GSem nD τ sig) := Finset.univ.map ⟨kcell, kcell_injective⟩

abbrev TK : Type := Option (Fin 4) × Fin 31
/-- The tokens of one device's own semaphores: 31 of its barrier semaphore, one of each of the others. -/
abbrev tokOf (ct : Dev nD × TK) : GSem nD τ sig × ℕ × Fin 31 := match ct.2 with
  | (none, j) => (barC ct.1, 0, j)
  | (some k, j) => (dmaC k ct.1 j, 0, 0)
theorem tokOf_injective : Function.Injective (tokOf : Dev nD × TK → GSem nD τ sig × ℕ × Fin 31) := by
  rintro ⟨c, o, j⟩ ⟨c', o', j'⟩ h
  rcases o with _ | k <;> rcases o' with _ | k'
  · have h1 := kcell_injective (congrArg Prod.fst h)
    have h2 : j = j' := congrArg (fun x : GSem nD τ sig × ℕ × Fin 31 => x.2.2) h
    have h3 : c = c' := congrArg Prod.fst h1
    rw [h2, h3]
  · have h1 := kcell_injective (congrArg Prod.fst h)
    exact absurd (congrArg Prod.snd h1) (by simp)
  · have h1 := kcell_injective (congrArg Prod.fst h)
    exact absurd (congrArg Prod.snd h1) (by simp)
  · have h1 := kcell_injective (congrArg Prod.fst h)
    have h3 : c = c' := congrArg Prod.fst h1
    have h4 := Option.some.inj (congrArg Prod.snd h1)
    have h5 : k = k' := congrArg Prod.fst h4
    have h6 : j = j' := congrArg Prod.snd h4
    rw [h3, h5, h6]
def tokens : Finset (GSem nD τ sig × ℕ × Fin 31) := Finset.univ.map ⟨tokOf, tokOf_injective⟩

def u₀ : UU := (initOf (Pipeline.cells cfgs cellOf_inj) (Pipeline.launchToks cfgs cellOf_inj), initOf cells tokens)

def toks (c : Dev nD) : sProp 𝕄 :=
  iprop((bigSep Finset.univ fun j => dutyTok ER (barC c) 0 j)
    ∗ (bigSep Finset.univ fun j => dutyTok ER (dmaC 0 c j) 0 0) ∗ (bigSep Finset.univ fun j => dutyTok ER (dmaC 1 c j) 0 0)
    ∗ (bigSep Finset.univ fun j => dutyTok ER (dmaC 2 c j) 0 0) ∗ bigSep Finset.univ fun j => dutyTok ER (dmaC 3 c j) 0 0)

theorem toks_eq (c : Dev nD) : (bigSep Finset.univ fun t : TK => (dutyTok ER (tokOf (c, t)).1 (tokOf (c, t)).2.1 (tokOf (c, t)).2.2 : sProp 𝕄)) = toks c := by
  have hu : (Finset.univ : Finset (Option (Fin 4))) = insert none (Finset.univ.map ⟨some, Option.some_injective _⟩) := by
    ext k; cases k <;> simp
  have e (Φ : Option (Fin 4) → sProp 𝕄) : bigSep Finset.univ Φ = iprop(Φ none ∗ bigSep (Finset.univ.map ⟨some, Option.some_injective _⟩) Φ) := by
    rw [hu]; exact bigSep_insert (by simp)
  rw [bigSep_univ_prod, e, bigSep_map, bigSep_four]
  rfl

/-- A family over devices and places, handed to those `j + 1` places behind. -/
theorem around (Φ : Dev nD → Fin 31 → sProp 𝕄) :
    (bigSep Finset.univ fun c => bigSep Finset.univ fun j => Φ c j) = bigSep Finset.univ fun c => bigSep Finset.univ fun j => Φ (nx j c) j := by
  rw [bigSep_univ_comm (fun c j => Φ c j), bigSep_univ_comm (fun c j => Φ (nx j c) j)]
  exact bigSep_congr fun j _ => bigSep_univ_equiv (ringE j) fun c => Φ c j

theorem toks_around : (bigSep Finset.univ fun c : Dev nD => (toks c : sProp 𝕄)) ⊢ bigSep Finset.univ fun c : Dev nD => payToks c := by
  have hb : (bigSep Finset.univ fun c : Dev nD => bigSep Finset.univ fun j => (dutyTok ER (barC c) 0 j : sProp 𝕄))
      = bigSep Finset.univ fun c : Dev nD => bigSep Finset.univ fun j => dutyTok ER (barC (nx j c)) 0 (rev j) := by
    rw [← around (fun c j => (dutyTok ER (barC c) 0 (rev j) : sProp 𝕄))]
    exact bigSep_congr fun c _ => bigSep_univ_equiv revE fun j => (dutyTok ER (barC c) 0 j : sProp 𝕄)
  unfold toks payToks
  rw [bigSep_sep', bigSep_sep', bigSep_sep', bigSep_sep', bigSep_sep', bigSep_sep', bigSep_sep', bigSep_sep', hb,
    around (fun c j => (dutyTok ER (dmaC 1 c j) 0 0 : sProp 𝕄)), around (fun c j => (dutyTok ER (dmaC 3 c j) 0 0 : sProp 𝕄))]

/-! ## The records -/

section
variable (I : Ins F)

/-- What each device is dealt before the records are made. -/
def G (c : Dev nD) : sProp 𝕄 :=
  iprop((bigSep Finset.univ fun k : CK => roundState ER (Rd I) (kcell (c, k)) 0)
    ∗ (bigSep Finset.univ fun k : CK => iprop(atPos ER (kcell (c, k)) 0 ∅ 0 ∗ reached ER (kcell (c, k)) 0)) ∗ toks c)

theorem fund_all : BI.own (ER (initOf cells tokens)) ⊢ (|==> bigSep Finset.univ (G I) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => toks_eq c
  iintro HX
  imod (Rounds.fund ER (Rd I) cells tokens) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_bar (c : Dev nD) : (unscopedSems0 c : sProp 𝕄) = semVal (barC c) 0 := by
  unfold unscopedSems0; rw [bigSep_eq_bigSepL_of_eq [SemLoc.reg barS] (by decide +kernel) (by decide)]; rfl

/-- The semaphores of a device at zero: the copies' and the runtime's. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [unscoped_bar, bigSep_CK, bigSep_univ_prod, bigSep_four]
  rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (Rd I) κ (kcell (c, k))))
          ∗ (bigSep Finset.univ fun k : CK => iprop(atPos ER (kcell (c, k)) 0 ∅ 0 ∗ reached ER (kcell (c, k)) 0)) ∗ toks c) := by
  have ha : iprop((bigSep Finset.univ fun k : CK => semVal (kcell (c, k)) 0) ∗ bigSep Finset.univ fun k : CK => roundState ER (Rd I) (kcell (c, k)) 0)
      ⊢ (|={Set.univ}=> bigSep Finset.univ fun k : CK => iprop(∃ κ : ℕ, cellInv ER (Rd I) κ (kcell (c, k))) : sProp 𝕄) := by
    rw [← bigSep_sep']
    exact (bigSep_mono fun k _ => (Rounds.body_intro ER (Rd I) (kcell (c, k))).trans inv_alloc).trans (bigSep_fupd _ _)
  unfold G
  iintro ⟨Hos, Hus, Hst, Hat, Htok⟩
  ihave Hv := (Entails.of_eq (zeros_eq (F := F) c).symm) $$ [Hos Hus]
  · isplitl [Hus] <;> iassumption
  unfold zeros
  imod ha $$ [Hv Hst] with Hinv
  · isplitl [Hv] <;> iassumption
  imodintro
  isplitl [Hinv]; · iexact Hinv
  isplitl [Hat]; · iexact Hat
  iexact Htok

theorem with_all {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CK → ℕ) (c : Dev nD) : iprop(records I K ∗ (posAt c 0 ∗ payToks c)) ⊢ G' I c := by
  unfold G'
  iintro ⟨HR, H⟩
  iexists K
  isplitl [HR]; · iexact HR
  iexact H

theorem regroup :
    (bigSep Finset.univ fun c : Dev nD => iprop((bigSep Finset.univ fun k : CK => iprop(∃ κ : ℕ, cellInv ER (Rd I) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' I) := by
  have hp (c : Dev nD) : (bigSep Finset.univ fun k : CK => (iprop(atPos ER (kcell (c, k)) 0 ∅ 0 ∗ reached ER (kcell (c, k)) 0) : sProp 𝕄))
      = iprop(posAt c 0 ∗ bigSep Finset.univ fun k : CK => reached ER (kcell (c, k)) 0) := by
    rw [bigSep_sep', posAt_eq]
  rw [bigSep_sep', bigSep_sep', ← bigSep_univ_prod (fun ck : Dev nD × CK => iprop(∃ κ : ℕ, cellInv ER (Rd I) κ (kcell ck))),
    bigSep_congr (s := Finset.univ) (fun (c : Dev nD) _ => hp c),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd I) κ (kcell ck) : sProp 𝕄))) $$ HI
  icases HK with ⟨%K, #HI⟩
  ihave Htk := (toks_around (F := F)) $$ Htok
  iapply (with_all (R := records I K) fun c _ => G'_intro I K c)
  isplitr
  · unfold records; isplitl; · iexact HI
    iexact HR
  · iapply (Entails.of_eq (bigSep_sep' Finset.univ (fun c : Dev nD => (posAt c 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))
end

/-! ## The credits -/

theorem kcell_eq_iff {a b : Dev nD × CK} : kcell a = kcell b ↔ a = b := ⟨fun h => kcell_injective h, fun h => h ▸ rfl⟩

theorem Obar_at (d c : Dev nD) (k : CK) : Obar Finset.univ d (kcell (c, k)) () = ∑ j, if c = nx j d ∧ k = none then 1 else 0 := by
  unfold Obar
  rw [Finset.sum_apply, Finsupp.finset_sum_apply]
  refine Finset.sum_congr rfl fun j _ => ?_
  rw [tallyAt_apply]
  exact if_congr (by rw [kcell_eq_iff, Prod.mk.injEq]; exact and_iff_left rfl) rfl rfl
theorem Odma_at (i : Fin 4) (d c : Dev nD) (k : CK) :
    Odma i Finset.univ d (kcell (c, k)) () = ∑ j, if c = nx j d ∧ k = some (i, j) then N else 0 := by
  unfold Odma
  rw [Finset.sum_apply, Finsupp.finset_sum_apply]
  refine Finset.sum_congr rfl fun j _ => ?_
  rw [tallyAt_apply]
  exact if_congr (by rw [kcell_eq_iff, Prod.mk.injEq]; exact and_iff_left rfl) rfl rfl

theorem eq_nx_iff (j : Fin 31) (c d : Dev nD) : c = nx j d ↔ d = pv j c :=
  ⟨fun h => by rw [h, pv_nx], fun h => by rw [h, nx_pv]⟩

/-- Each place is owed by one device. -/
theorem sum_owed (c : Dev nD) (p : Fin 31 → Prop) [DecidablePred p] (n : ℕ) :
    (∑ d : Dev nD, ∑ j : Fin 31, if c = nx j d ∧ p j then n else 0) = ∑ j : Fin 31, if p j then n else 0 := by
  rw [Finset.sum_comm]
  refine Finset.sum_congr rfl fun j _ => ?_
  by_cases h : p j
  · have e (d : Dev nD) : (if c = nx j d ∧ p j then n else 0) = if d = pv j c then n else 0 :=
      if_congr ((and_iff_left h).trans (eq_nx_iff j c d)) rfl rfl
    rw [if_pos h, Finset.sum_congr rfl fun d _ => e d, Finset.sum_ite_eq' Finset.univ (pv j c) fun _ => n, if_pos (Finset.mem_univ _)]
  · rw [if_neg h]
    exact Finset.sum_eq_zero fun d _ => if_neg fun h' => h h'.2

theorem owed_at (c : Dev nD) (k : CK) : (∑ d : Dev nD, O₀ d (kcell (c, k)) ()) =
    (∑ j : Fin 31, if k = none then 1 else 0) + ((∑ j : Fin 31, if k = some (1, j) then N else 0) + ∑ j : Fin 31, if k = some (3, j) then N else 0) := by
  unfold O₀
  simp only [Pi.add_apply, Finsupp.add_apply, Finset.sum_add_distrib, Obar_at, Odma_at, sum_owed]

theorem launch_at (c : Dev nD) (k : CK) (n : ℕ)
    (h : (∑ j : Fin 31, if k = none then 1 else 0) + ((∑ j : Fin 31, if k = some (1, j) then N else 0) + ∑ j : Fin 31, if k = some (3, j) then N else 0) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_at, h]

theorem sum_one (i : Fin 4) (i' : Fin 4) (j : Fin 31) : (∑ j' : Fin 31, if (some (i, j) : CK) = some (i', j') then N else 0) = if i = i' then N else 0 := by
  by_cases h : i = i'
  · subst h
    rw [if_pos rfl, Finset.sum_congr rfl fun j' _ => if_congr (show (some (i, j) : CK) = some (i, j') ↔ j = j' by simp) rfl rfl,
      Finset.sum_ite_eq Finset.univ j fun _ => N, if_pos (Finset.mem_univ _)]
  · rw [if_neg h]
    exact Finset.sum_eq_zero fun j' _ => if_neg fun h' => h (congrArg Prod.fst (Option.some.inj h'))

theorem launch_bar (c : Dev nD) : tallyOn (barC c) (launchCredit (Pipeline.owing O₀) 0 (barC c)) = (tallyAt (barC c) () 31 : CellTallies nD τ sig Unit) :=
  launch_at c none 31 (by simp)
theorem launch_dma (c : Dev nD) (i : Fin 4) (hi : i = 1 ∨ i = 3) (j : Fin 31) :
    tallyOn (dmaC i c j) (launchCredit (Pipeline.owing O₀) 0 (dmaC i c j)) = (tallyAt (dmaC i c j) () N : CellTallies nD τ sig Unit) :=
  launch_at c _ N (by
    rw [sum_one, sum_one, Finset.sum_congr rfl fun j' _ => if_neg (show ¬(some (i, j) : CK) = none by simp), Finset.sum_const_zero, Nat.zero_add]
    rcases hi with rfl | rfl <;> rfl)

theorem drop_two (A B C D E : sProp 𝕄) : iprop(A ∗ B ∗ C ∗ D ∗ E) ⊢ iprop(A ∗ C ∗ E) := by
  iintro ⟨HA, -, HC, -, HE⟩
  isplitl [HA]; · iexact HA
  isplitl [HC]; · iexact HC
  iexact HE

theorem creds (c : Dev nD) : (Pipeline.launchCred O₀ c : sProp 𝕄) ⊢ credsAt c := by
  unfold Pipeline.launchCred
  refine (bigSep_subset (t := Finset.univ.map ⟨csem, csem_injective⟩) (Finset.subset_univ _)).trans ?_
  rw [bigSep_map, bigSep_CK]
  have e1 : (bigSep Finset.univ fun j : Fin 31 => (cred (tallyOn (dmaC 1 c j) (launchCredit (Pipeline.owing O₀) 0 (dmaC 1 c j))) : sProp 𝕄))
      = bigSep Finset.univ fun j => cred (tallyAt (dmaC 1 c j) () N) := bigSep_congr fun j _ => by rw [launch_dma c 1 (Or.inl rfl) j]
  have e3 : (bigSep Finset.univ fun j : Fin 31 => (cred (tallyOn (dmaC 3 c j) (launchCredit (Pipeline.owing O₀) 0 (dmaC 3 c j))) : sProp 𝕄))
      = bigSep Finset.univ fun j => cred (tallyAt (dmaC 3 c j) () N) := bigSep_congr fun j _ => by rw [launch_dma c 3 (Or.inr rfl) j]
  have e0 : (cred (tallyOn (barC c) (launchCredit (Pipeline.owing O₀) 0 (barC c))) : sProp 𝕄) = cred (tallyAt (barC c) () 31) := by rw [launch_bar]
  unfold credsAt
  rw [← e0, ← e1, ← e3]
  exact drop_two _ _ _ _ _

/-! ## The run -/

section
variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem bufs_eq (c : Dev nD) : (Pipeline.scopedRest (Ix := Unit) (Name := ℕ) (U := UU) (Lvl := ℕ) (Val := Elt F) cfg0.spec c : sProp 𝕄) = bufs c :=
  scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  rw [zeros_eq]
  iintro ⟨Hr, HB, HO⟩
  isplitl [HB]; · iexact HB
  isplitl [HO]; · iexact HO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- How a device's arrays end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The whole run: it ends, every array as computed, every counter at zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage) (hshare := ?hshare)
    (hdistinct := ?hdistinct)
    (O₀ := O₀) (howed₀ := ?howed0) (howedN := ?howedN)
    (L := L) (lv := lv) (hL := ?hL) (hwaits := ?hwaits)
    (G := G (insOf m ρ)) (G' := G' (insOf m ρ)) (u₀ := u₀)
    (hu₀ := ?hu0)
    (hglob := ?hglob)
    (hA := ?hA) (hpf := ?hpf)
    (X := start m ρ) (Y := fun c => unscopedSems0 c) (Z := fun _ => iprop(emp))
    (hX := ?hX) (hin := ?hin) (hout := ?hout)
    (QY := fun c s => ∀ sm : SemLoc sig, sm.isScoped .tc = false → s.sem ((c.tc : Thread nD τ), sm) = 0)
    (hY := ?hY)
    (hQ := ?hQ)
  case hmain => exact fun _ => rfl
  case hne => exact fun w => by fin_cases w <;> exact Nat.succ_pos _
  case harr => exact arr_whole0
  case hstage => exact stage_whole0
  case hshare => exact share_eq m ρ
  case hdistinct => exact winFacts0.arr_inj
  case howed0 => exact fun _ => rfl
  case howedN => exact fun _ => rfl
  case hL => exact L_of_ne
  case hA => exact fun _ _ => rfl
  case hpf => exact fun _ k => k.elim0
  case hQ => exact fun _ h hs => ⟨fun c w => (h c).1 w, sem_eq_zero hs fun c => (h c).2.2⟩
  case hwaits => exact waits m ρ
  case hu0 =>
    unfold u₀
    iintro Hu
    ihave H := (ownU_pair _ _) $$ Hu
    icases H with ⟨HP, HX⟩
    imod (fund_all (insOf m ρ)) $$ HX with HG
    imodintro
    isplitl [HP] <;> iassumption
  case hglob => exact glob (insOf m ρ)
  case hX => exact start_intro m ρ
  case hin => exact phi0_intro m ρ
  case hout => exact phi1_exit m ρ
  case hbody => intro c; exact (body_obligation m ρ c).loose
  case hY =>
    intro c s'
    iintro ⟨Hu, -, HSI⟩
    iapply (Pipeline.unscopedSems0_read (X := unscopedSems0 c) (c := c) fupd_intro s')
    isplitl [Hu] <;> iassumption

end

end Cert.KernelIdeal.Gen

end
-- ==== Proof.Frames.lean ====
/-
What the runs leave in the arrays: every argument as it was, the result as the body left it, every semaphore at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.KernelIdeal.Gen

open Idealize.ShloMosaic Idealize.ShloMosaic.TcCoe Idealize.SL.Sem

variable {F : FTy → Type} [FloatOps F]

section

variable (m : (ℓ : Loc nD τ sig) → Buf (Elt F) ℓ) (ρ : Dev nD → PrngReg)

/-- An argument's array after the run holds what it held. -/
theorem finalA_in (c : Dev nD) (w : Fin 6) (hw : (cfg0.win w).isOut = false) :
    finalA m ρ c w = (s₀ m ρ).mem ((cfg0.win w).arr.view.loc (c : Thread nD τ)) :=
  (dats (F := F) m ρ 0 c).arrAt_in w hw _

/-- The result's array after the run, read back whole, is what the body left in its staging buffer. -/
theorem finalA_out (c : Dev nD) :
    (win0_5.blk (0 : Fin 1)).view.read (Elt F) (finalA m ρ c (5 : Fin 6)) = OUT (insOf m ρ) c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The run, with every argument as it was and every counter at zero. -/
theorem run_args : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
    ⟨(h.1 c (0 : Fin 6)).trans (finalA_in m ρ c 0 rfl), (h.1 c (1 : Fin 6)).trans (finalA_in m ρ c 1 rfl),
      (h.1 c (2 : Fin 6)).trans (finalA_in m ρ c 2 rfl), (h.1 c (3 : Fin 6)).trans (finalA_in m ρ c 3 rfl),
      (h.1 c (4 : Fin 6)).trans (finalA_in m ρ c 4 rfl)⟩, h.2⟩) (run_main m ρ)

end

theorem frame_ideal : Cert.quiescent_KernelIdeal := by
  intro m ρ _
  exact run_args (F := Ideal) m ρ

set_option maxRecDepth 65536 in
theorem bodies_eq : Cert.Kernel.defs₀ (F := F) = defs₀ (F := F) := by
  unfold Cert.Kernel.defs₀ defs₀
  congr 1
  funext l a
  match l, a with
  | 0, (_, _) => rfl
  | ⟨_ + 1, h⟩, _ => exact absurd h (Nat.not_lt.2 (Nat.le_add_left _ _))
theorem main_eq : Cert.Kernel.main (F := F) = main (F := F) := rfl
theorem defs_eq : Cert.Kernel.defs (F := F) = defs (F := F) := congrArg (Pipeline.defs pcfgs) bodies_eq

/-- The program as printed and the idealized one are one program: the run is the same at the machine's floats. -/
theorem frame_bits : Cert.quiescent_Kernel := by
  intro m ρ _
  have e : ∀ D D' : Defs nD τ sig (Elt Bits) (Pipeline.Sig Λ₀ (Fin 1) fun p => (pcfgs (F := Bits) p).Adm), D' = D → ∀ Q : PUnit × MemSt nD τ sig (Elt Bits) → Prop,
      θ_run D (onTc (τ := τ) (main (F := Bits))) (s₀ m ρ) Q → θ_run D' (onTc (τ := τ) (main (F := Bits))) (s₀ m ρ) Q := by
    intro D D' h Q hQ; subst h; exact hQ
  exact e _ _ defs_eq _ (run_args (F := Bits) m ρ)

/-- The reference's one device: its arguments are not written, and it declares no semaphore. -/
theorem frame_ref : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.KernelIdeal.Gen

end
-- ==== Proof.Spec.lean ====
/-
Attention over the whole arrays, entry by entry, and the reference read as that.
-/
module

public import proofs.«01_k».proof.Proof.Gen.ReferenceIdeal.Run
public import Idealize.ShloMosaic.Lib.Pointwise

@[expose] public section

noncomputable section

namespace Cert.Attn

open Idealize.ShloMosaic

/-! ## The mathematics -/

/-- A one-head softmax average: `s t` the scores of one query, `v t` one column of the values. -/
def soft (s v : Fin 2048 → EReal) : EReal :=
  Ideal.div (∑ t, Ideal.exp (s t - Finset.univ.fold max (Ideal.ofBits .f32 0xFF800000#32) s) * v t)
    (∑ t, Ideal.exp (s t - Finset.univ.fold max (Ideal.ofBits .f32 0xFF800000#32) s))

/-- The arguments, whole. -/
structure Args where
  x : Fin 512 → Fin 1024 → EReal
  wq : Fin 1024 → Fin 32768 → EReal
  wo : Fin 32768 → Fin 1024 → EReal
  k : Fin 64 → Fin 2048 → Fin 128 → EReal
  v : Fin 64 → Fin 2048 → Fin 128 → EReal

variable (A : Args)

/-- Column `d` of head `h`. -/
def col (h : Fin 256) (d : Fin 128) : Fin 32768 := ⟨h.val * 128 + d.val, by omega⟩
/-- Four heads share one key and value head. -/
def kvOf (h : Fin 256) : Fin 64 := ⟨h.val / 4, by omega⟩

def qry (r : Fin 512) (p : Fin 32768) : EReal := ∑ k, A.x r k * A.wq k p
def score (h : Fin 256) (r : Fin 512) (t : Fin 2048) : EReal :=
  (∑ d, qry A r (col h d) * A.k (kvOf h) t d) * Ideal.ofBits .f32 0x3DB504F3#32
def head (h : Fin 256) (r : Fin 512) (d : Fin 128) : EReal := soft (score A h r) fun t => A.v (kvOf h) t d

/-- Column `p` of the heads' outputs side by side. -/
def wide (r : Fin 512) (p : Fin 32768) : EReal := head A ⟨p.val / 128, by omega⟩ r ⟨p.val % 128, Nat.mod_lt _ (by decide)⟩
def result (r : Fin 512) (n : Fin 1024) : EReal := ∑ p, wide A r p * A.wo p n

end Cert.Attn

namespace Cert.ReferenceIdeal.Value

open Cert.ReferenceIdeal Cert.ReferenceIdeal.Gen Idealize.ShloMosaic Cert.Attn

def refQ (x : FVec Ideal S512x1024 .f32) (wq : FVec Ideal S1024x32768 .f32) : FVec Ideal S512x256x128 .f32 :=
  shapeCast _ (Host.dotGeneral dot_S512x1024_S1024x32768_S512x32768_1_0_0_1_n_n none x wq) shapeCasts_S512x32768_S512x256x128
def refKv (k : FVec Ideal S64x2048x128 .f32) : FVec Ideal S256x2048x128 .f32 :=
  shapeCast _ (broadcastInDim S64x4x2048x128 ![0, 2, 3] bcast_S64x2048x128_S64x4x2048x128_0_2_3 k) shapeCasts_S64x4x2048x128_S256x2048x128
def refS (q : FVec Ideal S512x256x128 .f32) (k : FVec Ideal S256x2048x128 .f32) : FVec Ideal S256x512x2048 .f32 :=
  mulf (Host.dotGeneral dot_S512x256x128_S256x2048x128_S256x512x2048_2_2_0_1_1_0 none q k)
    (broadcastInDim S256x512x2048 ![] bcast_S_S256x512x2048 (constant S_ .f32 0x3DB504F3#32))
def refE (s : FVec Ideal S256x512x2048 .f32) : FVec Ideal S256x512x2048 .f32 :=
  Host.exp (subf s (broadcastInDim S256x512x2048 ![0, 1, 2] bcast_S256x512x1_S256x512x2048_0_1_2
    (broadcastInDim S256x512x1 ![0, 1] bcast_S256x512_S256x512x1_0_1
      (Host.reduce FloatOps.maximumf s (constant S_ .f32 0xFF800000#32) reducesTo_S256x512x2048_S256x512_d2 h_S_))))
def refH (e : FVec Ideal S256x512x2048 .f32) (v : FVec Ideal S256x2048x128 .f32) : FVec Ideal S256x512x128 .f32 :=
  Host.divf (Host.dotGeneral dot_S256x512x2048_S256x2048x128_S256x512x128_2_1_1_2_0_0 none e v)
    (broadcastInDim S256x512x128 ![0, 1, 2] bcast_S256x512x1_S256x512x128_0_1_2
      (broadcastInDim S256x512x1 ![0, 1] bcast_S256x512_S256x512x1_0_1
        (Host.reduceAdd e (constant S_ .f32 0x00000000#32) reducesTo_S256x512x2048_S256x512_d2 h_S_)))
def refO (o : FVec Ideal S256x512x128 .f32) (wo : FVec Ideal S32768x1024 .f32) : FVec Ideal S512x1024 .f32 :=
  Host.dotGeneral dot_S512x32768_S32768x1024_S512x1024_1_0_0_1_n_n none
    (shapeCast _ (transpose S512x256x128 [1, 0, 2] o transposes_S256x512x128_S512x256x128_1_0_2) shapeCasts_S512x256x128_S512x32768) wo

/-- The reference's function. -/
def REF (x : FVec Ideal S512x1024 .f32) (wq : FVec Ideal S1024x32768 .f32) (wo : FVec Ideal S32768x1024 .f32)
    (k v : FVec Ideal S64x2048x128 .f32) : FVec Ideal S512x1024 .f32 :=
  refO (refH (refE (refS (refQ x wq) (refKv k))) (refKv v)) wo

set_option maxRecDepth 16384

theorem refQ_apply (x : FVec Ideal S512x1024 .f32) (wq : FVec Ideal S1024x32768 .f32) (r : Fin 512) (h : Fin 256) (d : Fin 128) :
    refQ x wq (ix3 r h d) = ∑ k : Fin 1024, x (ix2 r k) * wq (ix2 k (col h d)) := by
  pointwise [refQ, col]

theorem refKv_apply (k : FVec Ideal S64x2048x128 .f32) (h : Fin 256) (t : Fin 2048) (d : Fin 128) :
    refKv k (ix3 h t d) = k (ix3 (kvOf h) t d) := by
  pointwise [refKv, kvOf]

theorem refS_apply (q : FVec Ideal S512x256x128 .f32) (k : FVec Ideal S256x2048x128 .f32) (h : Fin 256) (r : Fin 512) (t : Fin 2048) :
    refS q k (ix3 h r t) = (∑ d : Fin 128, q (ix3 r h d) * k (ix3 h t d)) * Ideal.ofBits .f32 0x3DB504F3#32 := by
  pointwise [refS]

theorem refE_apply (s : FVec Ideal S256x512x2048 .f32) (h : Fin 256) (r : Fin 512) (t : Fin 2048) :
    refE s (ix3 h r t) = Ideal.exp (s (ix3 h r t) - Finset.univ.fold max (Ideal.ofBits .f32 0xFF800000#32) fun t' : Fin 2048 => s (ix3 h r t')) := by
  pointwise [refE]

theorem refH_apply (e : FVec Ideal S256x512x2048 .f32) (v : FVec Ideal S256x2048x128 .f32) (h : Fin 256) (r : Fin 512) (d : Fin 128) :
    refH e v (ix3 h r d) = Ideal.div (∑ t : Fin 2048, e (ix3 h r t) * v (ix3 h t d)) (∑ t : Fin 2048, e (ix3 h r t)) := by
  pointwise [refH]

theorem refO_apply (o : FVec Ideal S256x512x128 .f32) (wo : FVec Ideal S32768x1024 .f32) (r : Fin 512) (n : Fin 1024) :
    refO o wo (ix2 r n) = ∑ p : Fin 32768, o (ix3 ⟨p.val / 128, by omega⟩ r ⟨p.val % 128, Nat.mod_lt _ (by decide)⟩) * wo (ix2 p n) := by
  pointwise [refO]

/-- The arguments by their entries. -/
def argsOf (x : FVec Ideal S512x1024 .f32) (wq : FVec Ideal S1024x32768 .f32) (wo : FVec Ideal S32768x1024 .f32)
    (k v : FVec Ideal S64x2048x128 .f32) : Args :=
  ⟨fun r c => x (ix2 r c), fun r c => wq (ix2 r c), fun r c => wo (ix2 r c), fun h t d => k (ix3 h t d), fun h t d => v (ix3 h t d)⟩

theorem REF_apply (x : FVec Ideal S512x1024 .f32) (wq : FVec Ideal S1024x32768 .f32) (wo : FVec Ideal S32768x1024 .f32)
    (k v : FVec Ideal S64x2048x128 .f32) (r : Fin 512) (n : Fin 1024) :
    REF x wq wo k v (ix2 r n) = result (argsOf x wq wo k v) r n := by
  unfold REF
  rw [refO_apply]
  simp only [refH_apply, refE_apply, refS_apply, refQ_apply, refKv_apply]
  rfl

end Cert.ReferenceIdeal.Value

end
-- ==== Proof.Value.lean ====
/-
The value: with exact arithmetic every device's result is the attention of the whole arrays.

A device's heads and its rows of the output matrix are a contiguous range of the whole arrays', so the sum over the
devices of the partial products is the reference's one sum, cut in 32 parts.
-/
module

public import proofs.«01_k».proof.Proof.Blocks
public import proofs.«01_k».proof.Proof.Spec
public import Idealize.ShloMosaic.Lib.Pointwise

@[expose] public section

noncomputable section

namespace Cert.KernelIdeal.Gen

open Idealize.ShloMosaic Idealize.ShloMosaic.TcCoe Cert.Attn

set_option maxRecDepth 16384

/-! ## One block of query rows -/

/-- Column `d` of head `h` on a device. -/
def lcol (h : Fin 8) (d : Fin 128) : Fin 1024 := ⟨128 * h.val + d.val, by omega⟩

theorem qVal_apply (x : FVec Ideal S128x1024 .f32) (wq : FVec Ideal S1024x1024 .f32) (r : Fin 128) (n : Fin 1024) :
    qVal x wq (ix2 r n) = ∑ k : Fin 1024, x (ix2 r k) * wq (ix2 k n) := by
  pointwise [qVal]

theorem slice_apply (q : FVec Ideal S128x1024 .f32) (h : Fin 8) (r d : Fin 128) :
    extractStridedSlice S128x128 ![0, 128 * h.val] q (slicesHead h) (ix2 r d) = q (ix2 r (lcol h d)) := by
  pointwise [lcol]

theorem sVal_apply (q : FVec Ideal S128x128 .f32) (k : FVec Ideal S1x2048x128 .f32) (r : Fin 128) (t : Fin 2048) :
    sVal q k (ix2 r t) = (∑ d : Fin 128, q (ix2 r d) * k (ix3 0 t d)) * Ideal.ofBits .f32 0x3DB504F3#32 := by
  pointwise [sVal]

theorem eVal_apply (s : FVec Ideal S128x2048 .f32) (r : Fin 128) (t : Fin 2048) :
    eVal s (ix2 r t) = Ideal.exp (s (ix2 r t) - Finset.univ.fold max (Ideal.ofBits .f32 0xFF800000#32) fun t' : Fin 2048 => s (ix2 r t')) := by
  pointwise [eVal]

theorem oVal_apply (e : FVec Ideal S128x2048 .f32) (v : FVec Ideal S1x2048x128 .f32) (r d : Fin 128) :
    oVal e v (ix2 r d) = Ideal.div (∑ t : Fin 2048, e (ix2 r t) * v (ix3 0 t d)) (∑ t : Fin 2048, e (ix2 r t)) := by
  pointwise [oVal]

theorem headVal_apply (q : FVec Ideal S128x1024 .f32) (h : Fin 8) (k v : FVec Ideal S1x2048x128 .f32) (r d : Fin 128) :
    headVal q h k v (ix2 r d)
      = soft (fun t => (∑ d' : Fin 128, q (ix2 r (lcol h d')) * k (ix3 0 t d')) * Ideal.ofBits .f32 0x3DB504F3#32) fun t => v (ix3 0 t d) := by
  unfold headVal
  rw [oVal_apply]
  simp only [eVal_apply, sVal_apply, slice_apply]
  rfl

theorem sum_lcols (f : Fin 1024 → EReal) : ∑ p, f p = ∑ h : Fin 8, ∑ d : Fin 128, f (lcol h d) := by
  rw [← Finset.sum_product', Finset.univ_product_univ]
  refine (Fintype.sum_equiv (finProdFinEquiv (m := 8) (n := 128)) _ _ fun x => ?_).symm
  congr 1
  exact Fin.ext (show 128 * x.1.val + x.2.val = x.2.val + 128 * x.1.val by omega)

/-- The heads side by side, read at column `d` of head `h`. -/
theorem concat_apply (a : Fin 8 → FVec Ideal S128x128 .f32) (r : Fin 128) (h : Fin 8) (d : Fin 128) :
    (concatenate S128x1024 1 [⟨S128x128, a 0⟩, ⟨S128x128, a 1⟩, ⟨S128x128, a 2⟩, ⟨S128x128, a 3⟩, ⟨S128x128, a 4⟩, ⟨S128x128, a 5⟩, ⟨S128x128, a 6⟩, ⟨S128x128, a 7⟩]
      concatenates_S128x128_S128x128_S128x128_S128x128_S128x128_S128x128_S128x128_S128x128_S128x1024_d1 : FVec Ideal S128x1024 .f32) (ix2 r (lcol h d)) = a h (ix2 r d) := by
  have hd := d.isLt
  pointwise [lcol]
  have hh : h.val = 0 ∨ h.val = 1 ∨ h.val = 2 ∨ h.val = 3 ∨ h.val = 4 ∨ h.val = 5 ∨ h.val = 6 ∨ h.val = 7 := by omega
  repeat' split
  all_goals
    have e : ∀ (h' : Fin 8) (q : Fin 128), h' = h → q = d → a h' (ix2 r q) = a h (ix2 r d) := by
      intro h' q e1 e2; rw [e1, e2]
    refine e _ _ (Fin.ext ?_) (Fin.ext ?_)
  all_goals simp only [Fin.val_zero, Fin.val_one, Fin.coe_ofNat_eq_mod] <;> omega

theorem pVal_apply (a : Fin 8 → FVec Ideal S128x128 .f32) (wo : FVec Ideal S1024x1024 .f32) (r : Fin 128) (n : Fin 1024) :
    pVal a wo (ix2 r n) = ∑ h : Fin 8, ∑ d : Fin 128, a h (ix2 r d) * wo (ix2 (lcol h d) n) := by
  have e : ∀ w : FVec Ideal S128x1024 .f32, matmul dot_S128x1024_S1024x1024_S128x1024_1_0_0_1_n_n none w
      (shapeCast S1024x1024 wo shapeCasts_S1024x1024_S1024x1024) (constant S128x1024 .f32 0x00000000#32) (ix2 r n)
        = ∑ p : Fin 1024, w (ix2 r p) * wo (ix2 p n) := by
    intro w; pointwise
  unfold pVal
  rw [e, sum_lcols]
  simp only [concat_apply]

/-! ## The parts of the whole arrays -/

/-- Head `h` of device `c`, among all. -/
def gh (c : Fin 32) (h : Fin 8) : Fin 256 := ⟨8 * c.val + h.val, by omega⟩
def gcol (c : Fin 32) (p : Fin 1024) : Fin 32768 := ⟨1024 * c.val + p.val, by omega⟩
def gkv (c : Fin 32) (g : Fin 2) : Fin 64 := ⟨2 * c.val + g.val, by omega⟩

/-- The devices hold the parts of the whole arrays. -/
structure Parts (I : Ins Ideal) (A : Args) : Prop where
  x : ∀ (c : Fin 32) r p, I.x c (ix2 r p) = A.x r p
  wq : ∀ (c : Fin 32) r p, I.wq c (ix2 r p) = A.wq r (gcol c p)
  wo : ∀ (c : Fin 32) p n, I.wo c (ix2 p n) = A.wo (gcol c p) n
  k : ∀ (c : Fin 32) g t d, I.k c (ix3 g t d) = A.k (gkv c g) t d
  v : ∀ (c : Fin 32) g t d, I.v c (ix3 g t d) = A.v (gkv c g) t d

/-- Row `r` of block `b`. -/
def brow (b : Fin 4) (r : Fin 128) : Fin 512 := ⟨128 * b.val + r.val, by omega⟩

theorem xRd_apply (I : Ins Ideal) (c : Dev nD) (b : Fin 4) (r : Fin 128) (p : Fin 1024) :
    xRd I c b (ix2 r p) = I.x c (ix2 (brow b r) p) := by
  show I.x c ((blkR b).emb (ix2 r p)) = _
  congr 1
  refine Shape.idx_ext₂ ?_ ?_
  · show 128 * b.val + 1 * r.val = 128 * b.val + r.val; omega
  · show 0 + 1 * p.val = p.val; omega

theorem wqRd_apply (I : Ins Ideal) (c : Dev nD) (r p : Fin 1024) : wqRd I c (ix2 r p) = I.wq c (ix2 r p) := by
  show I.wq c (whole1024.emb (ix2 r p)) = _
  congr 1
  refine Shape.idx_ext₂ ?_ ?_
  · show 0 + 1 * r.val = r.val; omega
  · show 0 + 1 * p.val = p.val; omega

theorem woRd_apply (I : Ins Ideal) (c : Dev nD) (r p : Fin 1024) : woRd I c (ix2 r p) = I.wo c (ix2 r p) := by
  show I.wo c (whole1024.emb (ix2 r p)) = _
  congr 1
  refine Shape.idx_ext₂ ?_ ?_
  · show 0 + 1 * r.val = r.val; omega
  · show 0 + 1 * p.val = p.val; omega

theorem kvR_emb (g : Fin 2) (t : Fin 2048) (d : Fin 128) : (kvR g).emb (ix3 0 t d) = ix3 g t d := by
  funext a
  match a with
  | ⟨0, _⟩ => exact Fin.ext (show g.val + 1 * 0 = g.val by omega)
  | ⟨1, _⟩ => exact Fin.ext (show 0 + 1 * t.val = t.val by omega)
  | ⟨2, _⟩ => exact Fin.ext (show 0 + 1 * d.val = d.val by omega)

theorem kRd_apply (I : Ins Ideal) (c : Dev nD) (g : Fin 2) (t : Fin 2048) (d : Fin 128) : kRd I c g (ix3 0 t d) = I.k c (ix3 g t d) :=
  congrArg (I.k c) (kvR_emb g t d)
theorem vRd_apply (I : Ins Ideal) (c : Dev nD) (g : Fin 2) (t : Fin 2048) (d : Fin 128) : vRd I c g (ix3 0 t d) = I.v c (ix3 g t d) :=
  congrArg (I.v c) (kvR_emb g t d)

/-- The group of a local head. -/
def lkv (h : Fin 8) : Fin 2 := ⟨h.val / 4, by omega⟩

theorem gkv_lkv (c : Fin 32) (h : Fin 8) : gkv c (lkv h) = kvOf (gh c h) :=
  Fin.ext (show 2 * c.val + h.val / 4 = (8 * c.val + h.val) / 4 by omega)
theorem gcol_lcol (c : Fin 32) (h : Fin 8) (d : Fin 128) : gcol c (lcol h d) = col (gh c h) d :=
  Fin.ext (show 1024 * c.val + (128 * h.val + d.val) = (8 * c.val + h.val) * 128 + d.val by omega)

/-! ## The partial products -/

section

variable {I : Ins Ideal} {A : Args} (P : Parts I A)
include P

theorem hdV_apply (c : Dev nD) (b : Fin 4) (h : Fin 8) (r d : Fin 128) :
    hdV I c b h (lkv h) (ix2 r d) = head A (gh c h) (brow b r) d := by
  unfold hdV
  rw [headVal_apply]
  simp only [qVal_apply, xRd_apply, wqRd_apply, kRd_apply, vRd_apply, P.x, P.wq, P.k, P.v, gkv_lkv, gcol_lcol]
  rfl

theorem blkV_apply (c : Dev nD) (b : Fin 4) (r : Fin 128) (n : Fin 1024) :
    blkV I c b (ix2 r n) = ∑ h : Fin 8, ∑ d : Fin 128, head A (gh c h) (brow b r) d * A.wo (col (gh c h) d) n := by
  have e : blkV I c b = pVal (fun h => hdV I c b h (lkv h)) (woRd I c) := by
    unfold blkV; congr 1; funext h; fin_cases h <;> rfl
  rw [e, pVal_apply]
  simp only [hdV_apply P, woRd_apply, P.wo, gcol_lcol]

/-- Device `c`'s share of a result entry. -/
def share (A : Args) (c : Fin 32) (r : Fin 512) (n : Fin 1024) : EReal :=
  ∑ h : Fin 8, ∑ d : Fin 128, head A (gh c h) r d * A.wo (col (gh c h) d) n

theorem PF_apply (c : Dev nD) (r : Fin 512) (n : Fin 1024) : PF I c (ix2 r n) = share A c r n := by
  have e : PF I c (ix2 r n) = blkV I c (blkOf (ix2 r n)) (inBlk (ix2 r n)) := by
    unfold PF; rw [shapeCast_self]
  have hr : brow (blkOf (ix2 r n)) ⟨r.val % 128, Nat.mod_lt _ (by decide)⟩ = r :=
    Fin.ext (show 128 * (r.val / 128) + r.val % 128 = r.val by omega)
  rw [e]
  refine (blkV_apply P c _ ⟨r.val % 128, Nat.mod_lt _ (by decide)⟩ n).trans ?_
  rw [hr]; rfl

theorem PB_apply (c : Dev nD) (r : Fin 512) (n : Fin 1024) : PB I c (ix2 r n) = share A c r n :=
  (show PB I c (ix2 r n) = PF I c (ix2 r n) from rfl).trans (PF_apply P c r n)

/-! ## The sum over the devices -/

omit P in
theorem fold_apply (c : Dev nD) (l : List (Fin 31)) (a : FVec Ideal S16x1024 .f32) (r : Fin 16) (n : Fin 1024) :
    l.foldl (accStep I c) a (ix2 r n) = a (ix2 r n) + (l.map fun j => PB I (pv j c) (rowIx c r n)).sum := by
  induction l generalizing a with
  | nil => simp
  | cons j l ih =>
    have hs : accStep I c a j (ix2 r n) = a (ix2 r n) + PB I (pv j c) (rowIx c r n) := by
      have hv : accStep I c a j = accVal a fun x => RSV I c ((slotRect j).emb x) := rfl
      rw [hv]
      have h2 : ∀ w : FVec Ideal S1x16x1024 .bf16, accVal a w (ix2 r n) = a (ix2 r n) + w (ix3 0 r n) := by
        intro w; pointwise [accVal]
      rw [h2, slot_emb]; rfl
    rw [List.foldl_cons, ih, hs, List.map_cons, List.sum_cons, add_assoc]

omit P in
theorem sum_places (f : Fin 31 → EReal) : (places.map f).sum = ∑ j, f j := by
  have h : places = List.finRange 31 := by decide
  rw [h, ← List.ofFn_eq_map, List.sum_ofFn]

omit P in
theorem sum_dev (c : Dev nD) (f : Dev nD → EReal) : f c + ∑ j, f (pv j c) = ∑ s, f s := by
  rw [dev_univ' c, Finset.sum_insert (by
    simp only [Finset.mem_map, Finset.mem_univ, Function.Embedding.coeFn_mk, true_and, not_exists]
    exact fun j h => pv_ne j c h), Finset.sum_map]
  rfl

/-- Row `r` of chunk `c`. -/
def crow (c : Fin 32) (r : Fin 16) : Fin 512 := ⟨16 * c.val + r.val, by omega⟩

theorem ACC_apply (c : Dev nD) (r : Fin 16) (n : Fin 1024) : ACC I c (ix2 r n) = ∑ s : Fin 32, share A s (crow c r) n := by
  have h0 : acc0 I c (ix2 r n) = PF I c (rowIx c r n) := congrArg (PF I c) (rows_emb (off125_eq c) (ix2 r n))
  unfold ACC
  rw [fold_apply, sum_places, h0]
  exact (congrArg₂ (· + ·) (PF_apply P c (crow c r) n) (Finset.sum_congr rfl fun j _ => PB_apply P (pv j c) (crow c r) n)).trans
    (sum_dev c fun s => share A s (crow c r) n)

theorem OUT_apply (c : Dev nD) (r : Fin 512) (n : Fin 1024) : OUT I c (ix2 r n) = ∑ s : Fin 32, share A s r n := by
  have key : ACC I (chk (ix2 r n)) (inChk (ix2 r n)) = ∑ s : Fin 32, share A s r n := by
    have hr : crow (chk (ix2 r n)) ⟨r.val % 16, Nat.mod_lt _ (by decide)⟩ = r :=
      Fin.ext (show 16 * (r.val / 16) + r.val % 16 = r.val by omega)
    refine (ACC_apply P _ ⟨r.val % 16, Nat.mod_lt _ (by decide)⟩ n).trans ?_
    rw [hr]
  unfold OUT
  split
  · next h => rw [← h]; exact key
  · next h =>
    have e : AG I (rowIx (chk (ix2 r n)) (inChk (ix2 r n) 0) (inChk (ix2 r n) 1)) = ACC I (chk (ix2 r n)) (inChk (ix2 r n)) := by
      rw [rowIx_chk]; unfold AG; rw [shapeCast_self]; rfl
    exact e.trans key

end

/-! ## The reference's sum, cut by devices and heads -/

theorem sum_cols (f : Fin 32768 → EReal) : ∑ p, f p = ∑ H : Fin 256, ∑ d : Fin 128, f (col H d) := by
  rw [← Finset.sum_product', Finset.univ_product_univ]
  refine (Fintype.sum_equiv (finProdFinEquiv (m := 256) (n := 128)) _ _ fun x => ?_).symm
  congr 1
  exact Fin.ext (show x.1.val * 128 + x.2.val = x.2.val + 128 * x.1.val by omega)

theorem sum_heads (f : Fin 256 → EReal) : ∑ H, f H = ∑ c : Fin 32, ∑ h : Fin 8, f (gh c h) := by
  rw [← Finset.sum_product', Finset.univ_product_univ]
  refine (Fintype.sum_equiv (finProdFinEquiv (m := 32) (n := 8)) _ _ fun x => ?_).symm
  congr 1
  exact Fin.ext (show 8 * x.1.val + x.2.val = x.2.val + 8 * x.1.val by omega)

theorem wide_col (A : Args) (r : Fin 512) (H : Fin 256) (d : Fin 128) : wide A r (col H d) = head A H r d := by
  have e1 : (⟨(col H d).val / 128, by omega⟩ : Fin 256) = H := Fin.ext (show (H.val * 128 + d.val) / 128 = H.val by omega)
  have e2 : (⟨(col H d).val % 128, Nat.mod_lt _ (by decide)⟩ : Fin 128) = d := Fin.ext (show (H.val * 128 + d.val) % 128 = d.val by omega)
  unfold wide; rw [e1, e2]

theorem result_eq (A : Args) (r : Fin 512) (n : Fin 1024) : result A r n = ∑ s : Fin 32, share A s r n := by
  unfold result share
  rw [sum_cols, sum_heads]
  simp only [wide_col]

end Cert.KernelIdeal.Gen

end
-- ==== Proof.Algebraic.lean ====
/-
The two runs compared: every device ends with the attention of the whole arrays, and so does the reference.
-/
module

public import proofs.«01_k».proof.Proof.Frames
public import proofs.«01_k».proof.Proof.Value
public import Idealize.ShloMosaic.Lib.LayoutAt

@[expose] public section

noncomputable section

namespace Cert.KernelIdeal.Gen

open Idealize.ShloMosaic Idealize.ShloMosaic.TcCoe Idealize.SL.Sem Cert.Attn

section

variable (m : (ℓ : Loc nD τ sig) → Buf (Elt Ideal) ℓ) (ρ : Dev nD → PrngReg)

/-- Each array is one block, so reading the block reads the array. -/
theorem insOf_x (c : Dev nD) : (insOf m ρ).x c = m ((c.tc : Thread nD τ).loc main_arg0) := by
  have h := Memref.read_access_unit_zero (Elt Ideal) main_arg0 (off := fun a => (win0_0.index (0 : Fin 1)) a * main_arg0.ty.shape.size a)
    (funext fun a => by fin_cases a <;> decide) (fun a => by fin_cases a <;> decide) (m ((c.tc : Thread nD τ).loc main_arg0))
  exact h
theorem insOf_wq (c : Dev nD) : (insOf m ρ).wq c = m ((c.tc : Thread nD τ).loc main_arg1) := by
  have h := Memref.read_access_unit_zero (Elt Ideal) main_arg1 (off := fun a => (win0_1.index (0 : Fin 1)) a * main_arg1.ty.shape.size a)
    (funext fun a => by fin_cases a <;> decide) (fun a => by fin_cases a <;> decide) (m ((c.tc : Thread nD τ).loc main_arg1))
  exact h
theorem insOf_wo (c : Dev nD) : (insOf m ρ).wo c = m ((c.tc : Thread nD τ).loc main_arg2) := by
  have h := Memref.read_access_unit_zero (Elt Ideal) main_arg2 (off := fun a => (win0_2.index (0 : Fin 1)) a * main_arg2.ty.shape.size a)
    (funext fun a => by fin_cases a <;> decide) (fun a => by fin_cases a <;> decide) (m ((c.tc : Thread nD τ).loc main_arg2))
  exact h
theorem insOf_k (c : Dev nD) : (insOf m ρ).k c = m ((c.tc : Thread nD τ).loc main_arg3) := by
  have h := Memref.read_access_unit_zero (Elt Ideal) main_arg3 (off := fun a => (win0_3.index (0 : Fin 1)) a * main_arg3.ty.shape.size a)
    (funext fun a => by fin_cases a <;> decide) (fun a => by fin_cases a <;> decide) (m ((c.tc : Thread nD τ).loc main_arg3))
  exact h
theorem insOf_v (c : Dev nD) : (insOf m ρ).v c = m ((c.tc : Thread nD τ).loc main_arg4) := by
  have h := Memref.read_access_unit_zero (Elt Ideal) main_arg4 (off := fun a => (win0_4.index (0 : Fin 1)) a * main_arg4.ty.shape.size a)
    (funext fun a => by fin_cases a <;> decide) (fun a => by fin_cases a <;> decide) (m ((c.tc : Thread nD τ).loc main_arg4))
  exact h

theorem finalA_eq (c : Dev nD) : finalA m ρ c (5 : Fin 6) = OUT (insOf m ρ) c :=
  (Memref.read_access_unit_zero (Elt Ideal) main_v1 (off := fun a => (win0_5.index (0 : Fin 1)) a * main_v1.ty.shape.size a)
    (funext fun a => by fin_cases a <;> decide) (fun a => by fin_cases a <;> decide) _).symm.trans (finalA_out m ρ c)

end

/-! ## The blocks of the whole arrays -/

theorem block_wq (c : Fin 32) (X : FVec Ideal ⟨2, ![1024, 32768]⟩ .f32) (h : Layout.Tiles ⟨2, ![1024, 1024]⟩ ⟨2, ![1024, 32768]⟩ 1 32)
    (r p : Fin 1024) : Layout.block ⟨2, ![1024, 1024]⟩ ⟨2, ![1024, 32768]⟩ 1 32 c X h (ix2 r p) = X (ix2 r (gcol c p)) := by
  rw [Layout.block_apply]
  congr 1
  refine Shape.idx_ext₂ ?_ ?_
  · exact h.idx_val_of_ne c _ 0 (by decide)
  · refine (h.idx_val_self c _ 1 rfl).trans ?_
    show c.val * 1024 + p.val = 1024 * c.val + p.val; omega

theorem block_wo (c : Fin 32) (X : FVec Ideal ⟨2, ![32768, 1024]⟩ .f32) (h : Layout.Tiles ⟨2, ![1024, 1024]⟩ ⟨2, ![32768, 1024]⟩ 0 32)
    (p n : Fin 1024) : Layout.block ⟨2, ![1024, 1024]⟩ ⟨2, ![32768, 1024]⟩ 0 32 c X h (ix2 p n) = X (ix2 (gcol c p) n) := by
  rw [Layout.block_apply]
  congr 1
  refine Shape.idx_ext₂ ?_ ?_
  · refine (h.idx_val_self c _ 0 rfl).trans ?_
    show c.val * 1024 + p.val = 1024 * c.val + p.val; omega
  · exact h.idx_val_of_ne c _ 1 (by decide)

theorem block_kv (c : Fin 32) (X : FVec Ideal ⟨3, ![64, 2048, 128]⟩ .f32) (h : Layout.Tiles ⟨3, ![2, 2048, 128]⟩ ⟨3, ![64, 2048, 128]⟩ 0 32)
    (g : Fin 2) (t : Fin 2048) (d : Fin 128) :
    Layout.block ⟨3, ![2, 2048, 128]⟩ ⟨3, ![64, 2048, 128]⟩ 0 32 c X h (ix3 g t d) = X (ix3 (gkv c g) t d) := by
  rw [Layout.block_apply]
  congr 1
  funext a
  match a with
  | ⟨0, _⟩ =>
    refine Fin.ext ((h.idx_val_self c _ 0 rfl).trans ?_)
    show c.val * 2 + g.val = 2 * c.val + g.val; omega
  | ⟨1, _⟩ => exact Fin.ext (h.idx_val_of_ne c _ 1 (by decide))
  | ⟨2, _⟩ => exact Fin.ext (h.idx_val_of_ne c _ 2 (by decide))

/-! ## The claim -/

theorem algebraic : Cert.algebraic_KernelIdeal_ReferenceIdeal := by
  intro m ρ m' ρ' _ hagree
  refine ⟨Cert.ReferenceIdeal.Value.REF
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · have P : Parts (insOf m ρ) (Cert.ReferenceIdeal.Value.argsOf
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4))) :=
      ⟨fun c r p => congrFun ((insOf_x m ρ c).trans (hagree c).1) (ix2 r p),
        fun c r p => (congrFun ((insOf_wq m ρ c).trans (hagree c).2.1) (ix2 r p)).trans (block_wq c _ _ r p),
        fun c p n => (congrFun ((insOf_wo m ρ c).trans (hagree c).2.2.1) (ix2 p n)).trans (block_wo c _ _ p n),
        fun c g t d => (congrFun ((insOf_k m ρ c).trans (hagree c).2.2.2.1) (ix3 g t d)).trans (block_kv c _ _ g t d),
        fun c g t d => (congrFun ((insOf_v m ρ c).trans (hagree c).2.2.2.2) (ix3 g t d)).trans (block_kv c _ _ g t d)⟩
    refine (θ_run defs _ _).mono (fun _ h c => ⟨((h.1 c (5 : Fin 6)).trans (finalA_eq m ρ c)).trans ?_,
      (h.1 c (0 : Fin 6)).trans (finalA_in m ρ c 0 rfl), (h.1 c (1 : Fin 6)).trans (finalA_in m ρ c 1 rfl),
      (h.1 c (2 : Fin 6)).trans (finalA_in m ρ c 2 rfl), (h.1 c (3 : Fin 6)).trans (finalA_in m ρ c 3 rfl),
      (h.1 c (4 : Fin 6)).trans (finalA_in m ρ c 4 rfl)⟩) (run_main (F := Ideal) m ρ)
    funext i
    have hi : i = ix2 (n0 := 512) (n1 := 1024) (i 0) (i 1) := eq_ix2 i
    rw [hi]
    exact (OUT_apply P c (i 0) (i 1)).trans ((result_eq _ _ _).symm.trans (Cert.ReferenceIdeal.Value.REF_apply _ _ _ _ _ (i 0) (i 1)).symm)
  · exact (θ_run Cert.ReferenceIdeal.defs _ _).mono (fun _ h => h 0) (Cert.ReferenceIdeal.Value.run (F := Ideal) m' ρ')

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Gen.frame_bits, Cert.KernelIdeal.Gen.frame_ideal, Cert.KernelIdeal.Gen.frame_ref, trivial, Cert.KernelIdeal.Gen.algebraic⟩

end Cert.Proof

end
